-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v99)) (v2 : (c : Dev Cert.KernelIdeal.nD) → Buf (Elt Ideal) ((c.tc : Thread Cert.KernelIdeal.nD Cert.KernelIdeal.τ).loc Cert.KernelIdeal.main_v100)) (v3 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v99) = v1 c
          ∧ r.2.mem ((c.tc : Thread Cert.KernelIdeal.nD Cert.KernelIdeal.τ).loc Cert.KernelIdeal.main_v100) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)) (v1 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v2) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v48) = v0 c
          ∧ r.2.mem ((c.tc : Thread Cert.Reference7Ideal.nD Cert.Reference7Ideal.τ).loc Cert.Reference7Ideal.main_v49) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v27) = v1 c
          ∧ r.2.mem ((c.tc : Thread Cert.Reference9Ideal.nD Cert.Reference9Ideal.τ).loc Cert.Reference9Ideal.main_v28) = v2 c
          ∧ r.2.mem ((c.tc : Thread Cert.Reference9Ideal.nD Cert.Reference9Ideal.τ).loc Cert.Reference9Ideal.main_v29) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x512 : Shape := ⟨2, ![4096, 512]⟩
abbrev S8x4096 : Shape := ⟨2, ![8, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_arg4 : FVec F S4096x512 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x512 .f32) (main_arg1 : FVec F S4096x512 .f32) (main_arg2 : FVec F S4096x512 .f32) (main_arg3 : FVec F S8x4096 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S4096x512 : Shape := ⟨2, ![4096, 512]⟩
abbrev S8x4096 : Shape := ⟨2, ![8, 4096]⟩
abbrev S4096x8x64 : Shape := ⟨3, ![4096, 8, 64]⟩
abbrev S8x4096x64 : Shape := ⟨3, ![8, 4096, 64]⟩
abbrev S_ : Shape := ⟨0, ![]⟩
abbrev S4096x4096 : Shape := ⟨2, ![4096, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S1x4096x4096 : Shape := ⟨3, ![1, 4096, 4096]⟩
abbrev S8x4096x58 : Shape := ⟨3, ![8, 4096, 58]⟩
abbrev S8x4096x6 : Shape := ⟨3, ![8, 4096, 6]⟩
abbrev S8x4096x128 : Shape := ⟨3, ![8, 4096, 128]⟩
abbrev S8x8x512x128 : Shape := ⟨4, ![8, 8, 512, 128]⟩
abbrev S8x8x128x512 : Shape := ⟨4, ![8, 8, 128, 512]⟩
abbrev S8x512x4x128 : Shape := ⟨4, ![8, 512, 4, 128]⟩
abbrev S4x8x128x512 : Shape := ⟨4, ![4, 8, 128, 512]⟩
abbrev S4096x8x128 : Shape := ⟨3, ![4096, 8, 128]⟩
abbrev S4096x1024 : Shape := ⟨2, ![4096, 1024]⟩
abbrev S4x2x8x512 : Shape := ⟨4, ![4, 2, 8, 512]⟩
abbrev S4x8x2x512 : Shape := ⟨4, ![4, 8, 2, 512]⟩
abbrev S4x8x8x512 : Shape := ⟨4, ![4, 8, 8, 512]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S1x8x8x512 : Shape := ⟨4, ![1, 8, 8, 512]⟩
abbrev S1x8x128x512 : Shape := ⟨4, ![1, 8, 128, 512]⟩
abbrev S2x8x128x512 : Shape := ⟨4, ![2, 8, 128, 512]⟩
abbrev S128x512 : Shape := ⟨2, ![128, 512]⟩
abbrev S2x128x512 : Shape := ⟨3, ![2, 128, 512]⟩
abbrev S2x4x512x512 : Shape := ⟨4, ![2, 4, 512, 512]⟩
abbrev S2x512x512 : Shape := ⟨3, ![2, 512, 512]⟩
abbrev S512x512 : Shape := ⟨2, ![512, 512]⟩
abbrev S1x1x512x512 : Shape := ⟨4, ![1, 1, 512, 512]⟩
abbrev S1x1x8x512 : Shape := ⟨4, ![1, 1, 8, 512]⟩
abbrev S8x512 : Shape := ⟨2, ![8, 512]⟩
abbrev S1x512 : Shape := ⟨2, ![1, 512]⟩
abbrev S1x512x512 : Shape := ⟨3, ![1, 512, 512]⟩
abbrev S64x512 : Shape := ⟨2, ![64, 512]⟩
abbrev S1x1x64x512 : Shape := ⟨4, ![1, 1, 64, 512]⟩
abbrev S1x128x512 : Shape := ⟨3, ![1, 128, 512]⟩
abbrev S1x1x128x512 : Shape := ⟨4, ![1, 1, 128, 512]⟩

abbrev nBuf : Space → Nat
  | .hbm => 140
  | .vmem => 27
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S8x4096, .f32⟩
  | 4 => ⟨S4096x512, .f32⟩
  | 5 => ⟨S4096x8x64, .f32⟩
  | 6 => ⟨S8x4096x64, .f32⟩
  | 7 => ⟨S4096x8x64, .f32⟩
  | 8 => ⟨S8x4096x64, .f32⟩
  | 9 => ⟨S4096x8x64, .f32⟩
  | 10 => ⟨S8x4096x64, .f32⟩
  | 11 => ⟨S4096x8x64, .f32⟩
  | 12 => ⟨S8x4096x64, .f32⟩
  | 13 => ⟨S_, .i1⟩
  | 14 => ⟨S4096x4096, .i1⟩
  | 15 => ⟨S4096x4096, .i32⟩
  | 16 => ⟨S_, .i32⟩
  | 17 => ⟨S4096x4096, .i32⟩
  | 18 => ⟨S4096x4096, .i32⟩
  | 19 => ⟨S4096x4096, .i32⟩
  | 20 => ⟨S4096x4096, .i1⟩
  | 21 => ⟨S_, .i1⟩
  | 22 => ⟨S4096x4096, .i1⟩
  | 23 => ⟨S4096x4096, .i1⟩
  | 24 => ⟨S8x4096x4096, .f32⟩
  | 25 => ⟨S_, .f32⟩
  | 26 => ⟨S8x4096x4096, .f32⟩
  | 27 => ⟨S8x4096x4096, .f32⟩
  | 28 => ⟨S8x4096x1, .f32⟩
  | 29 => ⟨S8x4096x4096, .f32⟩
  | 30 => ⟨S8x4096x4096, .f32⟩
  | 31 => ⟨S8x1x4096, .f32⟩
  | 32 => ⟨S8x4096x4096, .f32⟩
  | 33 => ⟨S8x4096x4096, .f32⟩
  | 34 => ⟨S1x4096x4096, .i1⟩
  | 35 => ⟨S_, .f32⟩
  | 36 => ⟨S_, .f32⟩
  | 37 => ⟨S8x4096x4096, .i1⟩
  | 38 => ⟨S8x4096x4096, .f32⟩
  | 39 => ⟨S8x4096x4096, .f32⟩
  | 40 => ⟨S_, .f32⟩
  | 41 => ⟨S8x4096, .f32⟩
  | 42 => ⟨S8x4096x1, .f32⟩
  | 43 => ⟨S8x4096x4096, .f32⟩
  | 44 => ⟨S8x4096x4096, .f32⟩
  | 45 => ⟨S8x4096x4096, .f32⟩
  | 46 => ⟨S_, .f32⟩
  | 47 => ⟨S8x4096, .f32⟩
  | 48 => ⟨S8x4096, .f32⟩
  | 49 => ⟨S8x4096, .f32⟩
  | 50 => ⟨S8x4096x1, .f32⟩
  | 51 => ⟨S8x4096x4096, .f32⟩
  | 52 => ⟨S8x4096x4096, .f32⟩
  | 53 => ⟨S8x4096x64, .f32⟩
  | 54 => ⟨S8x4096x64, .f32⟩
  | 55 => ⟨S_, .f32⟩
  | 56 => ⟨S8x4096, .f32⟩
  | 57 => ⟨S8x4096, .bf16⟩
  | 58 => ⟨S8x4096, .f32⟩
  | 59 => ⟨S8x4096, .f32⟩
  | 60 => ⟨S8x4096, .bf16⟩
  | 61 => ⟨S8x4096, .f32⟩
  | 62 => ⟨S8x4096, .f32⟩
  | 63 => ⟨S8x4096, .f32⟩
  | 64 => ⟨S8x4096, .bf16⟩
  | 65 => ⟨S8x4096, .f32⟩
  | 66 => ⟨S_, .f32⟩
  | 67 => ⟨S8x4096, .f32⟩
  | 68 => ⟨S_, .f32⟩
  | 69 => ⟨S8x4096x58, .f32⟩
  | 70 => ⟨S_, .f32⟩
  | 71 => ⟨S8x4096x64, .f32⟩
  | 72 => ⟨S8x4096x64, .f32⟩
  | 73 => ⟨S8x4096x1, .f32⟩
  | 74 => ⟨S8x4096x1, .f32⟩
  | 75 => ⟨S8x4096x1, .f32⟩
  | 76 => ⟨S8x4096x1, .f32⟩
  | 77 => ⟨S8x4096x1, .f32⟩
  | 78 => ⟨S8x4096x1, .f32⟩
  | 79 => ⟨S8x4096x6, .f32⟩
  | 80 => ⟨S8x4096x128, .f32⟩
  | 81 => ⟨S8x4096, .f32⟩
  | 82 => ⟨S8x4096, .f32⟩
  | 83 => ⟨S8x4096, .f32⟩
  | 84 => ⟨S8x4096x1, .f32⟩
  | 85 => ⟨S8x4096x1, .f32⟩
  | 86 => ⟨S8x4096x1, .f32⟩
  | 87 => ⟨S8x4096x1, .f32⟩
  | 88 => ⟨S8x4096x1, .f32⟩
  | 89 => ⟨S8x4096x1, .f32⟩
  | 90 => ⟨S8x4096x6, .f32⟩
  | 91 => ⟨S8x4096x128, .f32⟩
  | 92 => ⟨S8x8x512x128, .f32⟩
  | 93 => ⟨S8x8x128x512, .f32⟩
  | 94 => ⟨S8x8x128x512, .bf16⟩
  | 95 => ⟨S8x512x4x128, .f32⟩
  | 96 => ⟨S4x8x128x512, .f32⟩
  | 97 => ⟨S4x8x128x512, .bf16⟩
  | 98 => ⟨S_, .i32⟩
  | 99 => ⟨S_, .f32⟩
  | 100 => ⟨S4096x4096, .f32⟩
  | 101 => ⟨S4096x8x128, .f32⟩
  | 102 => ⟨S4096x1024, .f32⟩
  | 103 => ⟨S4096x1024, .bf16⟩
  | 104 => ⟨S4096x8x128, .f32⟩
  | 105 => ⟨S4096x1024, .f32⟩
  | 106 => ⟨S4096x1024, .bf16⟩
  | 107 => ⟨S4096x512, .bf16⟩
  | 108 => ⟨S4x2x8x512, .f32⟩
  | 109 => ⟨S4x8x2x512, .f32⟩
  | 110 => ⟨S_, .i32⟩
  | 111 => ⟨S_, .f32⟩
  | 112 => ⟨S4x8x8x512, .f32⟩
  | 113 => ⟨S4x2x8x512, .f32⟩
  | 114 => ⟨S4x8x2x512, .f32⟩
  | 115 => ⟨S_, .i32⟩
  | 116 => ⟨S_, .f32⟩
  | 117 => ⟨S4x8x8x512, .f32⟩
  | 118 => ⟨S8x8x128x512, .f32⟩
  | 119 => ⟨S4096x1024, .f32⟩
  | 120 => ⟨S4096x512, .bf16⟩
  | 121 => ⟨S8x8x512x128, .f32⟩
  | 122 => ⟨S8x4096x128, .f32⟩
  | 123 => ⟨S4096x8x128, .f32⟩
  | 124 => ⟨S8x4096x128, .f32⟩
  | 125 => ⟨S8x4096x64, .f32⟩
  | 126 => ⟨S4096x8x64, .f32⟩
  | 127 => ⟨S4096x512, .f32⟩
  | _ => ⟨S4096x512, .f32⟩

abbrev hbmTy0_1 (i : Nat) : BufTy := match i % 128 with
  | 0 => ⟨S_, .f32⟩
  | 1 => ⟨S4096x512, .f32⟩
  | 2 => ⟨S4096x512, .f32⟩
  | 3 => ⟨S8x4096x64, .f32⟩
  | 4 => ⟨S4096x8x64, .f32⟩
  | 5 => ⟨S4096x512, .f32⟩
  | 6 => ⟨S4096x512, .f32⟩
  | 7 => ⟨S8x4096x1, .f32⟩
  | 8 => ⟨S8x4096, .f32⟩
  | 9 => ⟨S8x4096x1, .f32⟩
  | 10 => ⟨S8x4096, .f32⟩
  | 11 => ⟨S8x4096, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .f32⟩
  | .local _ .vmem, ⟨5, _⟩ => ⟨S512x128, .f32⟩
  | .local _ .vmem, ⟨6, _⟩ => ⟨S4096x128, .bf16⟩
  | .local _ .vmem, ⟨7, _⟩ => ⟨S4096x128, .bf16⟩
  | .local _ .vmem, ⟨8, _⟩ => ⟨S1x8x8x512, .f32⟩
  | .local _ .vmem, ⟨9, _⟩ => ⟨S1x8x8x512, .f32⟩
  | .local _ .vmem, ⟨10, _⟩ => ⟨S1x8x8x512, .f32⟩
  | .local _ .vmem, ⟨11, _⟩ => ⟨S1x8x8x512, .f32⟩
  | .local _ .vmem, ⟨12, _⟩ => ⟨S1x8x128x512, .bf16⟩
  | .local _ .vmem, ⟨13, _⟩ => ⟨S1x8x128x512, .bf16⟩
  | .local _ .vmem, ⟨14, _⟩ => ⟨S2x8x128x512, .bf16⟩
  | .local _ .vmem, ⟨15, _⟩ => ⟨S2x8x128x512, .bf16⟩
  | .local _ .vmem, ⟨16, _⟩ => ⟨S2x8x128x512, .f32⟩
  | .local _ .vmem, ⟨17, _⟩ => ⟨S2x8x128x512, .f32⟩
  | .local _ .vmem, ⟨18, _⟩ => ⟨S512x256, .f32⟩
  | .local _ .vmem, ⟨19, _⟩ => ⟨S512x256, .f32⟩
  | .local _ .vmem, ⟨20, _⟩ => ⟨S512x128, .bf16⟩
  | .local _ .vmem, ⟨21, _⟩ => ⟨S512x128, .bf16⟩
  | .local _ .vmem, ⟨22, _⟩ => ⟨S128x512, .f32⟩
  | .local _ .vmem, ⟨23, _⟩ => ⟨S2x128x512, .f32⟩
  | .local _ .vmem, ⟨24, _⟩ => ⟨S2x4x512x512, .f32⟩
  | .local _ .vmem, ⟨25, _⟩ => ⟨S2x512x512, .bf16⟩
  | .local _ .vmem, ⟨26, _⟩ => ⟨S2x512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_3 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_7 : Ref sig .tc := ⟨.hbm, 98, rfl⟩
abbrev main_call2_v0 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_8 : Ref sig .tc := ⟨.hbm, 110, rfl⟩
abbrev main_call3_v0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_9 : Ref sig .tc := ⟨.hbm, 115, rfl⟩
abbrev main_call4_v0 : Ref sig .tc := ⟨.hbm, 116, rfl⟩
abbrev main_v86 : Ref sig .tc := ⟨.hbm, 117, rfl⟩
abbrev main_v87_0 : Ref sig .tc := ⟨.hbm, 118, rfl⟩
abbrev main_v87_1 : Ref sig .tc := ⟨.hbm, 119, rfl⟩
abbrev main_v87_2 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_10 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_17 : BitVec 32 := 512#32
  let v45 : BitVec 32 := Scalar.muli v17 c512_i32_17
  v45
def k0_off1 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_17 : BitVec 32 := 512#32
  let v45 : BitVec 32 := Scalar.muli v17 c512_i32_17
  let v46 : BitVec 32 := v45
  let v47 : Index := Scalar.indexCast v46
  let c0_18 : Index := 0#32
  ![v47.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_17 : BitVec 32 := 512#32
  let v45 : BitVec 32 := Scalar.muli v17 c512_i32_17
  let v46 : BitVec 32 := v45
  let v50 : Index := Scalar.indexCast v46
  let c0_19 : Index := 0#32
  ![v50.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_39 : BitVec 32 := 1#32
  let v75 : BitVec 32 := Scalar.addi v17 c1_i32_39
  let c7_i32 : BitVec 32 := 7#32
  let v76 : BitVec 32 := Scalar.minsi v75 c7_i32
  let c512_i32_40 : BitVec 32 := 512#32
  let v77 : BitVec 32 := Scalar.muli v76 c512_i32_40
  v77
def k0_off3 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_39 : BitVec 32 := 1#32
  let v75 : BitVec 32 := Scalar.addi v17 c1_i32_39
  let c7_i32 : BitVec 32 := 7#32
  let v76 : BitVec 32 := Scalar.minsi v75 c7_i32
  let c512_i32_40 : BitVec 32 := 512#32
  let v77 : BitVec 32 := Scalar.muli v76 c512_i32_40
  let v78 : BitVec 32 := v77
  let v79 : Index := Scalar.indexCast v78
  let c0_41 : Index := 0#32
  ![v79.toNat, 0]
def k0_off4 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_39 : BitVec 32 := 1#32
  let v75 : BitVec 32 := Scalar.addi v17 c1_i32_39
  let c7_i32 : BitVec 32 := 7#32
  let v76 : BitVec 32 := Scalar.minsi v75 c7_i32
  let c512_i32_40 : BitVec 32 := 512#32
  let v77 : BitVec 32 := Scalar.muli v76 c512_i32_40
  let v78 : BitVec 32 := v77
  let v82 : Index := Scalar.indexCast v78
  let c0_42 : Index := 0#32
  ![v82.toNat, 0]
def k0_off5 (i : grid0.Coords) : Fin 4 → Nat :=
  let c0_65 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v107 : Index := Scalar.indexCast v17
  let c0_66 : Index := 0#32
  let c0_67 : Index := 0#32
  ![0, v107.toNat, 0, 0]
@[reducible] def k0_t1_loop (i : grid0.Coords) : Scf.Loop 32 :=
  let c0_i32_113 : BitVec 32 := 0#32
  let c7_i32_105 : BitVec 32 := 7#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_115 : BitVec 32 := 1#32
  ⟨c0_i32_113, v195, c1_i32_115⟩
def k0_mult3 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_213 : BitVec 32 := 1#32
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_215 : BitVec 32 := 1#32
  let v284 : BitVec 32 := Scalar.addi v283 c1_i32_215
  let c7_i32_216 : BitVec 32 := 7#32
  let v285 : BitVec 32 := Scalar.minsi v284 c7_i32_216
  let c512_i32_217 : BitVec 32 := 512#32
  let v286 : BitVec 32 := Scalar.muli v285 c512_i32_217
  v286
def k0_off6 (i : grid0.Coords) (k0_t1 : Fin (k0_t1_loop i).trips) (c1_i32_213 : BitVec 32) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_215 : BitVec 32 := 1#32
  let v284 : BitVec 32 := Scalar.addi v283 c1_i32_215
  let c7_i32_216 : BitVec 32 := 7#32
  let v285 : BitVec 32 := Scalar.minsi v284 c7_i32_216
  let c512_i32_217 : BitVec 32 := 512#32
  let v286 : BitVec 32 := Scalar.muli v285 c512_i32_217
  let v287 : BitVec 32 := v286
  let v288 : Index := Scalar.indexCast v287
  let c0_218 : Index := 0#32
  ![v288.toNat, 0]
def k0_off7 (i : grid0.Coords) (k0_t1 : Fin (k0_t1_loop i).trips) (c1_i32_213 : BitVec 32) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_215 : BitVec 32 := 1#32
  let v284 : BitVec 32 := Scalar.addi v283 c1_i32_215
  let c7_i32_216 : BitVec 32 := 7#32
  let v285 : BitVec 32 := Scalar.minsi v284 c7_i32_216
  let c512_i32_217 : BitVec 32 := 512#32
  let v286 : BitVec 32 := Scalar.muli v285 c512_i32_217
  let v287 : BitVec 32 := v286
  let v291 : Index := Scalar.indexCast v287
  let c0_219 : Index := 0#32
  ![v291.toNat, 0]
def k0_off8 (i : grid0.Coords) (k0_t1 : Fin (k0_t1_loop i).trips) (c1_i32_213 : BitVec 32) : Fin 4 → Nat :=
  let c0_245 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_242 : BitVec 32 := 1#32
  let v316 : BitVec 32 := Scalar.subi v283 c1_i32_242
  let v318 : Index := Scalar.indexCast v316
  let c0_246 : Index := 0#32
  let c0_247 : Index := 0#32
  ![0, v318.toNat, 0, 0]
def k0_off9 (i : grid0.Coords) (k0_t1 : Fin (k0_t1_loop i).trips) (c1_i32_213 : BitVec 32) : Fin 4 → Nat :=
  let c0_257 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_242 : BitVec 32 := 1#32
  let v316 : BitVec 32 := Scalar.subi v283 c1_i32_242
  let v330 : Index := Scalar.indexCast v316
  let c0_258 : Index := 0#32
  let c0_259 : Index := 0#32
  ![0, v330.toNat, 0, 0]
def k0_off10 (i : grid0.Coords) (k0_t1 : Fin (k0_t1_loop i).trips) (c1_i32_213 : BitVec 32) : Fin 4 → Nat :=
  let c0_279 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_242 : BitVec 32 := 1#32
  let v316 : BitVec 32 := Scalar.subi v283 c1_i32_242
  let v352 : Index := Scalar.indexCast v316
  let c64_280 : Index := 64#32
  let c0_281 : Index := 0#32
  ![0, v352.toNat, 64, 0]
def k0_off11 (i : grid0.Coords) (k0_t1 : Fin (k0_t1_loop i).trips) (c1_i32_213 : BitVec 32) : Fin 4 → Nat :=
  let c1_291 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let c1_i32_242 : BitVec 32 := 1#32
  let v316 : BitVec 32 := Scalar.subi v283 c1_i32_242
  let v364 : Index := Scalar.indexCast v316
  let c0_292 : Index := 0#32
  let c0_293 : Index := 0#32
  ![1, v364.toNat, 0, 0]
def k0_off12 (i : grid0.Coords) (k0_t1 : Fin (k0_t1_loop i).trips) (c1_i32_213 : BitVec 32) : Fin 4 → Nat :=
  let c0_311 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c1_i32_115 : BitVec 32 := 1#32
  let arg18 : BitVec 32 := Scf.iv c0_i32_113 c1_i32_115 k0_t1
  let v282 : BitVec 32 := Scalar.muli c2_i32_214 arg18
  let v283 : BitVec 32 := Scalar.addi v281 v282
  let v385 : Index := Scalar.indexCast v283
  let c0_312 : Index := 0#32
  let c0_313 : Index := 0#32
  ![0, v385.toNat, 0, 0]
def k0_mult4 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c2_i32_345 : BitVec 32 := 2#32
  let v431 : BitVec 32 := Scalar.addi v17 c2_i32_345
  let c2_i32_346 : BitVec 32 := 2#32
  let c0_i32_113 : BitVec 32 := 0#32
  let c1_i32_115 : BitVec 32 := 1#32
  let arg18 : BitVec 32 := Scf.iv c0_i32_113 c1_i32_115 k0_t1
  let v432 : BitVec 32 := Scalar.muli c2_i32_346 arg18
  let v433 : BitVec 32 := Scalar.addi v431 v432
  let c1_i32_347 : BitVec 32 := 1#32
  let v434 : BitVec 32 := Scalar.addi v433 c1_i32_347
  let c7_i32_348 : BitVec 32 := 7#32
  let v435 : BitVec 32 := Scalar.minsi v434 c7_i32_348
  let c512_i32_349 : BitVec 32 := 512#32
  let v436 : BitVec 32 := Scalar.muli v435 c512_i32_349
  v436
@[reducible] def k0_t2_loop (i : grid0.Coords) : Scf.Loop 32 :=
  let c0_i32_113 : BitVec 32 := 0#32
  let c7_i32_105 : BitVec 32 := 7#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let v192 : BitVec 32 := Scalar.addi c0_i32_113 v191
  let c1_i32_116 : BitVec 32 := 1#32
  ⟨v195, v192, c1_i32_116⟩
def k0_mult5 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_213 : BitVec 32 := 1#32
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_215 : BitVec 32 := 1#32
  let v284 : BitVec 32 := Scalar.addi v283 c1_i32_215
  let c7_i32_216 : BitVec 32 := 7#32
  let v285 : BitVec 32 := Scalar.minsi v284 c7_i32_216
  let c512_i32_217 : BitVec 32 := 512#32
  let v286 : BitVec 32 := Scalar.muli v285 c512_i32_217
  v286
def k0_off13 (i : grid0.Coords) (k0_t2 : Fin (k0_t2_loop i).trips) (c1_i32_213 : BitVec 32) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_215 : BitVec 32 := 1#32
  let v284 : BitVec 32 := Scalar.addi v283 c1_i32_215
  let c7_i32_216 : BitVec 32 := 7#32
  let v285 : BitVec 32 := Scalar.minsi v284 c7_i32_216
  let c512_i32_217 : BitVec 32 := 512#32
  let v286 : BitVec 32 := Scalar.muli v285 c512_i32_217
  let v287 : BitVec 32 := v286
  let v288 : Index := Scalar.indexCast v287
  let c0_218 : Index := 0#32
  ![v288.toNat, 0]
def k0_off14 (i : grid0.Coords) (k0_t2 : Fin (k0_t2_loop i).trips) (c1_i32_213 : BitVec 32) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_215 : BitVec 32 := 1#32
  let v284 : BitVec 32 := Scalar.addi v283 c1_i32_215
  let c7_i32_216 : BitVec 32 := 7#32
  let v285 : BitVec 32 := Scalar.minsi v284 c7_i32_216
  let c512_i32_217 : BitVec 32 := 512#32
  let v286 : BitVec 32 := Scalar.muli v285 c512_i32_217
  let v287 : BitVec 32 := v286
  let v291 : Index := Scalar.indexCast v287
  let c0_219 : Index := 0#32
  ![v291.toNat, 0]
def k0_off15 (i : grid0.Coords) (k0_t2 : Fin (k0_t2_loop i).trips) (c1_i32_213 : BitVec 32) : Fin 4 → Nat :=
  let c0_245 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_242 : BitVec 32 := 1#32
  let v316 : BitVec 32 := Scalar.subi v283 c1_i32_242
  let v318 : Index := Scalar.indexCast v316
  let c0_246 : Index := 0#32
  let c0_247 : Index := 0#32
  ![0, v318.toNat, 0, 0]
def k0_off16 (i : grid0.Coords) (k0_t2 : Fin (k0_t2_loop i).trips) (c1_i32_213 : BitVec 32) : Fin 4 → Nat :=
  let c0_257 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_242 : BitVec 32 := 1#32
  let v316 : BitVec 32 := Scalar.subi v283 c1_i32_242
  let v330 : Index := Scalar.indexCast v316
  let c0_258 : Index := 0#32
  let c0_259 : Index := 0#32
  ![0, v330.toNat, 0, 0]
def k0_off17 (i : grid0.Coords) (k0_t2 : Fin (k0_t2_loop i).trips) (c1_i32_213 : BitVec 32) : Fin 4 → Nat :=
  let c0_279 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_242 : BitVec 32 := 1#32
  let v316 : BitVec 32 := Scalar.subi v283 c1_i32_242
  let v352 : Index := Scalar.indexCast v316
  let c64_280 : Index := 64#32
  let c0_281 : Index := 0#32
  ![0, v352.toNat, 64, 0]
def k0_off18 (i : grid0.Coords) (k0_t2 : Fin (k0_t2_loop i).trips) (c1_i32_213 : BitVec 32) : Fin 4 → Nat :=
  let c1_291 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let c1_i32_242 : BitVec 32 := 1#32
  let v316 : BitVec 32 := Scalar.subi v283 c1_i32_242
  let v364 : Index := Scalar.indexCast v316
  let c0_292 : Index := 0#32
  let c0_293 : Index := 0#32
  ![1, v364.toNat, 0, 0]
def k0_off19 (i : grid0.Coords) (k0_t2 : Fin (k0_t2_loop i).trips) (c1_i32_213 : BitVec 32) : Fin 4 → Nat :=
  let c0_311 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v281 : BitVec 32 := Scalar.addi v17 c1_i32_213
  let c2_i32_214 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v282 : BitVec 32 := Scalar.muli c2_i32_214 arg18
  let v283 : BitVec 32 := Scalar.addi v281 v282
  let v385 : Index := Scalar.indexCast v283
  let c0_312 : Index := 0#32
  let c0_313 : Index := 0#32
  ![0, v385.toNat, 0, 0]
def k0_mult6 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c2_i32_345 : BitVec 32 := 2#32
  let v431 : BitVec 32 := Scalar.addi v17 c2_i32_345
  let c2_i32_346 : BitVec 32 := 2#32
  let c0_i32_113 : BitVec 32 := 0#32
  let c7_i32_105 : BitVec 32 := 7#32
  let v173 : BitVec 32 := Scalar.subi c7_i32_105 v17
  let c0_i32_106 : BitVec 32 := 0#32
  let v175 : BitVec 1 := Scalar.cmpi .sgt v173 c0_i32_106
  let v176 : BitVec 32 := Scalar.extui v175
  let c0_i32_107 : BitVec 32 := 0#32
  let v177 : BitVec 1 := Scalar.cmpi .slt v173 c0_i32_107
  let v178 : BitVec 32 := Scalar.extui v177
  let v179 : BitVec 32 := Scalar.subi v176 v178
  let c2_i32 : BitVec 32 := 2#32
  let c0_i32_108 : BitVec 32 := 0#32
  let v180 : BitVec 1 := Scalar.cmpi .sgt c2_i32 c0_i32_108
  let v181 : BitVec 32 := Scalar.extui v180
  let c0_i32_109 : BitVec 32 := 0#32
  let v182 : BitVec 1 := Scalar.cmpi .slt c2_i32 c0_i32_109
  let v183 : BitVec 32 := Scalar.extui v182
  let v184 : BitVec 32 := Scalar.subi v181 v183
  let v185 : BitVec 1 := Scalar.cmpi .ne v179 v184
  let v186 : BitVec 32 := Scalar.remsi v173 c2_i32
  let c0_i32_110 : BitVec 32 := 0#32
  let v187 : BitVec 1 := Scalar.cmpi .ne v186 c0_i32_110
  let v188 : BitVec 1 := Scalar.andi v185 v187
  let v174 : BitVec 32 := Scalar.divsi v173 c2_i32
  let c1_i32_111 : BitVec 32 := 1#32
  let v189 : BitVec 32 := Scalar.subi v174 c1_i32_111
  let v190 : BitVec 32 := Scalar.select v188 v189 v174
  let v191 : BitVec 32 := Scalar.subi v190 c0_i32_113
  let c1_i32_114 : BitVec 32 := 1#32
  let v193 : BitVec 32 := Scalar.divsi v191 c1_i32_114
  let v194 : BitVec 32 := Scalar.muli v193 c1_i32_114
  let v195 : BitVec 32 := Scalar.addi c0_i32_113 v194
  let c1_i32_116 : BitVec 32 := 1#32
  let arg18 : BitVec 32 := Scf.iv v195 c1_i32_116 k0_t2
  let v432 : BitVec 32 := Scalar.muli c2_i32_346 arg18
  let v433 : BitVec 32 := Scalar.addi v431 v432
  let c1_i32_347 : BitVec 32 := 1#32
  let v434 : BitVec 32 := Scalar.addi v433 c1_i32_347
  let c7_i32_348 : BitVec 32 := 7#32
  let v435 : BitVec 32 := Scalar.minsi v434 c7_i32_348
  let c512_i32_349 : BitVec 32 := 512#32
  let v436 : BitVec 32 := Scalar.muli v435 c512_i32_349
  v436
def k0_cond2 (i : grid0.Coords) : BitVec 1 :=
  let c7_i32_105 : BitVec 32 := 7#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v173 : BitVec 32 := Scalar.subi c7_i32_105 v17
  let c2_i32_117 : BitVec 32 := 2#32
  let c0_i32_118 : BitVec 32 := 0#32
  let v196 : BitVec 1 := Scalar.cmpi .eq c2_i32_117 c0_i32_118
  let c1_i32_119 : BitVec 32 := 1#32
  let v197 : BitVec 32 := Scalar.select v196 c1_i32_119 c2_i32_117
  let v198 : BitVec 32 := Scalar.remsi v173 v197
  let c0_i32_121 : BitVec 32 := 0#32
  let v200 : BitVec 1 := Scalar.cmpi .slt v198 c0_i32_121
  let c0_i32_122 : BitVec 32 := 0#32
  let v201 : BitVec 1 := Scalar.cmpi .slt v197 c0_i32_122
  let v202 : BitVec 1 := Scalar.xori v200 v201
  let c0_i32_120 : BitVec 32 := 0#32
  let v199 : BitVec 1 := Scalar.cmpi .ne v198 c0_i32_120
  let v203 : BitVec 1 := Scalar.andi v202 v199
  let v204 : BitVec 32 := Scalar.addi v198 v197
  let v205 : BitVec 32 := Scalar.select v203 v204 v198
  let c1_i32_123 : BitVec 32 := 1#32
  let v206 : BitVec 1 := Scalar.cmpi .eq v205 c1_i32_123
  let v207 : BitVec 32 := Scalar.extui v206
  let c0_i32_124 : BitVec 32 := 0#32
  let v208 : BitVec 1 := Scalar.cmpi .ne v207 c0_i32_124
  v208

def k0_mult7 : BitVec 32 :=
  let c8_i32 : BitVec 32 := 8#32
  let c7_i32_213 : BitVec 32 := 7#32
  let v281 : BitVec 32 := Scalar.minsi c8_i32 c7_i32_213
  let c512_i32_214 : BitVec 32 := 512#32
  let v282 : BitVec 32 := Scalar.muli v281 c512_i32_214
  v282
def k0_off20 : Fin 2 → Nat :=
  let c8_i32 : BitVec 32 := 8#32
  let c7_i32_213 : BitVec 32 := 7#32
  let v281 : BitVec 32 := Scalar.minsi c8_i32 c7_i32_213
  let c512_i32_214 : BitVec 32 := 512#32
  let v282 : BitVec 32 := Scalar.muli v281 c512_i32_214
  let v283 : BitVec 32 := v282
  let v284 : Index := Scalar.indexCast v283
  let c0_215 : Index := 0#32
  ![v284.toNat, 0]
def k0_off21 : Fin 2 → Nat :=
  let c8_i32 : BitVec 32 := 8#32
  let c7_i32_213 : BitVec 32 := 7#32
  let v281 : BitVec 32 := Scalar.minsi c8_i32 c7_i32_213
  let c512_i32_214 : BitVec 32 := 512#32
  let v282 : BitVec 32 := Scalar.muli v281 c512_i32_214
  let v283 : BitVec 32 := v282
  let v287 : Index := Scalar.indexCast v283
  let c0_216 : Index := 0#32
  ![v287.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x8x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x8x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4096x512 : Shape := ⟨2, ![4096, 512]⟩
abbrev S8x4096 : Shape := ⟨2, ![8, 4096]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S4096x4096 : Shape := ⟨2, ![4096, 4096]⟩
abbrev S1x4096x4096 : Shape := ⟨3, ![1, 4096, 4096]⟩
abbrev S8x64x4096 : Shape := ⟨3, ![8, 64, 4096]⟩

abbrev nBuf : Space → Nat
  | .hbm => 126
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S8x4096, .f32⟩
  | .hbm, ⟨4, _⟩ => ⟨S4096x512, .f32⟩
  | .hbm, ⟨5, _⟩ => ⟨S4096x8x64, .f32⟩
  | .hbm, ⟨6, _⟩ => ⟨S8x4096x64, .f32⟩
  | .hbm, ⟨7, _⟩ => ⟨S4096x8x64, .f32⟩
  | .hbm, ⟨8, _⟩ => ⟨S8x4096x64, .f32⟩
  | .hbm, ⟨9, _⟩ => ⟨S4096x8x64, .f32⟩
  | .hbm, ⟨10, _⟩ => ⟨S8x4096x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x1, .f32⟩
  | .hbm, ⟨16, _⟩ => ⟨S8x4096x4096, .f32⟩
  | .hbm, ⟨17, _⟩ => ⟨S8x4096x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S_, .i1⟩
  | .hbm, ⟨22, _⟩ => ⟨S4096x4096, .i1⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .i1⟩
  | .hbm, ⟨30, _⟩ => ⟨S4096x4096, .i1⟩
  | .hbm, ⟨31, _⟩ => ⟨S4096x4096, .i1⟩
  | .hbm, ⟨32, _⟩ => ⟨S1x4096x4096, .i1⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .i1⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S_, .f32⟩
  | .hbm, ⟨49, _⟩ => ⟨S8x4096, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .i1⟩
  | .hbm, ⟨54, _⟩ => ⟨S_, .f32⟩
  | .hbm, ⟨55, _⟩ => ⟨S8x4096, .f32⟩
  | .hbm, ⟨56, _⟩ => ⟨S8x4096, .i1⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S_, .f32⟩
  | .hbm, ⟨62, _⟩ => ⟨S8x4096, .f32⟩
  | .hbm, ⟨63, _⟩ => ⟨S8x4096, .f32⟩
  | .hbm, ⟨64, _⟩ => ⟨S8x4096, .f32⟩
  | .hbm, ⟨65, _⟩ => ⟨S8x4096x1, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x64, .f32⟩
  | .hbm, ⟨79, _⟩ => ⟨S4096x8x64, .f32⟩
  | .hbm, ⟨80, _⟩ => ⟨S4096x512, .f32⟩
  | .hbm, ⟨81, _⟩ => ⟨S4096x8x64, .f32⟩
  | .hbm, ⟨82, _⟩ => ⟨S8x4096x64, .f32⟩
  | .hbm, ⟨83, _⟩ => ⟨S8x64x4096, .f32⟩
  | .hbm, ⟨84, _⟩ => ⟨S8x4096x64, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096, .f32⟩
  | .hbm, ⟨91, _⟩ => ⟨S8x4096x1, .f32⟩
  | .hbm, ⟨92, _⟩ => ⟨S8x4096x1, .f32⟩
  | .hbm, ⟨93, _⟩ => ⟨S8x4096x4096, .f32⟩
  | .hbm, ⟨94, _⟩ => ⟨S8x4096x4096, .f32⟩
  | .hbm, ⟨95, _⟩ => ⟨S_, .f32⟩
  | .hbm, ⟨96, _⟩ => ⟨S8x4096, .f32⟩
  | .hbm, ⟨97, _⟩ => ⟨S8x4096x4096, .f32⟩
  | .hbm, ⟨98, _⟩ => ⟨S8x4096x4096, .f32⟩
  | .hbm, ⟨99, _⟩ => ⟨S8x4096x4096, .f32⟩
  | .hbm, ⟨100, _⟩ => ⟨S_, .f32⟩
  | .hbm, ⟨101, _⟩ => ⟨S8x4096x4096, .f32⟩
  | .hbm, ⟨102, _⟩ => ⟨S8x4096x4096, .f32⟩
  | .hbm, ⟨103, _⟩ => ⟨S8x4096x4096, .f32⟩
  | .hbm, ⟨104, _⟩ => ⟨S_, .f32⟩
  | .hbm, ⟨105, _⟩ => ⟨S8x4096, .f32⟩
  | .hbm, ⟨106, _⟩ => ⟨S8x1x4096, .f32⟩
  | .hbm, ⟨107, _⟩ => ⟨S_, .f32⟩
  | .hbm, ⟨108, _⟩ => ⟨S8x4096, .f32⟩
  | .hbm, ⟨109, _⟩ => ⟨S_, .f32⟩
  | .hbm, ⟨110, _⟩ => ⟨S8x4096, .f32⟩
  | .hbm, ⟨111, _⟩ => ⟨S8x4096x1, .f32⟩
  | .hbm, ⟨112, _⟩ => ⟨S_, .f32⟩
  | .hbm, ⟨113, _⟩ => ⟨S8x4096, .f32⟩
  | .hbm, ⟨114, _⟩ => ⟨S8x4096, .f32⟩
  | .hbm, ⟨115, _⟩ => ⟨S_, .f32⟩
  | .hbm, ⟨116, _⟩ => ⟨S8x4096x4096, .f32⟩
  | .hbm, ⟨117, _⟩ => ⟨S8x4096x4096, .f32⟩
  | .hbm, ⟨118, _⟩ => ⟨S8x4096x64, .f32⟩
  | .hbm, ⟨119, _⟩ => ⟨S8x4096x64, .f32⟩
  | .hbm, ⟨120, _⟩ => ⟨S4096x8x64, .f32⟩
  | .hbm, ⟨121, _⟩ => ⟨S4096x512, .f32⟩
  | .hbm, ⟨122, _⟩ => ⟨S4096x8x64, .f32⟩
  | .hbm, ⟨123, _⟩ => ⟨S4096x512, .f32⟩
  | .hbm, ⟨124, _⟩ => ⟨S4096x8x64, .f32⟩
  | .hbm, ⟨125, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_call1_v0 : Ref sig .tc := ⟨.hbm, 34, rfl⟩
abbrev main_v18_1 : Ref sig .tc := ⟨.hbm, 35, rfl⟩
abbrev main_call1_v2 : Ref sig .tc := ⟨.hbm, 36, rfl⟩
abbrev main_v18_0 : Ref sig .tc := ⟨.hbm, 37, rfl⟩
abbrev main_call1_cst : Ref sig .tc := ⟨.hbm, 38, rfl⟩
abbrev main_v18_2 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_cst : Ref sig .tc := ⟨.hbm, 100, rfl⟩
abbrev main_call2_v0 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_cst_16 : Ref sig .tc := ⟨.hbm, 112, rfl⟩
abbrev main_v74 : Ref sig .tc := ⟨.hbm, 113, rfl⟩
abbrev main_v75 : Ref sig .tc := ⟨.hbm, 114, rfl⟩
abbrev main_cst_17 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3848 : Shape := ⟨2, ![1024, 3848]⟩
abbrev S4096x3848 : Shape := ⟨2, ![4096, 3848]⟩
abbrev S_ : Shape := ⟨0, ![]⟩
abbrev S1024x248 : Shape := ⟨2, ![1024, 248]⟩
abbrev S1024x4096 : Shape := ⟨2, ![1024, 4096]⟩
abbrev S4096x248 : Shape := ⟨2, ![4096, 248]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3848, .f32⟩
  | .hbm, ⟨3, _⟩ => ⟨S4096x1024, .f32⟩
  | .hbm, ⟨4, _⟩ => ⟨S4096x3848, .f32⟩
  | .hbm, ⟨5, _⟩ => ⟨S1024x3848, .bf16⟩
  | .hbm, ⟨6, _⟩ => ⟨S_, .bf16⟩
  | .hbm, ⟨7, _⟩ => ⟨S1024x248, .bf16⟩
  | .hbm, ⟨8, _⟩ => ⟨S1024x4096, .bf16⟩
  | .hbm, ⟨9, _⟩ => ⟨S4096x3848, .bf16⟩
  | .hbm, ⟨10, _⟩ => ⟨S_, .bf16⟩
  | .hbm, ⟨11, _⟩ => ⟨S4096x248, .bf16⟩
  | .hbm, ⟨12, _⟩ => ⟨S4096x4096, .bf16⟩
  | .hbm, ⟨13, _⟩ => ⟨S4096x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x1024 : Shape := ⟨2, ![4096, 1024]⟩
abbrev S1x1024 : Shape := ⟨2, ![1, 1024]⟩
abbrev S1024x3848 : Shape := ⟨2, ![1024, 3848]⟩
abbrev S4096x3848 : Shape := ⟨2, ![4096, 3848]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3848, .f32⟩
  | .hbm, ⟨3, _⟩ => ⟨S4096x1024, .f32⟩
  | .hbm, ⟨4, _⟩ => ⟨S4096x3848, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3848, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel3.lean ====
abbrev S4096x1024 : Shape := ⟨2, ![4096, 1024]⟩
abbrev S4096x3848 : Shape := ⟨2, ![4096, 3848]⟩
abbrev S_ : Shape := ⟨0, ![]⟩
abbrev S4096x248 : Shape := ⟨2, ![4096, 248]⟩
abbrev S4096x4096 : Shape := ⟨2, ![4096, 4096]⟩
abbrev S1024x1024 : Shape := ⟨2, ![1024, 1024]⟩
abbrev S3848x1024 : Shape := ⟨2, ![3848, 1024]⟩
abbrev S1024x3848 : Shape := ⟨2, ![1024, 3848]⟩

abbrev nBuf : Space → Nat
  | .hbm => 10
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3848, .f32⟩
  | .hbm, ⟨2, _⟩ => ⟨S4096x3848, .bf16⟩
  | .hbm, ⟨3, _⟩ => ⟨S_, .bf16⟩
  | .hbm, ⟨4, _⟩ => ⟨S4096x248, .bf16⟩
  | .hbm, ⟨5, _⟩ => ⟨S4096x4096, .bf16⟩
  | .hbm, ⟨6, _⟩ => ⟨S4096x1024, .bf16⟩
  | .hbm, ⟨7, _⟩ => ⟨S4096x1024, .f32⟩
  | .hbm, ⟨8, _⟩ => ⟨S3848x1024, .f32⟩
  | .hbm, ⟨9, _⟩ => ⟨S1024x3848, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x3848 : Shape := ⟨2, ![4096, 3848]⟩
abbrev S_ : Shape := ⟨0, ![]⟩
abbrev S1024x3848 : Shape := ⟨2, ![1024, 3848]⟩
abbrev S3848x1024 : Shape := ⟨2, ![3848, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3848, .f32⟩
  | .hbm, ⟨2, _⟩ => ⟨S_, .f32⟩
  | .hbm, ⟨3, _⟩ => ⟨S1024x3848, .f32⟩
  | .hbm, ⟨4, _⟩ => ⟨S4096x3848, .f32⟩
  | .hbm, ⟨5, _⟩ => ⟨S3848x1024, .f32⟩
  | .hbm, ⟨6, _⟩ => ⟨S1024x3848, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x3848 : Shape := ⟨2, ![1024, 3848]⟩
abbrev S_ : Shape := ⟨0, ![]⟩
abbrev S1024x248 : Shape := ⟨2, ![1024, 248]⟩
abbrev S1024x4096 : Shape := ⟨2, ![1024, 4096]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S4096x3848 : Shape := ⟨2, ![4096, 3848]⟩

abbrev nBuf : Space → Nat
  | .hbm => 12
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3848, .f32⟩
  | .hbm, ⟨3, _⟩ => ⟨S1024x3848, .bf16⟩
  | .hbm, ⟨4, _⟩ => ⟨S_, .bf16⟩
  | .hbm, ⟨5, _⟩ => ⟨S1024x248, .bf16⟩
  | .hbm, ⟨6, _⟩ => ⟨S1024x4096, .bf16⟩
  | .hbm, ⟨7, _⟩ => ⟨S1x1024, .f32⟩
  | .hbm, ⟨8, _⟩ => ⟨S4096x1024, .bf16⟩
  | .hbm, ⟨9, _⟩ => ⟨S4096x4096, .f32⟩
  | .hbm, ⟨10, _⟩ => ⟨S4096x1024, .f32⟩
  | .hbm, ⟨11, _⟩ => ⟨S4096x3848, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .f32⟩
  | .local _ .vmem, ⟨7, _⟩ => ⟨S512x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S4096x1024 : Shape := ⟨2, ![4096, 1024]⟩
abbrev S1024 : Shape := ⟨1, ![1024]⟩
abbrev S1024x3848 : Shape := ⟨2, ![1024, 3848]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3848 : Shape := ⟨2, ![4096, 3848]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3848, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3848, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S4096x256 : Shape := ⟨2, ![4096, 256]⟩
abbrev S4096x512 : Shape := ⟨2, ![4096, 512]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x256, .f32⟩
  | .hbm, ⟨4, _⟩ => ⟨S4096x256, .bf16⟩
  | .hbm, ⟨5, _⟩ => ⟨S4096x256, .f32⟩
  | .hbm, ⟨6, _⟩ => ⟨S4096x256, .bf16⟩
  | .hbm, ⟨7, _⟩ => ⟨S4096x512, .f32⟩
  | .hbm, ⟨8, _⟩ => ⟨S4096x512, .bf16⟩
  | .hbm, ⟨9, _⟩ => ⟨S1024x1024, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x256 : Shape := ⟨2, ![4096, 256]⟩
abbrev S4096x512 : Shape := ⟨2, ![4096, 512]⟩
abbrev S512x1024 : Shape := ⟨2, ![512, 1024]⟩
abbrev S512x256 : Shape := ⟨2, ![512, 256]⟩
abbrev S512x512 : Shape := ⟨2, ![512, 512]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x256, .f32⟩
  | .hbm, ⟨4, _⟩ => ⟨S4096x256, .bf16⟩
  | .hbm, ⟨5, _⟩ => ⟨S4096x256, .f32⟩
  | .hbm, ⟨6, _⟩ => ⟨S4096x256, .bf16⟩
  | .hbm, ⟨7, _⟩ => ⟨S4096x512, .f32⟩
  | .hbm, ⟨8, _⟩ => ⟨S4096x512, .bf16⟩
  | .hbm, ⟨9, _⟩ => ⟨S1024x1024, .bf16⟩
  | .hbm, ⟨10, _⟩ => ⟨S4096x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel8.lean ====
abbrev S2x256x1024 : Shape := ⟨3, ![2, 256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2x256x1024 : Shape := ⟨3, ![2, 256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S_, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S_, .f32⟩
  | .hbm, ⟨14, _⟩ => ⟨S2x256x1024, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S_, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S_, .f32⟩
  | .hbm, ⟨29, _⟩ => ⟨S2x256x1024, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S2x1024x962 : Shape := ⟨3, ![2, 1024, 962]⟩
abbrev S962x2x1024 : Shape := ⟨3, ![962, 2, 1024]⟩
abbrev S74x2x1024 : Shape := ⟨3, ![74, 2, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x1024x962, .f32⟩
  | .hbm, ⟨1, _⟩ => ⟨S2x1024x962, .f32⟩
  | .hbm, ⟨2, _⟩ => ⟨S2x1024x962, .f32⟩
  | .hbm, ⟨3, _⟩ => ⟨S962x2x1024, .f32⟩
  | .hbm, ⟨4, _⟩ => ⟨S962x2x1024, .f32⟩
  | .hbm, ⟨5, _⟩ => ⟨S962x2x1024, .f32⟩
  | .hbm, ⟨6, _⟩ => ⟨S962x2x1024, .f32⟩
  | .hbm, ⟨7, _⟩ => ⟨S962x2x1024, .f32⟩
  | .hbm, ⟨8, _⟩ => ⟨S962x2x1024, .f32⟩
  | .hbm, ⟨9, _⟩ => ⟨S962x2x1024, .f32⟩
  | .hbm, ⟨10, _⟩ => ⟨S962x2x1024, .f32⟩
  | .hbm, ⟨11, _⟩ => ⟨S962x2x1024, .f32⟩
  | .local _ .vmem, ⟨0, _⟩ => ⟨S74x2x1024, .f32⟩
  | .local _ .vmem, ⟨1, _⟩ => ⟨S74x2x1024, .f32⟩
  | .local _ .vmem, ⟨2, _⟩ => ⟨S74x2x1024, .f32⟩
  | .local _ .vmem, ⟨3, _⟩ => ⟨S74x2x1024, .f32⟩
  | .local _ .vmem, ⟨4, _⟩ => ⟨S74x2x1024, .f32⟩
  | .local _ .vmem, ⟨5, _⟩ => ⟨S74x2x1024, .f32⟩
  | .local _ .vmem, ⟨6, _⟩ => ⟨S74x2x1024, .f32⟩
  | .local _ .vmem, ⟨7, _⟩ => ⟨S74x2x1024, .f32⟩
  | .local _ .vmem, ⟨8, _⟩ => ⟨S74x2x1024, .f32⟩
  | .local _ .vmem, ⟨9, _⟩ => ⟨S74x2x1024, .f32⟩
  | .local _ .vmem, ⟨10, _⟩ => ⟨S74x2x1024, .f32⟩
  | .local _ .vmem, ⟨11, _⟩ => ⟨S74x2x1024, .f32⟩
  | .local _ .vmem, ⟨12, _⟩ => ⟨S74x2x1024, .f32⟩
  | .local _ .vmem, ⟨13, _⟩ => ⟨S74x2x1024, .f32⟩
  | .local _ .vmem, ⟨14, _⟩ => ⟨S74x2x1024, .f32⟩
  | .local _ .vmem, ⟨15, _⟩ => ⟨S74x2x1024, .f32⟩
  | .local _ .vmem, ⟨16, _⟩ => ⟨S74x2x1024, .f32⟩
  | .local _ .vmem, ⟨17, _⟩ => ⟨S74x2x1024, .f32⟩
  | _, _ => ⟨S2x1024x962, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S74x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S74x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S74x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S74x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S74x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S74x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S74x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S74x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S74x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S2x1024x962 : Shape := ⟨3, ![2, 1024, 962]⟩
abbrev S962x2x1024 : Shape := ⟨3, ![962, 2, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x962, .f32⟩
  | .hbm, ⟨1, _⟩ => ⟨S2x1024x962, .f32⟩
  | .hbm, ⟨2, _⟩ => ⟨S2x1024x962, .f32⟩
  | .hbm, ⟨3, _⟩ => ⟨S962x2x1024, .f32⟩
  | .hbm, ⟨4, _⟩ => ⟨S962x2x1024, .f32⟩
  | .hbm, ⟨5, _⟩ => ⟨S962x2x1024, .f32⟩
  | .hbm, ⟨6, _⟩ => ⟨S2x1024x962, .f32⟩
  | .hbm, ⟨7, _⟩ => ⟨S_, .f32⟩
  | .hbm, ⟨8, _⟩ => ⟨S2x1024x962, .f32⟩
  | .hbm, ⟨9, _⟩ => ⟨S2x1024x962, .f32⟩
  | .hbm, ⟨10, _⟩ => ⟨S_, .f32⟩
  | .hbm, ⟨11, _⟩ => ⟨S2x1024x962, .f32⟩
  | .hbm, ⟨12, _⟩ => ⟨S2x1024x962, .f32⟩
  | .hbm, ⟨13, _⟩ => ⟨S2x1024x962, .f32⟩
  | .hbm, ⟨14, _⟩ => ⟨S_, .f32⟩
  | .hbm, ⟨15, _⟩ => ⟨S2x1024x962, .f32⟩
  | .hbm, ⟨16, _⟩ => ⟨S2x1024x962, .f32⟩
  | .hbm, ⟨17, _⟩ => ⟨S2x1024x962, .f32⟩
  | .hbm, ⟨18, _⟩ => ⟨S_, .f32⟩
  | .hbm, ⟨19, _⟩ => ⟨S2x1024x962, .f32⟩
  | .hbm, ⟨20, _⟩ => ⟨S2x1024x962, .f32⟩
  | .hbm, ⟨21, _⟩ => ⟨S2x1024x962, .f32⟩
  | .hbm, ⟨22, _⟩ => ⟨S_, .f32⟩
  | .hbm, ⟨23, _⟩ => ⟨S2x1024x962, .f32⟩
  | .hbm, ⟨24, _⟩ => ⟨S2x1024x962, .f32⟩
  | .hbm, ⟨25, _⟩ => ⟨S_, .f32⟩
  | .hbm, ⟨26, _⟩ => ⟨S2x1024x962, .f32⟩
  | .hbm, ⟨27, _⟩ => ⟨S2x1024x962, .f32⟩
  | .hbm, ⟨28, _⟩ => ⟨S2x1024x962, .f32⟩
  | .hbm, ⟨29, _⟩ => ⟨S_, .f32⟩
  | .hbm, ⟨30, _⟩ => ⟨S2x1024x962, .f32⟩
  | .hbm, ⟨31, _⟩ => ⟨S2x1024x962, .f32⟩
  | .hbm, ⟨32, _⟩ => ⟨S2x1024x962, .f32⟩
  | .hbm, ⟨33, _⟩ => ⟨S_, .f32⟩
  | .hbm, ⟨34, _⟩ => ⟨S2x1024x962, .f32⟩
  | .hbm, ⟨35, _⟩ => ⟨S2x1024x962, .f32⟩
  | .hbm, ⟨36, _⟩ => ⟨S2x1024x962, .f32⟩
  | .hbm, ⟨37, _⟩ => ⟨S_, .f32⟩
  | .hbm, ⟨38, _⟩ => ⟨S2x1024x962, .f32⟩
  | .hbm, ⟨39, _⟩ => ⟨S2x1024x962, .f32⟩
  | .hbm, ⟨40, _⟩ => ⟨S962x2x1024, .f32⟩
  | .hbm, ⟨41, _⟩ => ⟨S962x2x1024, .f32⟩
  | .hbm, ⟨42, _⟩ => ⟨S962x2x1024, .f32⟩
  | .hbm, ⟨43, _⟩ => ⟨S962x2x1024, .f32⟩
  | _, _ => ⟨S2x1024x962, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Off.lean ====
/- The offsets of the kernel's dynamic loads and stores, in closed form at every grid point and trip: the second grid
   coordinate `j` names the key block, trip `t` of the loop visits the query blocks `j + 2 t + 1` and `j + 2 t + 2`. -/
module

public import proofs.«01_k».proof.Proof.Gen.KernelIdeal.Loops

@[expose] public section

set_option maxRecDepth 16384

namespace Cert.KernelIdeal.Fox

open Idealize.ShloMosaic Cert.KernelIdeal.Gen

theorem t1_trips : ∀ i : grid0.Coords, (k0_t1_loop i).trips = (7 - (i 1).val) / 2 := by decide +kernel
theorem t2_trips : ∀ i : grid0.Coords, (k0_t2_loop i).trips = 0 := by decide +kernel

theorem off6_1 : ∀ i t, k0_off6 i t 1#32 = ![512 * ((i 1).val + 2 * t.val + 2), 0] := by decide +kernel
theorem off6_2 : ∀ i t, k0_off6 i t 2#32 = ![512 * min ((i 1).val + 2 * t.val + 3) 7, 0] := by decide +kernel
theorem off7_1 : ∀ i t, k0_off7 i t 1#32 = ![512 * ((i 1).val + 2 * t.val + 2), 0] := by decide +kernel
theorem off7_2 : ∀ i t, k0_off7 i t 2#32 = ![512 * min ((i 1).val + 2 * t.val + 3) 7, 0] := by decide +kernel
theorem off8_1 : ∀ i t, k0_off8 i t 1#32 = ![0, (i 1).val + 2 * t.val, 0, 0] := by decide +kernel
theorem off8_2 : ∀ i t, k0_off8 i t 2#32 = ![0, (i 1).val + 2 * t.val + 1, 0, 0] := by decide +kernel
theorem off9_1 : ∀ i t, k0_off9 i t 1#32 = ![0, (i 1).val + 2 * t.val, 0, 0] := by decide +kernel
theorem off9_2 : ∀ i t, k0_off9 i t 2#32 = ![0, (i 1).val + 2 * t.val + 1, 0, 0] := by decide +kernel
theorem off10_1 : ∀ i t, k0_off10 i t 1#32 = ![0, (i 1).val + 2 * t.val, 64, 0] := by decide +kernel
theorem off10_2 : ∀ i t, k0_off10 i t 2#32 = ![0, (i 1).val + 2 * t.val + 1, 64, 0] := by decide +kernel
theorem off11_1 : ∀ i t, k0_off11 i t 1#32 = ![1, (i 1).val + 2 * t.val, 0, 0] := by decide +kernel
theorem off11_2 : ∀ i t, k0_off11 i t 2#32 = ![1, (i 1).val + 2 * t.val + 1, 0, 0] := by decide +kernel
theorem off12_1 : ∀ i t, k0_off12 i t 1#32 = ![0, (i 1).val + 2 * t.val + 1, 0, 0] := by decide +kernel
theorem off12_2 : ∀ i t, k0_off12 i t 2#32 = ![0, (i 1).val + 2 * t.val + 2, 0, 0] := by decide +kernel

instance (i t) : ClosedOff (k0_off6 i t 1#32) := ⟨_, off6_1 i t⟩
instance (i t) : ClosedOff (k0_off6 i t 2#32) := ⟨_, off6_2 i t⟩
instance (i t) : ClosedOff (k0_off7 i t 1#32) := ⟨_, off7_1 i t⟩
instance (i t) : ClosedOff (k0_off7 i t 2#32) := ⟨_, off7_2 i t⟩
instance (i t) : ClosedOff (k0_off8 i t 1#32) := ⟨_, off8_1 i t⟩
instance (i t) : ClosedOff (k0_off8 i t 2#32) := ⟨_, off8_2 i t⟩
instance (i t) : ClosedOff (k0_off9 i t 1#32) := ⟨_, off9_1 i t⟩
instance (i t) : ClosedOff (k0_off9 i t 2#32) := ⟨_, off9_2 i t⟩
instance (i t) : ClosedOff (k0_off10 i t 1#32) := ⟨_, off10_1 i t⟩
instance (i t) : ClosedOff (k0_off10 i t 2#32) := ⟨_, off10_2 i t⟩
instance (i t) : ClosedOff (k0_off11 i t 1#32) := ⟨_, off11_1 i t⟩
instance (i t) : ClosedOff (k0_off11 i t 2#32) := ⟨_, off11_2 i t⟩
instance (i t) : ClosedOff (k0_off12 i t 1#32) := ⟨_, off12_1 i t⟩
instance (i t) : ClosedOff (k0_off12 i t 2#32) := ⟨_, off12_2 i t⟩

end Cert.KernelIdeal.Fox

end
-- ==== Proof.State.lean ====
/- What the kernel body holds between two query blocks, as a pure state: the two heads' scores and `dP` of the block
   parked for the next step, the probabilities and score gradients of the last block, and the sums for dv, dk, dq. One
   step (`blk`) parks the next block's products, adds the last block's gradients and forms this block's. -/
module

public import proofs.«01_k».proof.Proof.Off
public import proofs.«01_k».proof.Proof.Gen.KernelIdeal.Frame
public import Idealize.ShloMosaic.Lib.WritesUnit

@[expose] public section

set_option maxRecDepth 16384

noncomputable section
namespace Cert.KernelIdeal.Fox

open Idealize.ShloMosaic Idealize.ShloMosaic.TcCoe
open Cert.KernelIdeal.Gen

variable {F : FTy → Type} [FloatOps F]

/-- A block number as an index (all uses are below eight). -/
def b8 (n : ℕ) : Fin 8 := ⟨n % 8, Nat.mod_lt _ (by decide)⟩

theorem b8_val {n : ℕ} (h : n < 8) : (b8 n).val = n := Nat.mod_eq_of_lt h

/-! ## The rectangles the body reads and writes -/

abbrev qRect (b : Fin 8) : Rect S4096x256 := Rect.unit (s := S4096x256) ![512 * b.val, 0] S512x256.size
  (by intro a; have := b.isLt; fin_cases a <;> simp <;> omega)
abbrev oRect (b : Fin 8) : Rect S4096x128 := Rect.unit (s := S4096x128) ![512 * b.val, 0] S512x128.size
  (by intro a; have := b.isLt; fin_cases a <;> simp <;> omega)
abbrev tRect (b : Fin 8) : Rect S1x8x8x512 := Rect.unit (s := S1x8x8x512) ![0, b.val, 0, 0] S1x1x8x512.size
  (by intro a; have := b.isLt; fin_cases a <;> simp <;> omega)
abbrev otRect (h : Fin 2) (b : Fin 8) : Rect S1x8x128x512 := Rect.unit (s := S1x8x128x512) ![0, b.val, 64 * h.val, 0] S1x1x64x512.size
  (by intro a; have := b.isLt; have := h.isLt; fin_cases a <;> simp <;> omega)
abbrev qtRect (h : Fin 2) (b : Fin 8) : Rect S2x8x128x512 := Rect.unit (s := S2x8x128x512) ![h.val, b.val, 0, 0] S1x1x128x512.size
  (by intro a; have := b.isLt; have := h.isLt; fin_cases a <;> simp <;> omega)
abbrev dvRect (h : Fin 2) : Rect S128x512 := Rect.unit (s := S128x512) ![64 * h.val, 0] S64x512.size
  (by intro a; have := h.isLt; fin_cases a <;> simp <;> omega)
abbrev dkRect (h : Fin 2) : Rect S2x128x512 := Rect.unit (s := S2x128x512) ![h.val, 0, 0] S1x128x512.size
  (by intro a; have := h.isLt; fin_cases a <;> simp <;> omega)
abbrev scRect (s : Fin 2) (x : Fin 4) : Rect S2x4x512x512 := Rect.unit (s := S2x4x512x512) ![s.val, x.val, 0, 0] S1x1x512x512.size
  (by intro a; have := s.isLt; have := x.isLt; fin_cases a <;> simp <;> omega)
abbrev pRect (h : Fin 2) : Rect S2x512x512 := Rect.unit (s := S2x512x512) ![h.val, 0, 0] S1x512x512.size
  (by intro a; have := h.isLt; fin_cases a <;> simp <;> omega)

/-! ## The operands of one key block's pass -/

/-- One key block's operands: its two heads' key features (as rows, and transposed), its values, and the eight query
    blocks' features, upstream gradients, row statistics and transposes. -/
structure Opnd (F : FTy → Type) [FloatOps F] where
  k0 : FVec F S512x128 .bf16
  k1 : FVec F S512x128 .bf16
  kt0 : FVec F S128x512 .bf16
  kt1 : FVec F S128x512 .bf16
  v : FVec F S512x128 .bf16
  q : Fin 8 → Vec F S512x256 .bf16
  o : Fin 8 → Vec F S512x128 .bf16
  lse : Fin 8 → Vec F S1x1x8x512 .f32
  dlt : Fin 8 → Vec F S1x1x8x512 .f32
  ot : Fin 2 → Fin 8 → Vec F S1x1x64x512 .bf16
  qt : Fin 2 → Fin 8 → Vec F S1x1x128x512 .bf16

/-- What the body holds after a query block's probabilities and score gradients are formed. -/
structure St (F : FTy → Type) [FloatOps F] where
  sc : Fin 4 → Vec F S1x1x512x512 .f32
  pt : Fin 2 → Vec F S1x512x512 .bf16
  ds : Fin 2 → Vec F S1x512x512 .bf16
  dv : Fin 2 → Vec F S64x512 .f32
  dk : Fin 2 → Vec F S1x128x512 .f32
  dq : Fin 2 → Fin 8 → Vec F S1x1x128x512 .f32

/-- Query block `b`'s scores of both heads and `dP` of both heads against the key block. -/
def scN (I : Opnd F) (b : Fin 8) : Fin 4 → Vec F S1x1x512x512 .f32 :=
  ![k0_pay5 I.k0 (I.q b), k0_pay6 I.k1 (I.q b), k0_pay7 I.v k0_pay122 (I.o b), k0_pay8 (k0_pay4 I.v k0_pay122 (I.o b))]

/-- The probabilities of query block `b`, from the parked scores. -/
def ptN (I : Opnd F) (b : Fin 8) (sc : Fin 4 → Vec F S1x1x512x512 .f32) : Fin 2 → Vec F S1x512x512 .bf16 :=
  ![k0_pay21 (k0_pay19 (I.lse b) (sc 0)), k0_pay24 (k0_pay17 (I.lse b)) (sc 1)]

/-- The score gradients of query block `b`, from the parked scores and `dP`. -/
def dsN (I : Opnd F) (b : Fin 8) (sc : Fin 4 → Vec F S1x1x512x512 .f32) : Fin 2 → Vec F S1x512x512 .bf16 :=
  ![k0_pay20 (k0_pay18 (I.dlt b)) (k0_pay19 (I.lse b) (sc 0)) (sc 2),
    k0_pay23 (k0_pay17 (I.lse b)) (k0_pay18 (I.dlt b)) (sc 1) (sc 3)]

/-- The diagonal block's probabilities: zero where the query precedes the key. -/
def ptD (I : Opnd F) (w w' : BitVec 32) (b : Fin 8) (sc : Fin 4 → Vec F S1x1x512x512 .f32) : Fin 2 → Vec F S1x512x512 .bf16 :=
  ![k0_pay144 (k0_pay141 w w' (I.lse b) (sc 0)), k0_pay148 (k0_pay147 w w' (k0_pay139 (I.lse b)) (sc 1))]

/-- The diagonal block's score gradients. -/
def dsD (I : Opnd F) (w w' : BitVec 32) (b : Fin 8) (sc : Fin 4 → Vec F S1x1x512x512 .f32) : Fin 2 → Vec F S1x512x512 .bf16 :=
  ![k0_pay143 (k0_pay141 w w' (I.lse b) (sc 0)) (k0_pay142 (I.dlt b) (sc 2)),
    k0_pay146 w w' (k0_pay139 (I.lse b)) (k0_pay140 (I.dlt b)) (sc 1) (sc 3)]

/-- The sums with query block `b`'s gradients added. -/
def grads (I : Opnd F) (b : Fin 8) (st : St F) : St F where
  sc := st.sc
  pt := st.pt
  ds := st.ds
  dv := ![k0_pay9 (st.dv 0) (I.ot 0 b) (st.pt 0), k0_pay12 (st.dv 1) (I.ot 1 b) (st.pt 1)]
  dk := ![k0_pay10 (st.dk 0) (I.qt 0 b) (st.ds 0), k0_pay15 (k0_pay13 (st.dk 1)) (k0_pay14 (I.qt 1 b)) (st.ds 1)]
  dq := fun h b' => if b' = b then (![k0_pay11 I.kt0 (st.dq 0 b) (st.ds 0), k0_pay16 I.kt1 (st.dq 1 b) (st.ds 1)] : Fin 2 → _) h
    else st.dq h b'

/-- One step: block `n`'s products were parked, block `n - 1`'s gradients are due. -/
def blk (I : Opnd F) (n : ℕ) (st : St F) : St F :=
  { grads I (b8 (n - 1)) st with
    sc := scN I (b8 (min (n + 1) 7))
    pt := ptN I (b8 n) st.sc
    ds := dsN I (b8 n) st.sc }

/-- After the diagonal block `j`: the sums for the key block at zero, dq as the earlier key blocks left it. -/
def st0 (I : Opnd F) (w w' : BitVec 32) (j : ℕ) (dq : Fin 2 → Fin 8 → Vec F S1x1x128x512 .f32) : St F where
  sc := scN I (b8 (min (j + 1) 7))
  pt := ptD I w w' (b8 j) (scN I (b8 j))
  ds := dsD I w w' (b8 j) (scN I (b8 j))
  dv h := fun x => k0_pay115 ((dvRect h).emb x)
  dk h := fun x => k0_pay114 ((dkRect h).emb x)
  dq := dq

/-- After block `j + n`. -/
def stB (I : Opnd F) (w w' : BitVec 32) (j : ℕ) (dq : Fin 2 → Fin 8 → Vec F S1x1x128x512 .f32) : ℕ → St F
  | 0 => st0 I w w' j dq
  | n + 1 => blk I (j + n + 1) (stB I w w' j dq n)

/-- After the last block's gradients. -/
def stEnd (I : Opnd F) (w w' : BitVec 32) (j : ℕ) (dq : Fin 2 → Fin 8 → Vec F S1x1x128x512 .f32) : St F :=
  grads I 7 (stB I w w' j dq (7 - j))

/-! ## Reading a box back from a buffer's stores -/

section Read

variable {sig : RefSig} {κ : Kind} {sp : Space} {s : Shape} {e : EltTy} {Val : EltTy → Type} (v : View sig κ sp s e)

/-- A load of the newest store's box reads its payload. -/
theorem readAt_hit (f : v.ty.Contents Val) {off off' size : Fin s.rank → ℕ} (h : off' = off)
    (inb : ∀ a, off a + size a ≤ s.size a) (inb' : ∀ a, off' a + size a ≤ s.size a)
    (w : (Rect.unit off' size inb').shape.Idx → Val e) (L : List (View.Piece Val s e)) :
    v.readAt Val (Rect.unit off size inb).toLoadRect (v.writes Val f (⟨Rect.unit off' size inb', w⟩ :: L)) = w := by
  subst h
  funext x
  rw [View.readAt_apply]
  exact View.read_writes_cons_emb v f _ w L x

/-- A load of a box apart from the newest store's on one axis reads the earlier stores. -/
theorem readAt_miss (f : v.ty.Contents Val) {off off' off'' size size' : Fin s.rank → ℕ} (h : off' = off'')
    (a : Fin s.rank) (ha : off a + size a ≤ off'' a ∨ off'' a + size' a ≤ off a)
    (inb : ∀ a, off a + size a ≤ s.size a) (inb' : ∀ a, off' a + size' a ≤ s.size a)
    (w : (Rect.unit off' size' inb').shape.Idx → Val e) (L : List (View.Piece Val s e)) :
    v.readAt Val (Rect.unit off size inb).toLoadRect (v.writes Val f (⟨Rect.unit off' size' inb', w⟩ :: L))
      = v.readAt Val (Rect.unit off size inb).toLoadRect (v.writes Val f L) := by
  subst h
  funext x
  rw [View.readAt_apply, View.readAt_apply]
  refine View.read_writes_cons_unit_of_not_mem v f inb' w L _ rfl a ?_
  have hx : (((Rect.unit off size inb).toLoadRect.idx x) a).val = off a + 1 * (x a).val := rfl
  have hl : (x a).val < size a := (x a).isLt
  omega

/-- A load's box named by equal offsets. -/
theorem readAt_off (f : v.ty.Contents Val) {off off' size : Fin s.rank → ℕ} (h : off' = off)
    (inb : ∀ a, off a + size a ≤ s.size a) (inb' : ∀ a, off' a + size a ≤ s.size a) :
    (v.readAt Val (Rect.unit off' size inb').toLoadRect f : Shape.Idx ⟨s.rank, size⟩ → Val e)
      = v.readAt Val (Rect.unit off size inb).toLoadRect f := by
  subst h; rfl

/-- The same where the two boxes' literal offsets tell them apart. -/
theorem readAt_miss' (f : v.ty.Contents Val) {off off' size size' : Fin s.rank → ℕ}
    (ha : ∃ a, off a + size a ≤ off' a ∨ off' a + size' a ≤ off a)
    (inb : ∀ a, off a + size a ≤ s.size a) (inb' : ∀ a, off' a + size' a ≤ s.size a)
    (w : (Rect.unit off' size' inb').shape.Idx → Val e) (L : List (View.Piece Val s e)) :
    v.readAt Val (Rect.unit off size inb).toLoadRect (v.writes Val f (⟨Rect.unit off' size' inb', w⟩ :: L))
      = v.readAt Val (Rect.unit off size inb).toLoadRect (v.writes Val f L) :=
  ha.elim fun a h => readAt_miss v f rfl a h inb inb' w L

/-- A covered load is a load over any prior contents. -/
theorem readCov_eq [∀ e, Nonempty (Val e)] (L : List (View.Piece Val s e)) (B : LoadRect s) :
    v.readCov L B = v.readAt Val B (v.writes Val v.junk L) := rfl

end Read

/-- A load of dq's box `(h, b)` after a store into box `(h', b')`. -/
theorem dq_cons {sig : RefSig} {κ : Kind} {sp : Space} {Val : EltTy → Type} (v : View sig κ sp S2x8x128x512 .f32)
    (f : v.ty.Contents Val) {off : Fin 4 → ℕ} (h h' : Fin 2) (b b' : Fin 8) (hoff : off = ![h'.val, b'.val, 0, 0])
    (inb : ∀ a, off a + S1x1x128x512.size a ≤ S2x8x128x512.size a)
    (w : (Rect.unit (s := S2x8x128x512) off S1x1x128x512.size inb).shape.Idx → Val .f32) (L : List (View.Piece Val S2x8x128x512 .f32)) :
    (v.readAt Val (qtRect h b).toLoadRect (v.writes Val f (⟨Rect.unit off S1x1x128x512.size inb, w⟩ :: L)) : S1x1x128x512.Idx → Val .f32)
      = if h = h' ∧ b = b' then w else v.readAt Val (qtRect h b).toLoadRect (v.writes Val f L) := by
  by_cases hc : h = h' ∧ b = b'
  · rw [if_pos hc]
    obtain ⟨rfl, rfl⟩ := hc
    exact readAt_hit v f hoff _ _ w L
  · rw [if_neg hc]
    by_cases hh : h = h'
    · have hb : b.val ≠ b'.val := fun e => hc ⟨hh, Fin.ext e⟩
      exact readAt_miss v f hoff 1 (by show b.val + 1 ≤ b'.val ∨ b'.val + 1 ≤ b.val; omega) _ _ w L
    · have hb : h.val ≠ h'.val := fun e => hh (Fin.ext e)
      exact readAt_miss v f hoff 0 (by show h.val + 1 ≤ h'.val ∨ h'.val + 1 ≤ h.val; omega) _ _ w L

end Cert.KernelIdeal.Fox
end
-- ==== Proof.Trip.lean ====
/- One trip of the kernel's main loop: two query blocks, the first parked in slot 1, the second in slot 0. -/
module

public import proofs.«01_k».proof.Proof.State

@[expose] public section

set_option maxRecDepth 16384

noncomputable section
namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ (UR sig nD τ) ℕ

abbrev 𝒱₀ : Variants := Variants.none

/-- A core holds a whole staging or scratch buffer at contents `f`. -/
abbrev own (c : Dev nD) {s : Shape} {e : EltTy} (a : Memref sig .tc .vmem s e) (f : Buf (Elt F) (a.view.loc (c : Thread nD τ))) : sProp 𝕄 :=
  a.view.loc (c : Thread nD τ) ↦[a.view.set]{fullShare} f

section
variable (c : Dev nD) (arg2 : Memref sig .tc .vmem S4096x256 .bf16) (arg5 : Memref sig .tc .vmem S4096x128 .bf16)
  (arg6 : Memref sig .tc .vmem S1x8x8x512 .f32) (arg7 : Memref sig .tc .vmem S1x8x8x512 .f32)
  (arg8 : Memref sig .tc .vmem S1x8x128x512 .bf16) (arg9 : Memref sig .tc .vmem S2x8x128x512 .bf16)
  (arg10 : Memref sig .tc .vmem S2x8x128x512 .f32) (arg13 : Memref sig .tc .vmem S128x512 .f32)
  (arg14 : Memref sig .tc .vmem S2x128x512 .f32) (arg15 : Memref sig .tc .vmem S2x4x512x512 .f32)
  (arg16 : Memref sig .tc .vmem S2x512x512 .bf16) (arg17 : Memref sig .tc .vmem S2x512x512 .bf16)

/-- The query side's buffers hold the operands `I`. -/
structure Fed (I : Opnd F) (f2 : Buf (Elt F) (arg2.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8' : Buf (Elt F) (arg8.view.loc (c : Thread nD τ))) (f9 : Buf (Elt F) (arg9.view.loc (c : Thread nD τ))) : Prop where
  q : ∀ b, arg2.view.readAt (Elt F) (qRect b).toLoadRect f2 = I.q b
  o : ∀ b, arg5.view.readAt (Elt F) (oRect b).toLoadRect f5 = I.o b
  lse : ∀ b, arg6.view.readAt (Elt F) (tRect b).toLoadRect f6 = I.lse b
  dlt : ∀ b, arg7.view.readAt (Elt F) (tRect b).toLoadRect f7 = I.dlt b
  ot : ∀ h b, arg8.view.readAt (Elt F) (otRect h b).toLoadRect f8' = I.ot h b
  qt : ∀ h b, arg9.view.readAt (Elt F) (qtRect h b).toLoadRect f9 = I.qt h b

/-- The written buffers hold the state `st`, its parked block in slot `s`. -/
structure Held (s : Fin 2) (st : St F) (f10 : Buf (Elt F) (arg10.view.loc (c : Thread nD τ)))
    (f13 : Buf (Elt F) (arg13.view.loc (c : Thread nD τ))) (f14 : Buf (Elt F) (arg14.view.loc (c : Thread nD τ)))
    (f15 : Buf (Elt F) (arg15.view.loc (c : Thread nD τ))) (f16 : Buf (Elt F) (arg16.view.loc (c : Thread nD τ)))
    (f17 : Buf (Elt F) (arg17.view.loc (c : Thread nD τ))) : Prop where
  sc : ∀ x, arg15.view.readAt (Elt F) (scRect s x).toLoadRect f15 = st.sc x
  pt : ∀ h, arg16.view.readAt (Elt F) (pRect h).toLoadRect f16 = st.pt h
  ds : ∀ h, arg17.view.readAt (Elt F) (pRect h).toLoadRect f17 = st.ds h
  dv : ∀ h, arg13.view.readAt (Elt F) (dvRect h).toLoadRect f13 = st.dv h
  dk : ∀ h, arg14.view.readAt (Elt F) (dkRect h).toLoadRect f14 = st.dk h
  dq : ∀ h b, arg10.view.readAt (Elt F) (qtRect h b).toLoadRect f10 = st.dq h b

/-- The written buffers, at some contents that hold `st`. -/
abbrev heldAt (s : Fin 2) (st : St F) : sProp 𝕄 :=
  iprop(∃ f10, ∃ f13, ∃ f14, ∃ f15, ∃ f16, ∃ f17, own c arg10 f10 ∗ own c arg13 f13 ∗ own c arg14 f14 ∗ own c arg15 f15
    ∗ own c arg16 f16 ∗ own c arg17 f17
    ∗ ⌜Held c arg10 arg13 arg14 arg15 arg16 arg17 s st f10 f13 f14 f15 f16 f17⌝)

end

set_option maxHeartbeats 1000000 in
theorem trip (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S4096x128 .bf16) (harg5 : arg5.IsWhole) (arg6 : Memref sig .tc .vmem S1x8x8x512 .f32) (harg6 : arg6.IsWhole) (arg7 : Memref sig .tc .vmem S1x8x8x512 .f32) (harg7 : arg7.IsWhole) (arg8 : Memref sig .tc .vmem S1x8x128x512 .bf16) (harg8 : arg8.IsWhole) (arg9 : Memref sig .tc .vmem S2x8x128x512 .bf16) (harg9 : arg9.IsWhole) (arg10 : Memref sig .tc .vmem S2x8x128x512 .f32) (harg10 : arg10.IsWhole) (arg11 : Memref sig .tc .vmem S512x256 .f32) (harg11 : arg11.IsWhole) (arg12 : Memref sig .tc .vmem S512x128 .bf16) (harg12 : arg12.IsWhole) (arg13 : Memref sig .tc .vmem S128x512 .f32) (harg13 : arg13.IsWhole) (arg14 : Memref sig .tc .vmem S2x128x512 .f32) (harg14 : arg14.IsWhole) (arg15 : Memref sig .tc .vmem S2x4x512x512 .f32) (harg15 : arg15.IsWhole) (arg16 : Memref sig .tc .vmem S2x512x512 .bf16) (harg16 : arg16.IsWhole) (arg17 : Memref sig .tc .vmem S2x512x512 .bf16) (harg17 : arg17.IsWhole) (v17 : BitVec 32) (I : Opnd F) (v169 : FVec F S512x512 .bf16)
   (f2 : Buf (Elt F) (arg2.view.loc (c : Thread nD τ))) (f5 : Buf (Elt F) (arg5.view.loc (c : Thread nD τ)))
   (f6 : Buf (Elt F) (arg6.view.loc (c : Thread nD τ))) (f7 : Buf (Elt F) (arg7.view.loc (c : Thread nD τ)))
   (f8 : Buf (Elt F) (arg8.view.loc (c : Thread nD τ))) (f9 : Buf (Elt F) (arg9.view.loc (c : Thread nD τ)))
   (hI : Fed c arg2 arg5 arg6 arg7 arg8 arg9 I f2 f5 f6 f7 f8 f9)
   (st : St F) (t : Fin (k0_t1_loop i).trips) :
   iprop(own c arg2 f2 ∗ own c arg5 f5 ∗ own c arg6 f6 ∗ own c arg7 f7 ∗ own c arg8 f8 ∗ own c arg9 f9
     ∗ heldAt c arg10 arg13 arg14 arg15 arg16 arg17 1 st) ⊢
   wp (M := 𝕄) Idealize.ShloMosaic.frame (wpE defs₀ 𝒱₀ (c : Thread nD τ) none) Set.univ
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v17 I.k0 I.k1 I.kt0 I.kt1 I.v k0_pay122 v169 t ())
    fun _ => iprop(own c arg2 f2 ∗ own c arg5 f5 ∗ own c arg6 f6 ∗ own c arg7 f7 ∗ own c arg8 f8 ∗ own c arg9 f9
     ∗ heldAt c arg10 arg13 arg14 arg15 arg16 arg17 1
        (blk I ((i 1).val + 2 * t.val + 2) (blk I ((i 1).val + 2 * t.val + 1) st))) := by
  unfold k0_t1_body
  iintro ⟨H2, H5, H6, H7, H8, H9, %f10, %f13, %f14, %f15, %f16, %f17, H10, H13, H14, H15, H16, H17, %hh⟩
  have hx := t1_trips i
  have ht : t.val < (7 - (i 1).val) / 2 := hx ▸ t.isLt
  sl_exec
  sl_step
  isplitl [H2]; · iexact H2
  isplitl [H5]; · iexact H5
  isplitl [H6]; · iexact H6
  isplitl [H7]; · iexact H7
  isplitl [H8]; · iexact H8
  isplitl [H9]; · iexact H9
  iexists _, _, _, _, _, _
  isplitl [H10]; · iexact H10
  isplitl [H13]; · iexact H13
  isplitl [H14]; · iexact H14
  isplitl [H15]; · iexact H15
  isplitl [H16]; · iexact H16
  isplitl [H17]; · iexact H17
  ipureintro
  have hb0 : (b8 ((i 1).val + 2 * t.val + 1 - 1)).val = (i 1).val + 2 * t.val := b8_val (by omega)
  have hb1 : (b8 ((i 1).val + 2 * t.val + 1)).val = (i 1).val + 2 * t.val + 1 := b8_val (by omega)
  have hb1' : (b8 ((i 1).val + 2 * t.val + 2 - 1)).val = (i 1).val + 2 * t.val + 1 := b8_val (by omega)
  have hb2 : (b8 ((i 1).val + 2 * t.val + 2)).val = (i 1).val + 2 * t.val + 2 := b8_val (by omega)
  have hb2' : (b8 (min ((i 1).val + 2 * t.val + 1 + 1) 7)).val = (i 1).val + 2 * t.val + 2 :=
    (b8_val (by omega)).trans (by omega)
  have hb3 : (b8 (min ((i 1).val + 2 * t.val + 2 + 1) 7)).val = min ((i 1).val + 2 * t.val + 3) 7 := b8_val (by omega)
  have q1 := (readAt_off arg2.view f2 ((off6_1 i t).trans (congrArg (fun n : ℕ => ![512 * n, 0]) hb2'.symm)) _ (k0_off6_inb i t 0)).trans (hI.q (b8 (min ((i 1).val + 2 * t.val + 1 + 1) 7)))
  have q2 := (readAt_off arg2.view f2 ((off6_2 i t).trans (congrArg (fun n : ℕ => ![512 * n, 0]) hb3.symm)) _ (k0_off6_inb i t 1)).trans (hI.q (b8 (min ((i 1).val + 2 * t.val + 2 + 1) 7)))
  have o1 := (readAt_off arg5.view f5 ((off7_1 i t).trans (congrArg (fun n : ℕ => ![512 * n, 0]) hb2'.symm)) _ (k0_off7_inb i t 0)).trans (hI.o (b8 (min ((i 1).val + 2 * t.val + 1 + 1) 7)))
  have o2 := (readAt_off arg5.view f5 ((off7_2 i t).trans (congrArg (fun n : ℕ => ![512 * n, 0]) hb3.symm)) _ (k0_off7_inb i t 1)).trans (hI.o (b8 (min ((i 1).val + 2 * t.val + 2 + 1) 7)))
  have l1 := (readAt_off arg6.view f6 ((off12_1 i t).trans (congrArg (fun n : ℕ => ![0, n, 0, 0]) hb1.symm)) _ (k0_off12_inb i t 0)).trans (hI.lse (b8 ((i 1).val + 2 * t.val + 1)))
  have l2 := (readAt_off arg6.view f6 ((off12_2 i t).trans (congrArg (fun n : ℕ => ![0, n, 0, 0]) hb2.symm)) _ (k0_off12_inb i t 1)).trans (hI.lse (b8 ((i 1).val + 2 * t.val + 2)))
  have d1 := (readAt_off arg7.view f7 ((off12_1 i t).trans (congrArg (fun n : ℕ => ![0, n, 0, 0]) hb1.symm)) _ (k0_off12_inb i t 0)).trans (hI.dlt (b8 ((i 1).val + 2 * t.val + 1)))
  have d2 := (readAt_off arg7.view f7 ((off12_2 i t).trans (congrArg (fun n : ℕ => ![0, n, 0, 0]) hb2.symm)) _ (k0_off12_inb i t 1)).trans (hI.dlt (b8 ((i 1).val + 2 * t.val + 2)))
  have a1 := (readAt_off arg8.view f8 ((off8_1 i t).trans (congrArg (fun n : ℕ => ![0, n, 0, 0]) hb0.symm)) _ (k0_off8_inb i t 0)).trans (hI.ot 0 (b8 ((i 1).val + 2 * t.val + 1 - 1)))
  have a2 := (readAt_off arg8.view f8 ((off8_2 i t).trans (congrArg (fun n : ℕ => ![0, n, 0, 0]) hb1'.symm)) _ (k0_off8_inb i t 1)).trans (hI.ot 0 (b8 ((i 1).val + 2 * t.val + 2 - 1)))
  have b1 := (readAt_off arg8.view f8 ((off10_1 i t).trans (congrArg (fun n : ℕ => ![0, n, 64, 0]) hb0.symm)) _ (k0_off10_inb i t 0)).trans (hI.ot 1 (b8 ((i 1).val + 2 * t.val + 1 - 1)))
  have b2 := (readAt_off arg8.view f8 ((off10_2 i t).trans (congrArg (fun n : ℕ => ![0, n, 64, 0]) hb1'.symm)) _ (k0_off10_inb i t 1)).trans (hI.ot 1 (b8 ((i 1).val + 2 * t.val + 2 - 1)))
  have e1 := (readAt_off arg9.view f9 ((off9_1 i t).trans (congrArg (fun n : ℕ => ![0, n, 0, 0]) hb0.symm)) _ (k0_off9_inb i t 0)).trans (hI.qt 0 (b8 ((i 1).val + 2 * t.val + 1 - 1)))
  have e2 := (readAt_off arg9.view f9 ((off9_2 i t).trans (congrArg (fun n : ℕ => ![0, n, 0, 0]) hb1'.symm)) _ (k0_off9_inb i t 1)).trans (hI.qt 0 (b8 ((i 1).val + 2 * t.val + 2 - 1)))
  have g1 := (readAt_off arg9.view f9 ((off11_1 i t).trans (congrArg (fun n : ℕ => ![1, n, 0, 0]) hb0.symm)) _ (k0_off11_inb i t 0)).trans (hI.qt 1 (b8 ((i 1).val + 2 * t.val + 1 - 1)))
  have g2 := (readAt_off arg9.view f9 ((off11_2 i t).trans (congrArg (fun n : ℕ => ![1, n, 0, 0]) hb1'.symm)) _ (k0_off11_inb i t 1)).trans (hI.qt 1 (b8 ((i 1).val + 2 * t.val + 2 - 1)))
  have u1 := (readAt_off arg10.view f10 ((off9_1 i t).trans (congrArg (fun n : ℕ => ![0, n, 0, 0]) hb0.symm)) _ (k0_off9_inb i t 0)).trans (hh.dq 0 (b8 ((i 1).val + 2 * t.val + 1 - 1)))
  have u2 := (readAt_off arg10.view f10 ((off9_2 i t).trans (congrArg (fun n : ℕ => ![0, n, 0, 0]) hb1'.symm)) _ (k0_off9_inb i t 1)).trans (hh.dq 0 (b8 ((i 1).val + 2 * t.val + 2 - 1)))
  have w1 := (readAt_off arg10.view f10 ((off11_1 i t).trans (congrArg (fun n : ℕ => ![1, n, 0, 0]) hb0.symm)) _ (k0_off11_inb i t 0)).trans (hh.dq 1 (b8 ((i 1).val + 2 * t.val + 1 - 1)))
  have w2 := (readAt_off arg10.view f10 ((off11_2 i t).trans (congrArg (fun n : ℕ => ![1, n, 0, 0]) hb1'.symm)) _ (k0_off11_inb i t 1)).trans (hh.dq 1 (b8 ((i 1).val + 2 * t.val + 2 - 1)))
  have s0 : arg15.view.readAt (Elt F) (Rect.unit (s := S2x4x512x512) ![1, 0, 0, 0] S1x1x512x512.size inb_S2x4x512x512_S1x1x512x512_1_0_0_0).toLoadRect f15 = st.sc 0 := hh.sc 0
  have s1 : arg15.view.readAt (Elt F) (Rect.unit (s := S2x4x512x512) ![1, 1, 0, 0] S1x1x512x512.size inb_S2x4x512x512_S1x1x512x512_1_1_0_0).toLoadRect f15 = st.sc 1 := hh.sc 1
  have s2 : arg15.view.readAt (Elt F) (Rect.unit (s := S2x4x512x512) ![1, 2, 0, 0] S1x1x512x512.size inb_S2x4x512x512_S1x1x512x512_1_2_0_0).toLoadRect f15 = st.sc 2 := hh.sc 2
  have s3 : arg15.view.readAt (Elt F) (Rect.unit (s := S2x4x512x512) ![1, 3, 0, 0] S1x1x512x512.size inb_S2x4x512x512_S1x1x512x512_1_3_0_0).toLoadRect f15 = st.sc 3 := hh.sc 3
  have p0 : arg16.view.readAt (Elt F) (Rect.unit (s := S2x512x512) ![0, 0, 0] S1x512x512.size inb_S2x512x512_S1x512x512_0_0_0).toLoadRect f16 = st.pt 0 := hh.pt 0
  have c0 : arg17.view.readAt (Elt F) (Rect.unit (s := S2x512x512) ![0, 0, 0] S1x512x512.size inb_S2x512x512_S1x512x512_0_0_0).toLoadRect f17 = st.ds 0 := hh.ds 0
  have v0 : arg13.view.readAt (Elt F) (Rect.unit (s := S128x512) ![0, 0] S64x512.size inb_S128x512_S64x512_0_0).toLoadRect f13 = st.dv 0 := hh.dv 0
  have x0 : arg14.view.readAt (Elt F) (Rect.unit (s := S2x128x512) ![0, 0, 0] S1x128x512.size inb_S2x128x512_S1x128x512_0_0_0).toLoadRect f14 = st.dk 0 := hh.dk 0
  have p1 : arg16.view.readAt (Elt F) (Rect.unit (s := S2x512x512) ![1, 0, 0] S1x512x512.size inb_S2x512x512_S1x512x512_1_0_0).toLoadRect f16 = st.pt 1 := hh.pt 1
  have c1 : arg17.view.readAt (Elt F) (Rect.unit (s := S2x512x512) ![1, 0, 0] S1x512x512.size inb_S2x512x512_S1x512x512_1_0_0).toLoadRect f17 = st.ds 1 := hh.ds 1
  have v1 : arg13.view.readAt (Elt F) (Rect.unit (s := S128x512) ![64, 0] S64x512.size inb_S128x512_S64x512_64_0).toLoadRect f13 = st.dv 1 := hh.dv 1
  have x1 : arg14.view.readAt (Elt F) (Rect.unit (s := S2x128x512) ![1, 0, 0] S1x128x512.size inb_S2x128x512_S1x128x512_1_0_0).toLoadRect f14 = st.dk 1 := hh.dk 1
  sl_unfold_run_names
  simp only [q1, q2, o1, o2, l1, l2, d1, d2, a1, a2, b1, b2, e1, e2, g1, g2, u1, u2, w1, w2, s0, s1, s2, s3, p0, p1, c0, c1, v0,
    v1, x0, x1, readCov_eq]
  simp (disch := decide) only [readAt_hit, readAt_miss']
  have n12 : b8 ((i 1).val + 2 * t.val + 2 - 1) ≠ b8 ((i 1).val + 2 * t.val + 1 - 1) := fun e => by
    have := congrArg Fin.val e; omega
  constructor
  · intro x
    fin_cases x <;> simp (disch := decide) only [readAt_hit, readAt_miss'] <;> rfl
  · intro x
    fin_cases x <;> simp (disch := decide) only [readAt_hit, readAt_miss'] <;> rfl
  · intro x
    fin_cases x <;> simp (disch := decide) only [readAt_hit, readAt_miss'] <;> rfl
  · intro x
    fin_cases x <;> simp (disch := decide) only [readAt_hit, readAt_miss'] <;> rfl
  · intro x
    fin_cases x <;> simp (disch := decide) only [readAt_hit, readAt_miss'] <;> rfl
  · intro h b
    have r1 := (off9_1 i t).trans (congrArg (fun n : ℕ => ![0, n, 0, 0]) hb0.symm)
    have r2 := (off9_2 i t).trans (congrArg (fun n : ℕ => ![0, n, 0, 0]) hb1'.symm)
    have r3 := (off11_1 i t).trans (congrArg (fun n : ℕ => ![1, n, 0, 0]) hb0.symm)
    have r4 := (off11_2 i t).trans (congrArg (fun n : ℕ => ![1, n, 0, 0]) hb1'.symm)
    refine (dq_cons arg10.view f10 h 1 b _ r4 _ _ _).trans ?_
    rw [dq_cons arg10.view f10 h 0 b _ r2, dq_cons arg10.view f10 h 1 b _ r3, dq_cons arg10.view f10 h 0 b _ r1]
    rw [View.writes_nil, hh.dq h b]
    by_cases e2 : b = b8 ((i 1).val + 2 * t.val + 2 - 1)
    · subst e2
      fin_cases h
      · simp only [blk, grads, n12, if_false, if_true, and_true, and_false, Fin.isValue]
        rfl
      · simp only [blk, grads, n12, if_false, if_true, and_true, and_false, Fin.isValue]
        rfl
    · by_cases e1 : b = b8 ((i 1).val + 2 * t.val + 1 - 1)
      · subst e1
        fin_cases h
        · simp only [blk, grads, e2, if_false, if_true, and_true, and_false, Fin.isValue]
          rfl
        · simp only [blk, grads, e2, if_false, if_true, and_true, and_false, Fin.isValue]
          rfl
      · simp only [blk, grads, e1, e2, if_false, and_false]
end Cert.KernelIdeal.Fox
end
-- ==== Proof.Body.lean ====
module

public import proofs.«01_k».proof.Proof.Trip
public import Idealize.ShloMosaic.Lib.ValueIdx

@[expose] public section

set_option maxRecDepth 16384

noncomputable section
namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ (UR sig nD τ) ℕ

/-- The whole `dV` scratch, of the two heads' halves. -/
def dvWhole (dv : Fin 2 → Vec F S64x512 .f32) : Vec F S128x512 .f32 :=
  fun x => if h : (x 0).val < 64 then dv 0 (ValueIdx.ix2 ⟨(x 0).val, h⟩ ⟨(x 1).val, (x 1).isLt⟩)
    else dv 1 (ValueIdx.ix2 ⟨(x 0).val - 64, by have h1 : (x 0).val < 128 := (x 0).isLt; omega⟩ ⟨(x 1).val, (x 1).isLt⟩)

/-- The whole scratch read at once is its two halves. -/
theorem dvWhole_read {κ : Kind} {sp : Space} (v : View sig κ sp S128x512 .f32) (f : v.ty.Contents (Elt F)) :
    (v.readAt (Elt F) (Rect.unit (s := S128x512) ![0, 0] S128x512.size inb_S128x512_S128x512_0_0).toLoadRect f : S128x512.Idx → F .f32)
      = dvWhole ![v.readAt (Elt F) (Rect.unit (s := S128x512) ![0, 0] S64x512.size inb_S128x512_S64x512_0_0).toLoadRect f,
          v.readAt (Elt F) (Rect.unit (s := S128x512) ![64, 0] S64x512.size inb_S128x512_S64x512_64_0).toLoadRect f] := by
  funext x
  rw [View.readAt_apply]
  unfold dvWhole
  split
  · show _ = View.readAt _ _ _ _ _
    rw [View.readAt_apply]
    refine congrArg _ (funext fun a => Fin.ext ?_)
    fin_cases a
    · rfl
    · rfl
  · show _ = View.readAt _ _ _ _ _
    rw [View.readAt_apply]
    refine congrArg _ (funext fun a => Fin.ext ?_)
    fin_cases a
    · show 0 + 1 * (x 0).val = 64 + 1 * ((x 0).val - 64)
      omega
    · rfl

/-- The three result buffers hold what the state `st` says. -/
structure Done (c : Dev nD) (arg10 : Memref sig .tc .vmem S2x8x128x512 .f32) (arg11 : Memref sig .tc .vmem S512x256 .f32)
    (arg12 : Memref sig .tc .vmem S512x128 .bf16) (st : St F) (f10 : Buf (Elt F) (arg10.view.loc (c : Thread nD τ)))
    (f11 : Buf (Elt F) (arg11.view.loc (c : Thread nD τ))) (f12 : Buf (Elt F) (arg12.view.loc (c : Thread nD τ))) : Prop where
  dq : ∀ h b, arg10.view.readAt (Elt F) (qtRect h b).toLoadRect f10 = st.dq h b
  dk0 : arg11.view.readAt (Elt F) (Rect.unit (s := S512x256) ![0, 0] S512x128.size inb_S512x256_S512x128_0_0).toLoadRect f11 = k0_pay164 (st.dk 0)
  dk1 : arg11.view.readAt (Elt F) (Rect.unit (s := S512x256) ![0, 128] S512x128.size inb_S512x256_S512x128_0_128).toLoadRect f11 = k0_pay1 (k0_pay165 (st.dk 1))
  dv : arg12.view.readAt (Elt F) (Rect.unit (s := S512x128) ![0, 0] S512x128.size inb_S512x128_S512x128_0_0).toLoadRect f12 = k0_pay163 (dvWhole st.dv)

theorem grads_hit0 (I : Opnd F) (b : Fin 8) (st : St F) : (grads I b st).dq 0 b = k0_pay11 I.kt0 (st.dq 0 b) (st.ds 0) := by
  unfold grads
  exact if_pos rfl
theorem grads_hit1 (I : Opnd F) (b : Fin 8) (st : St F) : (grads I b st).dq 1 b = k0_pay16 I.kt1 (st.dq 1 b) (st.ds 1) := by
  unfold grads
  exact if_pos rfl
theorem grads_miss (I : Opnd F) {b b' : Fin 8} (st : St F) (h : Fin 2) (hb : b' ≠ b) : (grads I b st).dq h b' = st.dq h b' := by
  unfold grads
  exact if_neg hb
theorem blk7_dq (I : Opnd F) (st : St F) : (blk I 7 st).dq = (grads I 6 st).dq := rfl
theorem blk_ds (I : Opnd F) (n : ℕ) (st : St F) : (blk I n st).ds = dsN I (b8 n) st.sc := rfl

/-- A box read from a store of the whole buffer. -/
theorem readAt_whole {sig : RefSig} {κ : Kind} {sp : Space} {s : Shape} {e : EltTy} {Val : EltTy → Type} (v : View sig κ sp s e)
    (f : v.ty.Contents Val) {off : Fin s.rank → ℕ} (inb0 : ∀ a, off a + s.size a ≤ s.size a)
    (w : (Rect.unit off s.size inb0).shape.Idx → Val e) (R : Rect s) :
    v.readAt Val R.toLoadRect (v.writes Val f [⟨Rect.unit off s.size inb0, w⟩]) = fun x => w (R.emb x) := by
  funext x
  rw [View.readAt_apply]
  have h : R.toLoadRect.idx x = (Rect.unit off s.size inb0).emb (R.emb x) := by
    funext a
    apply Fin.ext
    have h0 : off a = 0 := by have := inb0 a; omega
    show (R.emb x a).val = off a + 1 * (R.emb x a).val
    omega
  rw [h]
  exact View.read_writes_cons_emb v f _ w [] (R.emb x)

set_option maxHeartbeats 1000000 in
theorem bodyRun (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S4096x128 .bf16) (harg5 : arg5.IsWhole) (arg6 : Memref sig .tc .vmem S1x8x8x512 .f32) (harg6 : arg6.IsWhole) (arg7 : Memref sig .tc .vmem S1x8x8x512 .f32) (harg7 : arg7.IsWhole) (arg8 : Memref sig .tc .vmem S1x8x128x512 .bf16) (harg8 : arg8.IsWhole) (arg9 : Memref sig .tc .vmem S2x8x128x512 .bf16) (harg9 : arg9.IsWhole) (arg10 : Memref sig .tc .vmem S2x8x128x512 .f32) (harg10 : arg10.IsWhole) (arg11 : Memref sig .tc .vmem S512x256 .f32) (harg11 : arg11.IsWhole) (arg12 : Memref sig .tc .vmem S512x128 .bf16) (harg12 : arg12.IsWhole) (arg13 : Memref sig .tc .vmem S128x512 .f32) (harg13 : arg13.IsWhole) (arg14 : Memref sig .tc .vmem S2x128x512 .f32) (harg14 : arg14.IsWhole) (arg15 : Memref sig .tc .vmem S2x4x512x512 .f32) (harg15 : arg15.IsWhole) (arg16 : Memref sig .tc .vmem S2x512x512 .bf16) (harg16 : arg16.IsWhole) (arg17 : Memref sig .tc .vmem S2x512x512 .bf16) (harg17 : arg17.IsWhole)
   (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ)))
   (f6 : Buf (Elt F) (arg6.view.loc (c : Thread nD τ))) (f7 : Buf (Elt F) (arg7.view.loc (c : Thread nD τ)))
   (f8 : Buf (Elt F) (arg8.view.loc (c : Thread nD τ))) (f9 : Buf (Elt F) (arg9.view.loc (c : Thread nD τ)))
   (f10 : Buf (Elt F) (arg10.view.loc (c : Thread nD τ))) (f11 : Buf (Elt F) (arg11.view.loc (c : Thread nD τ))) (f12 : Buf (Elt F) (arg12.view.loc (c : Thread nD τ)))
   (f13 : Buf (Elt F) (arg13.view.loc (c : Thread nD τ))) (f14 : Buf (Elt F) (arg14.view.loc (c : Thread nD τ)))
   (f15 : Buf (Elt F) (arg15.view.loc (c : Thread nD τ))) (f16 : Buf (Elt F) (arg16.view.loc (c : Thread nD τ)))
   (f17 : Buf (Elt F) (arg17.view.loc (c : Thread nD τ))) (I : Opnd F) (dq : Fin 2 → Fin 8 → Vec F S1x1x128x512 .f32) (hI : Fed c arg2 arg5 arg6 arg7 arg8 arg9 I f2 f5 f6 f7 f8 f9)
   (hk0 : I.k0 = k0_pay116 (arg3.view.readAt (Elt F) (Rect.unit (s := S512x256) ![0, 0] S512x128.size inb_S512x256_S512x128_0_0).toLoadRect f3))
   (hk1 : I.k1 = k0_pay117 (arg3.view.readAt (Elt F) (Rect.unit (s := S512x256) ![0, 128] S512x128.size inb_S512x256_S512x128_0_128).toLoadRect f3))
   (hkt0 : I.kt0 = k0_pay119 (k0_pay118 (arg3.view.readAt (Elt F) (Rect.unit (s := S512x256) ![0, 0] S512x128.size inb_S512x256_S512x128_0_0).toLoadRect f3)))
   (hkt1 : I.kt1 = k0_pay120 (k0_pay117 (arg3.view.readAt (Elt F) (Rect.unit (s := S512x256) ![0, 128] S512x128.size inb_S512x256_S512x128_0_128).toLoadRect f3)))
   (hv : I.v = k0_pay121 (arg4.view.readAt (Elt F) (Rect.unit (s := S512x128) ![0, 0] S512x128.size inb_S512x128_S512x128_0_0).toLoadRect f4))
   (K : PUnit → sProp 𝕄)
   (hdq : ∀ h b, dq h b = if (i 1).val = 0 then (fun x => k0_pay113 ((qtRect h b).emb x)) else arg10.view.readAt (Elt F) (qtRect h b).toLoadRect f10)
   :
   iprop(own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13 ∗ own c arg14 f14 ∗ own c arg15 f15 ∗ own c arg16 f16 ∗ own c arg17 f17
     ∗ (iprop(own c arg2 f2 ∗ own c arg3 f3 ∗ own c arg4 f4 ∗ own c arg5 f5 ∗ own c arg6 f6 ∗ own c arg7 f7 ∗ own c arg8 f8 ∗ own c arg9 f9
        ∗ ∃ f10, ∃ f11, ∃ f12, ∃ f13, ∃ f14, ∃ f15, ∃ f16, ∃ f17, own c arg10 f10 ∗ own c arg11 f11 ∗ own c arg12 f12 ∗ own c arg13 f13 ∗ own c arg14 f14
          ∗ own c arg15 f15 ∗ own c arg16 f16 ∗ own c arg17 f17
          ∗ ⌜Done c arg10 arg11 arg12 (stEnd I (BitVec.ofNat 32 (i 1).val) (BitVec.ofNat 32 (i 1).val) (i 1).val dq) f10 f11 f12⌝) -∗ K ⟨⟩)) ⊢
   wp (M := 𝕄) Idealize.ShloMosaic.frame (wpE defs₀ 𝒱₀ (c : Thread nD τ) none) Set.univ
    (cc0_fox_bwd_l1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
    K := by
  obtain ⟨k0, k1, kt0, kt1, v, q, o, lse, dlt, ot, qt⟩ := I
  dsimp only at hk0 hk1 hkt0 hkt1 hv
  have hIq := hI.q
  have hIo := hI.o
  have hIl := hI.lse
  have hId := hI.dlt
  have hIa := hI.ot
  have hIe := hI.qt
  dsimp only at hIq hIo hIl hId hIa hIe
  subst hk0 hk1 hkt0 hkt1 hv
  iintro ⟨H2, H3, H4, H5, H6, H7, H8, H9, H10, H11, H12, H13, H14, H15, H16, H17, Hk⟩
  sl_exec
  have hw : bodyRun.sl.v17 i = BitVec.ofNat 32 (i 1).val :=
    (by decide +kernel : ∀ i : grid0.Coords, bodyRun.sl.v17 i = BitVec.ofNat 32 (i 1).val) i
  have hz : bodyRun.sl.v20 i = 1#1 ↔ (i 1).val = 0 :=
    (by decide +kernel : ∀ i : grid0.Coords, bodyRun.sl.v20 i = 1#1 ↔ (i 1).val = 0) i
  sl_for (fun (k : ℕ) (_ : Unit) => iprop(own c arg2 f2 ∗ own c arg5 f5 ∗ own c arg6 f6 ∗ own c arg7 f7 ∗ own c arg8 f8 ∗ own c arg9 f9
     ∗ heldAt c arg10 arg13 arg14 arg15 arg16 arg17 1
        (stB ⟨_, _, _, _, _, q, o, lse, dlt, ot, qt⟩ (BitVec.ofNat 32 (i 1).val) (bodyRun.sl.v17 i) (i 1).val dq (2 * k)))) $$ [H2 H5 H6 H7 H8 H9 H10 H13 H14 H15 H16 H17]
  case region =>
    intro k acc
    exact trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ f2 f5 f6 f7 f8 f9 hI _ k
  · isplitl [H2]; · iexact H2
    isplitl [H5]; · iexact H5
    isplitl [H6]; · iexact H6
    isplitl [H7]; · iexact H7
    isplitl [H8]; · iexact H8
    isplitl [H9]; · iexact H9
    iexists _, _, _, _, _, _
    isplitl [H10]; · iexact H10
    isplitl [H13]; · iexact H13
    isplitl [H14]; · iexact H14
    isplitl [H15]; · iexact H15
    isplitl [H16]; · iexact H16
    isplitl [H17]; · iexact H17
    ipureintro
    have hj : (i 1).val < 8 := (i 1).isLt
    have hb0 : (b8 (i 1).val).val = (i 1).val := b8_val hj
    have hb1 : (b8 (min ((i 1).val + 1) 7)).val = min ((i 1).val + 1) 7 := b8_val (by omega)
    have q1 := (readAt_off arg2.view f2 ((k0_off1_eq i).trans (congrArg (fun n : ℕ => ![512 * n, 0]) hb0.symm)) _ (k0_off1_inb i)).trans (hIq (b8 (i 1).val))
    have q2 := (readAt_off arg2.view f2 ((k0_off3_eq i).trans (congrArg (fun n : ℕ => ![512 * n, 0]) hb1.symm)) _ (k0_off3_inb i)).trans (hIq (b8 (min ((i 1).val + 1) 7)))
    have o1 := (readAt_off arg5.view f5 ((k0_off2_eq i).trans (congrArg (fun n : ℕ => ![512 * n, 0]) hb0.symm)) _ (k0_off2_inb i)).trans (hIo (b8 (i 1).val))
    have o2 := (readAt_off arg5.view f5 ((k0_off4_eq i).trans (congrArg (fun n : ℕ => ![512 * n, 0]) hb1.symm)) _ (k0_off4_inb i)).trans (hIo (b8 (min ((i 1).val + 1) 7)))
    have l1 := (readAt_off arg6.view f6 ((k0_off5_eq i).trans (congrArg (fun n : ℕ => ![0, n, 0, 0]) hb0.symm)) _ (k0_off5_inb i)).trans (hIl (b8 (i 1).val))
    have d1 := (readAt_off arg7.view f7 ((k0_off5_eq i).trans (congrArg (fun n : ℕ => ![0, n, 0, 0]) hb0.symm)) _ (k0_off5_inb i)).trans (hId (b8 (i 1).val))
    sl_unfold_run_names
    simp only [q1, q2, o1, o2, l1, d1, readCov_eq]
    simp (disch := decide) only [readAt_hit, readAt_miss']
    constructor
    · intro x
      fin_cases x <;> simp (disch := decide) only [readAt_hit, readAt_miss'] <;> rfl
    · intro x
      fin_cases x <;> simp (disch := decide) only [readAt_hit, readAt_miss'] <;> rfl
    · intro x
      fin_cases x <;> simp (disch := decide) only [readAt_hit, readAt_miss'] <;> rfl
    · intro x
      exact readAt_whole arg13.view _ _ _ _
    · intro x
      exact readAt_whole arg14.view _ _ _ _
    · intro h b
      refine Eq.trans ?_ (hdq h b).symm
      by_cases hc : (i 1).val = 0
      · rw [if_pos hc]
        split
        · exact readAt_whole arg10.view _ _ _ _
        · rename_i h'
          exact absurd (hz.mpr hc) h'
      · rw [if_neg hc]
        split
        · rename_i h'
          exact absurd (hz.mp h') hc
        · rfl
  iintro %acc ⟨H2, H5, H6, H7, H8, H9, %g10, %g13, %g14, %g15, %g16, %g17, H10, H13, H14, H15, H16, H17, %hh⟩
  rw [hw] at hh
  sl_exec
  sl_for0 (t2_trips i)
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _, _, _, _, _, _, _, _
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  ipureintro
  clear hw hz
  have hj : (i 1).val < 8 := (i 1).isLt
  have hc2 : k0_cond2 i = 1#1 ↔ (7 - (i 1).val) % 2 = 1 :=
    (by decide +kernel : ∀ i : grid0.Coords, k0_cond2 i = 1#1 ↔ (7 - (i 1).val) % 2 = 1) i
  have hn : Scf.trips (k0_t1_loop i).lb (k0_t1_loop i).ub (k0_t1_loop i).st = (7 - (i 1).val) / 2 := t1_trips i
  rw [hn] at hh
  generalize hst : stB _ (BitVec.ofNat 32 (i 1).val) (BitVec.ofNat 32 (i 1).val) (i 1).val dq (2 * ((7 - (i 1).val) / 2)) = st at hh
  have a06 : arg8.view.readAt (Elt F) (Rect.unit (s := S1x8x128x512) ![0, 6, 0, 0] S1x1x64x512.size inb_S1x8x128x512_S1x1x64x512_0_6_0_0).toLoadRect f8 = ot 0 6 := hIa 0 6
  have e06 : arg9.view.readAt (Elt F) (Rect.unit (s := S2x8x128x512) ![0, 6, 0, 0] S1x1x128x512.size inb_S2x8x128x512_S1x1x128x512_0_6_0_0).toLoadRect f9 = qt 0 6 := hIe 0 6
  have u06 : arg10.view.readAt (Elt F) (Rect.unit (s := S2x8x128x512) ![0, 6, 0, 0] S1x1x128x512.size inb_S2x8x128x512_S1x1x128x512_0_6_0_0).toLoadRect g10 = st.dq 0 6 := hh.dq 0 6
  have a16 : arg8.view.readAt (Elt F) (Rect.unit (s := S1x8x128x512) ![0, 6, 64, 0] S1x1x64x512.size inb_S1x8x128x512_S1x1x64x512_0_6_64_0).toLoadRect f8 = ot 1 6 := hIa 1 6
  have e16 : arg9.view.readAt (Elt F) (Rect.unit (s := S2x8x128x512) ![1, 6, 0, 0] S1x1x128x512.size inb_S2x8x128x512_S1x1x128x512_1_6_0_0).toLoadRect f9 = qt 1 6 := hIe 1 6
  have u16 : arg10.view.readAt (Elt F) (Rect.unit (s := S2x8x128x512) ![1, 6, 0, 0] S1x1x128x512.size inb_S2x8x128x512_S1x1x128x512_1_6_0_0).toLoadRect g10 = st.dq 1 6 := hh.dq 1 6
  have a07 : arg8.view.readAt (Elt F) (Rect.unit (s := S1x8x128x512) ![0, 7, 0, 0] S1x1x64x512.size inb_S1x8x128x512_S1x1x64x512_0_7_0_0).toLoadRect f8 = ot 0 7 := hIa 0 7
  have e07 : arg9.view.readAt (Elt F) (Rect.unit (s := S2x8x128x512) ![0, 7, 0, 0] S1x1x128x512.size inb_S2x8x128x512_S1x1x128x512_0_7_0_0).toLoadRect f9 = qt 0 7 := hIe 0 7
  have u07 : arg10.view.readAt (Elt F) (Rect.unit (s := S2x8x128x512) ![0, 7, 0, 0] S1x1x128x512.size inb_S2x8x128x512_S1x1x128x512_0_7_0_0).toLoadRect g10 = st.dq 0 7 := hh.dq 0 7
  have a17 : arg8.view.readAt (Elt F) (Rect.unit (s := S1x8x128x512) ![0, 7, 64, 0] S1x1x64x512.size inb_S1x8x128x512_S1x1x64x512_0_7_64_0).toLoadRect f8 = ot 1 7 := hIa 1 7
  have e17 : arg9.view.readAt (Elt F) (Rect.unit (s := S2x8x128x512) ![1, 7, 0, 0] S1x1x128x512.size inb_S2x8x128x512_S1x1x128x512_1_7_0_0).toLoadRect f9 = qt 1 7 := hIe 1 7
  have u17 : arg10.view.readAt (Elt F) (Rect.unit (s := S2x8x128x512) ![1, 7, 0, 0] S1x1x128x512.size inb_S2x8x128x512_S1x1x128x512_1_7_0_0).toLoadRect g10 = st.dq 1 7 := hh.dq 1 7
  have l7 : arg6.view.readAt (Elt F) (Rect.unit (s := S1x8x8x512) ![0, 7, 0, 0] S1x1x8x512.size inb_S1x8x8x512_S1x1x8x512_0_7_0_0).toLoadRect f6 = lse 7 := hIl 7
  have d7 : arg7.view.readAt (Elt F) (Rect.unit (s := S1x8x8x512) ![0, 7, 0, 0] S1x1x8x512.size inb_S1x8x8x512_S1x1x8x512_0_7_0_0).toLoadRect f7 = dlt 7 := hId 7
  have s0 : arg15.view.readAt (Elt F) (Rect.unit (s := S2x4x512x512) ![1, 0, 0, 0] S1x1x512x512.size inb_S2x4x512x512_S1x1x512x512_1_0_0_0).toLoadRect g15 = st.sc 0 := hh.sc 0
  have s1 : arg15.view.readAt (Elt F) (Rect.unit (s := S2x4x512x512) ![1, 1, 0, 0] S1x1x512x512.size inb_S2x4x512x512_S1x1x512x512_1_1_0_0).toLoadRect g15 = st.sc 1 := hh.sc 1
  have s2 : arg15.view.readAt (Elt F) (Rect.unit (s := S2x4x512x512) ![1, 2, 0, 0] S1x1x512x512.size inb_S2x4x512x512_S1x1x512x512_1_2_0_0).toLoadRect g15 = st.sc 2 := hh.sc 2
  have s3 : arg15.view.readAt (Elt F) (Rect.unit (s := S2x4x512x512) ![1, 3, 0, 0] S1x1x512x512.size inb_S2x4x512x512_S1x1x512x512_1_3_0_0).toLoadRect g15 = st.sc 3 := hh.sc 3
  have p0 : arg16.view.readAt (Elt F) (Rect.unit (s := S2x512x512) ![0, 0, 0] S1x512x512.size inb_S2x512x512_S1x512x512_0_0_0).toLoadRect g16 = st.pt 0 := hh.pt 0
  have c0 : arg17.view.readAt (Elt F) (Rect.unit (s := S2x512x512) ![0, 0, 0] S1x512x512.size inb_S2x512x512_S1x512x512_0_0_0).toLoadRect g17 = st.ds 0 := hh.ds 0
  have v0 : arg13.view.readAt (Elt F) (Rect.unit (s := S128x512) ![0, 0] S64x512.size inb_S128x512_S64x512_0_0).toLoadRect g13 = st.dv 0 := hh.dv 0
  have x0 : arg14.view.readAt (Elt F) (Rect.unit (s := S2x128x512) ![0, 0, 0] S1x128x512.size inb_S2x128x512_S1x128x512_0_0_0).toLoadRect g14 = st.dk 0 := hh.dk 0
  have p1 : arg16.view.readAt (Elt F) (Rect.unit (s := S2x512x512) ![1, 0, 0] S1x512x512.size inb_S2x512x512_S1x512x512_1_0_0).toLoadRect g16 = st.pt 1 := hh.pt 1
  have c1 : arg17.view.readAt (Elt F) (Rect.unit (s := S2x512x512) ![1, 0, 0] S1x512x512.size inb_S2x512x512_S1x512x512_1_0_0).toLoadRect g17 = st.ds 1 := hh.ds 1
  have v1 : arg13.view.readAt (Elt F) (Rect.unit (s := S128x512) ![64, 0] S64x512.size inb_S128x512_S64x512_64_0).toLoadRect g13 = st.dv 1 := hh.dv 1
  have x1 : arg14.view.readAt (Elt F) (Rect.unit (s := S2x128x512) ![1, 0, 0] S1x128x512.size inb_S2x128x512_S1x128x512_1_0_0).toLoadRect g14 = st.dk 1 := hh.dk 1
  by_cases hc : k0_cond2 i = 1#1
  · have hm := hc2.mp hc
    have hq : View.readAt (Elt F) arg2.view (Rect.unit (s := S4096x256) k0_off20 S512x256.size (fun a => k0_off20_inb i hc a)).toLoadRect f2 = q 7 :=
      (readAt_off arg2.view f2 k0_off20_eq (by decide) (fun a => k0_off20_inb i hc a)).trans (hIq 7)
    have ho : View.readAt (Elt F) arg5.view (Rect.unit (s := S4096x128) k0_off21 S512x128.size (fun a => k0_off21_inb i hc a)).toLoadRect f5 = o 7 :=
      (readAt_off arg5.view f5 k0_off21_eq (by decide) (fun a => k0_off21_inb i hc a)).trans (hIo 7)
    have hE : ∀ I : Opnd F, stEnd I (BitVec.ofNat 32 (i 1).val) (BitVec.ofNat 32 (i 1).val) (i 1).val dq
        = grads I 7 (blk I 7 (stB I (BitVec.ofNat 32 (i 1).val) (BitVec.ofNat 32 (i 1).val) (i 1).val dq (2 * ((7 - (i 1).val) / 2)))) := by
      intro I
      have e1 : 7 - (i 1).val = 2 * ((7 - (i 1).val) / 2) + 1 := by omega
      have e2 : (i 1).val + 2 * ((7 - (i 1).val) / 2) + 1 = 7 := by omega
      unfold stEnd
      conv_lhs => rw [e1]
      show grads I 7 (blk I ((i 1).val + 2 * ((7 - (i 1).val) / 2) + 1) _) = _
      rw [e2]
    rw [hE, hst]
    clear hst hE hc2
    sl_unfold_run_names
    simp only [hc, ↓reduceDIte, hq, ho, a06, e06, u06, a16, e16, u16, a07, e07, u07, a17, e17, u17, l7, d7, s0, s1, s2, s3, p0, c0, v0, x0, p1, c1, v1, x1, readCov_eq]
    simp (disch := decide) only [readAt_hit, readAt_miss', View.writes_nil, a06, e06, u06, a16, e16, u16, a07, e07, u07, a17, e17, u17, l7, d7, s0, s1, s2, s3, p0, c0, v0, x0, p1, c1, v1, x1]
    constructor
    · intro h b
      refine (dq_cons arg10.view _ h 1 b 7 rfl _ _ _).trans (.trans (if_congr Iff.rfl rfl
        ((dq_cons arg10.view _ h 0 b 7 rfl _ _ _).trans (if_congr Iff.rfl rfl
          ((congrArg _ (View.writes_nil _ _)).trans ((dq_cons arg10.view g10 h 1 b 6 rfl _ _ _).trans (if_congr Iff.rfl rfl
            ((dq_cons arg10.view g10 h 0 b 6 rfl _ _ _).trans (if_congr Iff.rfl rfl
              ((congrArg _ (View.writes_nil _ _)).trans (hh.dq h b)))))))))) ?_)
      by_cases e2 : b = 7
      · subst e2
        rcases (by decide : ∀ h : Fin 2, h = 0 ∨ h = 1) h with rfl | rfl
        · rw [if_neg (by decide), if_pos ⟨rfl, rfl⟩, grads_hit0, blk7_dq, grads_miss _ _ _ (by decide), blk_ds]
          rfl
        · rw [if_pos ⟨rfl, rfl⟩, grads_hit1, blk7_dq, grads_miss _ _ _ (by decide), blk_ds]
          rfl
      · by_cases e1 : b = 6
        · subst e1
          rcases (by decide : ∀ h : Fin 2, h = 0 ∨ h = 1) h with rfl | rfl
          · rw [if_neg (by decide), if_neg (by decide), if_neg (by decide), if_pos ⟨rfl, rfl⟩]
            rw [grads_miss _ _ _ (by decide), blk7_dq]
            rw [grads_hit0]; rfl
          · rw [if_neg (by decide), if_neg (by decide), if_pos ⟨rfl, rfl⟩]
            rw [grads_miss _ _ _ (by decide), blk7_dq]
            rw [grads_hit1]; rfl
        · rw [if_neg (fun hx => e2 hx.2), if_neg (fun hx => e2 hx.2), if_neg (fun hx => e1 hx.2), if_neg (fun hx => e1 hx.2)]
          rw [grads_miss _ _ _ e2, blk7_dq, grads_miss _ _ _ e1]
    · simp (disch := decide) only [readAt_hit, readAt_miss']
      rfl
    · simp (disch := decide) only [readAt_hit, readAt_miss']
      rfl
    · refine (readAt_hit arg12.view f12 rfl _ _ _ []).trans (congrArg k0_pay163 ((dvWhole_read _ _).trans (congrArg dvWhole (funext fun h => ?_))))
      fin_cases h <;> simp (disch := decide) only [readAt_hit, readAt_miss'] <;> rfl
  · have hm : (7 - (i 1).val) % 2 = 0 := by
      rcases Nat.mod_two_eq_zero_or_one (7 - (i 1).val) with h | h
      · exact h
      · exact absurd (hc2.mpr h) hc
    have hE : ∀ I : Opnd F, stEnd I (BitVec.ofNat 32 (i 1).val) (BitVec.ofNat 32 (i 1).val) (i 1).val dq
        = grads I 7 (stB I (BitVec.ofNat 32 (i 1).val) (BitVec.ofNat 32 (i 1).val) (i 1).val dq (2 * ((7 - (i 1).val) / 2))) := by
      intro I
      have e1 : 7 - (i 1).val = 2 * ((7 - (i 1).val) / 2) := by omega
      unfold stEnd
      conv_lhs => rw [e1]
    rw [hE, hst]
    clear hst hE hc2
    sl_unfold_run_names
    simp only [hc, ↓reduceDIte, a06, e06, u06, a16, e16, u16, a07, e07, u07, a17, e17, u17, l7, d7, s0, s1, s2, s3, p0, c0, v0, x0, p1, c1, v1, x1, readCov_eq]
    simp (disch := decide) only [readAt_hit, readAt_miss', View.writes_nil, a06, e06, u06, a16, e16, u16, a07, e07, u07, a17, e17, u17, l7, d7, s0, s1, s2, s3, p0, c0, v0, x0, p1, c1, v1, x1]
    constructor
    · intro h b
      refine (dq_cons arg10.view _ h 1 b 7 rfl _ _ _).trans (.trans (if_congr Iff.rfl rfl
        ((dq_cons arg10.view _ h 0 b 7 rfl _ _ _).trans (if_congr Iff.rfl rfl
          ((congrArg _ (View.writes_nil _ _)).trans (hh.dq h b))))) ?_)
      by_cases e2 : b = 7
      · subst e2
        rcases (by decide : ∀ h : Fin 2, h = 0 ∨ h = 1) h with rfl | rfl
        · rw [if_neg (by decide), if_pos ⟨rfl, rfl⟩]
          rw [grads_hit0]; rfl
        · rw [if_pos ⟨rfl, rfl⟩]
          rw [grads_hit1]; rfl
      · rw [if_neg (fun hx => e2 hx.2), if_neg (fun hx => e2 hx.2)]
        rw [grads_miss _ _ _ e2]
    · simp (disch := decide) only [readAt_hit, readAt_miss']
      rfl
    · simp (disch := decide) only [readAt_hit, readAt_miss']
      rfl
    · refine (readAt_hit arg12.view f12 rfl _ _ _ []).trans (congrArg k0_pay163 ((dvWhole_read _ _).trans (congrArg dvWhole (funext fun h => ?_))))
      fin_cases h <;> simp (disch := decide) only [readAt_hit, readAt_miss'] <;> rfl
end Cert.KernelIdeal.Fox
end
-- ==== Proof.Run.lean ====
module

public import proofs.«01_k».proof.Proof.Body
public import proofs.«01_k».proof.Proof.Gen.KernelIdeal.Frame

/-! The launch: what the grid's points leave in the result windows, and the run of the whole program. -/

@[expose] public section

set_option maxRecDepth 16384

noncomputable section
namespace Cert.KernelIdeal.Fox

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
local notation "𝕄" => MT nD τ sig Unit (Elt F) ℕ (UR sig nD τ) ℕ

/-- The operands a grid point's blocks give. -/
def opndOf (x0 : Vec F S4096x256 .bf16) (x1 : Vec F S512x256 .bf16) (x2 : Vec F S512x128 .f32) (x3 : Vec F S4096x128 .bf16) (x4 : Vec F S1x8x8x512 .f32) (x5 : Vec F S1x8x8x512 .f32) (x6 : Vec F S1x8x128x512 .bf16) (x7 : Vec F S2x8x128x512 .bf16) : Opnd F where
  k0 := k0_pay116 (View.ld (Val := Elt F) x1 (Rect.unit (s := S512x256) ![0, 0] S512x128.size inb_S512x256_S512x128_0_0))
  k1 := k0_pay117 (View.ld (Val := Elt F) x1 (Rect.unit (s := S512x256) ![0, 128] S512x128.size inb_S512x256_S512x128_0_128))
  kt0 := k0_pay119 (k0_pay118 (View.ld (Val := Elt F) x1 (Rect.unit (s := S512x256) ![0, 0] S512x128.size inb_S512x256_S512x128_0_0)))
  kt1 := k0_pay120 (k0_pay117 (View.ld (Val := Elt F) x1 (Rect.unit (s := S512x256) ![0, 128] S512x128.size inb_S512x256_S512x128_0_128)))
  v := k0_pay121 (View.ld (Val := Elt F) x2 (Rect.unit (s := S512x128) ![0, 0] S512x128.size inb_S512x128_S512x128_0_0))
  q b := View.ld (Val := Elt F) x0 (qRect b)
  o b := View.ld (Val := Elt F) x3 (oRect b)
  lse b := View.ld (Val := Elt F) x4 (tRect b)
  dlt b := View.ld (Val := Elt F) x5 (tRect b)
  ot h b := View.ld (Val := Elt F) x6 (otRect h b)
  qt h b := View.ld (Val := Elt F) x7 (qtRect h b)

/-- dq's window from its boxes. -/
def dqOut (dq : Fin 2 → Fin 8 → Vec F S1x1x128x512 .f32) : Vec F S2x8x128x512 .f32 :=
  fun x => dq ⟨(x 0).val, (x 0).isLt⟩ ⟨(x 1).val, (x 1).isLt⟩ (ValueIdx.ix4 0 0 ⟨(x 2).val, (x 2).isLt⟩ ⟨(x 3).val, (x 3).isLt⟩)
/-- dk's window: the two heads side by side. -/
def dkOut (st : St F) : Vec F S512x256 .f32 :=
  fun x => if h : (x 1).val < 128 then k0_pay164 (st.dk 0) (ValueIdx.ix2 ⟨(x 0).val, (x 0).isLt⟩ ⟨(x 1).val, h⟩)
    else k0_pay1 (k0_pay165 (st.dk 1)) (ValueIdx.ix2 ⟨(x 0).val, (x 0).isLt⟩ ⟨(x 1).val - 128, by have h1 : (x 1).val < 256 := (x 1).isLt; omega⟩)
/-- dv's window. -/
def dvOut (st : St F) : Vec F S512x128 .bf16 := k0_pay163 (dvWhole st.dv)

/-- dq's boxes before the first key block. -/
def zeroDq : Fin 2 → Fin 8 → Vec F S1x1x128x512 .f32 := fun h b x => k0_pay113 ((qtRect h b).emb x)

theorem ld_dqOut (dq : Fin 2 → Fin 8 → Vec F S1x1x128x512 .f32) (h : Fin 2) (b : Fin 8) :
    (View.ld (Val := Elt F) (dqOut dq) (qtRect h b) : S1x1x128x512.Idx → F .f32) = dq h b := by
  funext x
  unfold dqOut
  have e0 : (x 0).val = 0 := by have : (x 0).val < 1 := (x 0).isLt; omega
  have e1 : (x 1).val = 0 := by have : (x 1).val < 1 := (x 1).isLt; omega
  have a0 : (⟨((qtRect h b).idx x 0).val, ((qtRect h b).idx x 0).isLt⟩ : Fin 2) = h := Fin.ext (by show h.val + 1 * (x 0).val = h.val; omega)
  have a1 : (⟨((qtRect h b).idx x 1).val, ((qtRect h b).idx x 1).isLt⟩ : Fin 8) = b := Fin.ext (by show b.val + 1 * (x 1).val = b.val; omega)
  have a2 : (ValueIdx.ix4 0 0 ⟨((qtRect h b).idx x 2).val, ((qtRect h b).idx x 2).isLt⟩ ⟨((qtRect h b).idx x 3).val, ((qtRect h b).idx x 3).isLt⟩ : S1x1x128x512.Idx) = x := by
    funext a
    apply Fin.ext
    fin_cases a
    · exact e0.symm
    · exact e1.symm
    · show 0 + 1 * (x 2).val = (x 2).val; omega
    · show 0 + 1 * (x 3).val = (x 3).val; omega
  show dq _ _ _ = _
  exact congr (congr (congrArg dq a0) a1) a2

section
variable (c : Dev nD) (arg10 : Memref sig .tc .vmem S2x8x128x512 .f32) (arg11 : Memref sig .tc .vmem S512x256 .f32)
    (arg12 : Memref sig .tc .vmem S512x128 .bf16) (st : St F) (f10 : Buf (Elt F) (arg10.view.loc (c : Thread nD τ)))
    (f11 : Buf (Elt F) (arg11.view.loc (c : Thread nD τ))) (f12 : Buf (Elt F) (arg12.view.loc (c : Thread nD τ)))

theorem Done.read_dq (h : Done c arg10 arg11 arg12 st f10 f11 f12) : arg10.view.read (Elt F) f10 = dqOut st.dq := by
  funext x
  unfold dqOut
  rw [← h.dq]
  show _ = View.readAt _ _ _ _ _
  rw [View.readAt_apply]
  refine congrArg _ (funext fun a => Fin.ext ?_)
  fin_cases a
  · show (x 0).val = (x 0).val + 1 * 0; omega
  · show (x 1).val = (x 1).val + 1 * 0; omega
  · show (x 2).val = 0 + 1 * (x 2).val; omega
  · show (x 3).val = 0 + 1 * (x 3).val; omega

theorem Done.read_dk (h : Done c arg10 arg11 arg12 st f10 f11 f12) : arg11.view.read (Elt F) f11 = dkOut st := by
  funext x
  unfold dkOut
  split
  · rw [← h.dk0]
    show _ = View.readAt _ _ _ _ _
    rw [View.readAt_apply]
    refine congrArg _ (funext fun a => Fin.ext ?_)
    fin_cases a
    · show (x 0).val = 0 + 1 * (x 0).val; omega
    · show (x 1).val = 0 + 1 * (x 1).val; omega
  · rw [← h.dk1]
    show _ = View.readAt _ _ _ _ _
    rw [View.readAt_apply]
    refine congrArg _ (funext fun a => Fin.ext ?_)
    fin_cases a
    · show (x 0).val = 0 + 1 * (x 0).val; omega
    · show (x 1).val = 128 + 1 * ((x 1).val - 128); omega

theorem Done.read_dv (h : Done c arg10 arg11 arg12 st f10 f11 f12) : arg12.view.read (Elt F) f12 = dvOut st := by
  funext x
  unfold dvOut
  rw [← h.dv]
  show _ = View.readAt _ _ _ _ _
  rw [View.readAt_apply]
  refine congrArg _ (funext fun a => Fin.ext ?_)
  fin_cases a
  · show (x 0).val = 0 + 1 * (x 0).val; omega
  · show (x 1).val = 0 + 1 * (x 1).val; omega
end

/-- The sums a grid point leaves, from its blocks and dq's boxes before it. -/
def stPt (i : grid0.Coords) (I : Opnd F) (dq : Fin 2 → Fin 8 → Vec F S1x1x128x512 .f32) : St F :=
  stEnd I (BitVec.ofNat 32 (i 1).val) (BitVec.ofNat 32 (i 1).val) (i 1).val (if (i 1).val = 0 then zeroDq else dq)

/-- The body on whole staging memrefs at read contents: the inputs stay, the results are the point's sums. -/
theorem sound_kernel (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .f32) (harg4 : arg4.IsWhole) (arg5 : Memref sig .tc .vmem S4096x128 .bf16) (harg5 : arg5.IsWhole) (arg6 : Memref sig .tc .vmem S1x8x8x512 .f32) (harg6 : arg6.IsWhole) (arg7 : Memref sig .tc .vmem S1x8x8x512 .f32) (harg7 : arg7.IsWhole) (arg8 : Memref sig .tc .vmem S1x8x128x512 .bf16) (harg8 : arg8.IsWhole) (arg9 : Memref sig .tc .vmem S2x8x128x512 .bf16) (harg9 : arg9.IsWhole) (arg10 : Memref sig .tc .vmem S2x8x128x512 .f32) (harg10 : arg10.IsWhole) (arg11 : Memref sig .tc .vmem S512x256 .f32) (harg11 : arg11.IsWhole) (arg12 : Memref sig .tc .vmem S512x128 .bf16) (harg12 : arg12.IsWhole) (arg13 : Memref sig .tc .vmem S128x512 .f32) (harg13 : arg13.IsWhole) (arg14 : Memref sig .tc .vmem S2x128x512 .f32) (harg14 : arg14.IsWhole) (arg15 : Memref sig .tc .vmem S2x4x512x512 .f32) (harg15 : arg15.IsWhole) (arg16 : Memref sig .tc .vmem S2x512x512 .bf16) (harg16 : arg16.IsWhole) (arg17 : Memref sig .tc .vmem S2x512x512 .bf16) (harg17 : arg17.IsWhole)
    (x0 : Vec F S4096x256 .bf16) (x1 : Vec F S512x256 .bf16) (x2 : Vec F S512x128 .f32) (x3 : Vec F S4096x128 .bf16) (x4 : Vec F S1x8x8x512 .f32) (x5 : Vec F S1x8x8x512 .f32) (x6 : Vec F S1x8x128x512 .bf16) (x7 : Vec F S2x8x128x512 .bf16) (d8 : Vec F S2x8x128x512 .f32)
    (dq : Fin 2 → Fin 8 → Vec F S1x1x128x512 .f32) (hd : (i 1).val ≠ 0 → d8 = dqOut dq) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ (∃ f, own (F := F) c arg13 f) ∗ (∃ f, own (F := F) c arg14 f) ∗ (∃ f, own (F := F) c arg15 f) ∗ (∃ f, own (F := F) c arg16 f) ∗ (∃ f, own (F := F) c arg17 f)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dqOut (stPt i (opndOf x0 x1 x2 x3 x4 x5 x6 x7) dq).dq)
          ∗ owns (c : Thread nD τ) arg11 fullShare (dkOut (stPt i (opndOf x0 x1 x2 x3 x4 x5 x6 x7) dq)) ∗ owns (c : Thread nD τ) arg12 fullShare (dvOut (stPt i (opndOf x0 x1 x2 x3 x4 x5 x6 x7) dq)) ∗ (∃ f, own (F := F) c arg13 f) ∗ (∃ f, own (F := F) c arg14 f) ∗ (∃ f, own (F := F) c arg15 f) ∗ (∃ f, own (F := F) c arg16 f) ∗ (∃ f, own (F := F) c arg17 f)) -∗ K ⟨⟩))
    ⊢ wp (M := 𝕄) Idealize.ShloMosaic.frame (wpE defs₀ 𝒱₀ (c : Thread nD τ) none) Set.univ
      (cc0_fox_bwd_l1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, H13⟩, ⟨%f14, H14⟩, ⟨%f15, H15⟩, ⟨%f16, H16⟩, ⟨%f17, H17⟩, Hk⟩
  subst hf2 hf3 hf4 hf5 hf6 hf7 hf8 hf9
  iapply (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f2 f3 f4 f5 f6 f7 f8 f9 f10 f11 f12 f13 f14 f15 f16 f17
    (opndOf (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9)) (if (i 1).val = 0 then zeroDq else dq)
    ⟨fun _ => rfl, fun _ => rfl, fun _ => rfl, fun _ => rfl, fun _ _ => rfl, fun _ _ => rfl⟩ rfl rfl rfl rfl rfl K
    (by
      intro h b
      by_cases hc : (i 1).val = 0
      · rw [if_pos hc, if_pos hc]; rfl
      · rw [if_neg hc, if_neg hc, ← ld_dqOut dq h b, ← hd hc, ← hf10]; rfl))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, %g10, %g11, %g12, %g13, %g14, %g15, %g16, %g17, H10, H11, H12, H13, H14, H15, H16, H17, %hD⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists g10; isplitr; · ipureintro; exact hD.read_dq
    iexact H10
  isplitl [H11]
  · iexists g11; isplitr; · ipureintro; exact hD.read_dk
    iexact H11
  isplitl [H12]
  · iexists g12; isplitr; · ipureintro; exact hD.read_dv
    iexact H12
  isplitl [H13]; · iexists g13; iexact H13
  isplitl [H14]; · iexists g14; iexact H14
  isplitl [H15]; · iexists g15; iexact H15
  isplitl [H16]; · iexists g16; iexact H16
  iexists g17; iexact H17

/-! ## The proof data of the launch -/

variable (m : (ℓ : Loc nD τ sig) → Buf (Elt F) ℓ) (ρ : Dev nD → PrngReg)

/-- A grid point by its number. -/
def pt (n : ℕ) : Fin cfg0.N := ⟨n % 32, lt_of_lt_of_eq (Nat.mod_lt _ (by decide)) N_0.symm⟩
theorem pt_val (t : Fin cfg0.N) : pt t.val = t := Fin.ext (Nat.mod_eq_of_lt (lt_of_lt_of_eq t.isLt N_0))

/-- The operands of grid point `t`. -/
def opnd (c : Dev nD) (t : Fin cfg0.N) : Opnd F :=
  opndOf (iblk m c 0 t) (iblk m c 1 t) (iblk m c 2 t) (iblk m c 3 t) (iblk m c 4 t) (iblk m c 5 t) (iblk m c 6 t) (iblk m c 7 t)

/-- The sums after grid point `n`, dq's boxes carried along a head pair's key blocks. -/
def stAt (c : Dev nD) : ℕ → St F
  | 0 => stPt (grid0.coords (pt 0)) (opnd m c (pt 0)) zeroDq
  | n + 1 => stPt (grid0.coords (pt (n + 1))) (opnd m c (pt (n + 1))) (stAt c n).dq

/-- dq's boxes as grid point `n` finds them. -/
def dqBefore (c : Dev nD) : ℕ → Fin 2 → Fin 8 → Vec F S1x1x128x512 .f32
  | 0 => zeroDq
  | n + 1 => (stAt m c n).dq

theorem stAt_eq (c : Dev nD) (t : Fin cfg0.N) : stAt m c t.val = stPt (grid0.coords t) (opnd m c t) (dqBefore m c t.val) := by
  have h : ∀ n, stAt m c n = stPt (grid0.coords (pt n)) (opnd m c (pt n)) (dqBefore m c n) := fun n => by cases n <;> rfl
  rw [h, pt_val]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (stAt m c t.val).dq
    | ⟨9, _⟩ => dkOut (stAt m c t.val)
    | ⟨10, _⟩ => dvOut (stAt m c t.val)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dqOut (stAt m c t.val).dq := by dsimp only [dats]
theorem after0_9 (c : Dev nD) (t : Fin cfg0.N) : (dats m 0 c).after 9 t = dkOut (stAt m c t.val) := by dsimp only [dats]
theorem after0_10 (c : Dev nD) (t : Fin cfg0.N) : (dats m 0 c).after 10 t = dvOut (stAt m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem coords_val : ∀ t : Fin grid0.N, (grid0.coords t 1).val = t.val % 8 := by decide +kernel

theorem before0_8 (c : Dev nD) (t : Fin cfg0.N) (d) (h : (grid0.coords t 1).val ≠ 0) :
    (dats m 0 c).before 8 t d = dqOut (dqBefore m c t.val) := by
  rw [coords_val] at h
  have ht : t.val ≠ 0 := fun h0 => h (by rw [h0])
  have hf : (cfg0.win 8).flush ⟨t.val - 1, Nat.lt_of_le_of_lt (Nat.sub_le _ _) t.isLt⟩ = false := by
    rw [Bool.eq_false_iff]
    intro hh
    have := (flush0_8 _).mp hh
    simp only at this
    omega
  refine ((dats m 0 c).before_out_kept 8 rfl t ht hf (fun _ => rfl) (fun _ _ => rfl) d).trans ?_
  rw [after0_8]
  obtain ⟨n, hn⟩ := Nat.exists_eq_succ_of_ne_zero ht
  show dqOut (stAt m c (t.val - 1)).dq = _
  rw [hn]
  rfl

/-- A whole scratch buffer, in the two spellings. -/
theorem scr_eq (c : Dev nD) (b : Ref sig .tc) (f : Buf (Elt F) ((c : Thread nD τ).loc b)) :
    (((c : Thread nD τ).loc b) ↦{fullShare} f : sProp 𝕄) = (((View.whole b).loc (c : Thread nD τ)) ↦[(View.whole b).set]{fullShare} f) :=
  congrArg (fun S => (((c : Thread nD τ).loc b) ↦[S]{fullShare} f : sProp 𝕄)) (View.set_whole b).symm

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after0_0, after0_1, after0_2, after0_3, after0_4, after0_5, after0_6, after0_7, after0_8, after0_9, after0_10]
  unfold Pipeline.ΦA
  rw [scopedRest0_eq]
  simp only [scr_eq]
  iintro ⟨⟨⟨G0, G1, G2, G3, G4⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [stAt_eq]
  iapply (sound_kernel c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _ (dqBefore m c t.val) (before0_8 m c t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [G0]; · iexact G0
  isplitl [G1]; · iexact G1
  isplitl [G2]; · iexact G2
  isplitl [G3]; · iexact G3
  isplitl [G4]; · iexact G4
  iintro ⟨H0, H1, H2, H3, H4, H5, H6, H7, H8, H9, H10, G0, G1, G2, G3, G4⟩
  isplitl [G0 G1 G2 G3 G4 HR]
  · isplitl [G0 G1 G2 G3 G4]
    · isplitl [G0]; · iexact G0
      isplitl [G1]; · iexact G1
      isplitl [G2]; · iexact G2
      isplitl [G3]; · iexact G3
      iexact G4
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The run: every weakly fair execution ends with the arrays at what the points leave, the host's last lines done,
    and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The frame, at any float carrier: the arguments end unchanged and every counter reads zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩, h.2⟩)
    (run_main m ρ)

end Cert.KernelIdeal.Fox
end
-- ==== Proof.Same.lean ====
module

public import proofs.«01_k».proof.Proof.Gen.Kernel
public import proofs.«01_k».proof.Proof.Gen.KernelIdeal
public import Idealize.ShloMosaic.Adequacy
public import Idealize.ShloMosaic.Init
public import proofs.«01_k».proof.Defs

/-! The two printed programs have the same text: their tables and their main functions agree. -/

@[expose] public section

set_option maxRecDepth 16384
set_option maxHeartbeats 4000000

noncomputable section
namespace Cert.Same

open Idealize.ShloMosaic Idealize.SL.Sem

theorem body_same : @Cert.Kernel.cc0_fox_bwd_l1 Bits _ _ = @Cert.KernelIdeal.cc0_fox_bwd_l1 Bits _ _ := rfl

theorem defs₀_same : Cert.Kernel.defs₀ (F := Bits) = Cert.KernelIdeal.defs₀ (F := Bits) := by
  unfold Cert.Kernel.defs₀ Cert.KernelIdeal.defs₀
  refine congrArg (Defs.onTc (nD := Cert.Kernel.nD)) (funext fun l => funext fun a => ?_)
  match l, a with
  | 0, (t, s) =>
    dsimp only
    rw [body_same]
    rfl
  | ⟨n + 1, h⟩, _ => exact absurd h (Nat.not_lt.2 (Nat.le_add_left _ _))

theorem defs_same : Cert.Kernel.defs (F := Bits) = Cert.KernelIdeal.defs (F := Bits) := by
  unfold Cert.Kernel.defs Cert.KernelIdeal.defs
  rw [defs₀_same]
  rfl

theorem main_same : Cert.Kernel.main (F := Bits) = Cert.KernelIdeal.main (F := Bits) := rfl

end Cert.Same
end
-- ==== Proof.KernelFrame.lean ====
module

public import proofs.«01_k».proof.Proof.Same
public import proofs.«01_k».proof.Proof.Run

/-! The kernel's own run is the idealized program's, read over bit patterns. -/

@[expose] public section

set_option maxRecDepth 16384
set_option maxHeartbeats 4000000

noncomputable section
namespace Cert.Proof

open Idealize.ShloMosaic Idealize.SL.Sem

theorem frame_kernel : Cert.quiescent_Kernel := by
  intro m ρ _
  rw [Cert.Same.defs_same, Cert.Same.main_same]
  exact Cert.KernelIdeal.Fox.frame_all (F := Bits) m ρ

end Cert.Proof
end
-- ==== Proof.RefFrame.lean ====
module

public import proofs.«01_k».proof.Defs
public import proofs.«01_k».proof.Proof.Gen.ReferenceIdeal
public import proofs.«01_k».proof.Proof.Gen.ReferenceIdeal.Run
public import proofs.«01_k».proof.Proof.Gen.Pre_finite
public import Idealize.ShloMosaic.Lib.Quiescent
public import Idealize.ShloMosaic.Adequacy
public import Idealize.ShloMosaic.Init

/-! The reference's run leaves its arguments unchanged; it declares no semaphore. -/

@[expose] public section

noncomputable section
namespace Cert.Proof

open Idealize.ShloMosaic Idealize.SL.Sem

theorem frame_reference : Cert.quiescent_ReferenceIdeal := fun m ρ _ =>
  (θ_run Cert.ReferenceIdeal.defs _ _).mono
    (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceIdeal.Value.run (F := Ideal) m ρ)

theorem frame_reference_pre : Cert.quiescent_ReferenceIdeal_pre_finite := fun m ρ _ =>
  (θ_run Cert.ReferenceIdeal.defs _ _).mono
    (fun r h => ⟨fun c => ⟨(h c).2.2.2.2.1, (h c).2.2.2.2.2.1, (h c).2.2.2.2.2.2.1, (h c).2.2.2.2.2.2.2.1, (h c).2.2.2.2.2.2.2.2⟩,
      Idealize.ShloMosaic.sem_eq_zero_of_no_sems (by decide) r.2⟩)
    (Cert.ReferenceIdeal.Value.run (F := Ideal) m ρ)

end Cert.Proof
end
-- ==== Proof.Host.lean ====
module

public import proofs.«01_k».proof.Proof.Run
public import Idealize.ShloMosaic.Lib.Pointwise
public import Idealize.ShloMosaic.Lib.StableHlo.ReadAt
public import Idealize.ShloMosaic.Lib.StableHlo.RunRead

/-! The host code before the launch, cut after the masked scores: the cut, and the heads and masked scores at an index. -/

@[expose] public section

set_option maxRecDepth 16384

noncomputable section
namespace Cert.KernelIdeal.Fox

open Idealize.ShloMosaic Idealize.ShloMosaic.TcCoe Idealize.ShloMosaic.StableHlo
open Cert.KernelIdeal.Gen

section
variable {F : FTy → Type} [FloatOps F] (m : (ℓ : Loc nD τ sig) → Buf (Elt F) ℓ) (c : Dev nD)

/-- The queries as launched. -/
abbrev qA : FVec F S4096x512 .f32 := m ((c : Thread nD τ).loc main_arg0)
/-- The keys as launched. -/
abbrev kA : FVec F S4096x512 .f32 := m ((c : Thread nD τ).loc main_arg1)
/-- The values as launched. -/
abbrev vA : FVec F S4096x512 .f32 := m ((c : Thread nD τ).loc main_arg2)
/-- The cumulative gates as launched. -/
abbrev cA : FVec F S8x4096 .f32 := m ((c : Thread nD τ).loc main_arg3)
/-- The cotangent as launched. -/
abbrev gA : FVec F S4096x512 .f32 := m ((c : Thread nD τ).loc main_arg4)

/-- The buffers after the masked scores. -/
def W3 : Valuation τ sig (Elt F) :=
  after (List.flatten [hostOps0, hostOps0_1, hostOps0_2, hostOps0_3]) (fun b => m (c, b))

/-- The operations after the masked scores. -/
abbrev lateOps : List (HloOp τ sig (Elt F)) := List.flatten [hostOps0_4, hostOps0_5, hostOps0_6, hostOps0_7, hostOps0_8, hostOps0_9]

theorem after_both (l₁ l₂ : List (HloOp τ sig (Elt F))) (V : Valuation τ sig (Elt F)) : after (l₁ ++ l₂) V = after l₂ (after l₁ V) := by
  induction l₁ generalizing V with
  | nil => rfl
  | cons op l ih => exact ih _

theorem V0_split : V0 m c = after lateOps (W3 m c) := by
  unfold W3
  rw [← after_both]
  rfl

theorem W3_arg3 : W3 m c main_arg3 = cA m c := by
  unfold W3
  after_reads_simp
theorem W3_arg2 : W3 m c main_arg2 = vA m c := by
  unfold W3
  after_reads_simp
theorem W3_arg4 : W3 m c main_arg4 = gA m c := by
  unfold W3
  after_reads_simp
end

variable (m : (ℓ : Loc nD τ sig) → Buf (Elt Ideal) ℓ) (c : Dev nD)

theorem W3_v1 (h : Fin 8) (t : Fin 4096) (d : Fin 64) :
    (W3 m c main_v1 : FVec Ideal S8x4096x64 .f32) (ix3 h t d) = qA m c (ix2 t (⟨h.val * 64 + d.val, by omega⟩ : Fin 512)) := by
  unfold W3
  after_reads_at
theorem W3_v3 (h : Fin 8) (t : Fin 4096) (d : Fin 64) :
    (W3 m c main_v3 : FVec Ideal S8x4096x64 .f32) (ix3 h t d) = kA m c (ix2 t (⟨h.val * 64 + d.val, by omega⟩ : Fin 512)) := by
  unfold W3
  after_reads_at
theorem W3_v5 (h : Fin 8) (t : Fin 4096) (d : Fin 64) :
    (W3 m c main_v5 : FVec Ideal S8x4096x64 .f32) (ix3 h t d) = vA m c (ix2 t (⟨h.val * 64 + d.val, by omega⟩ : Fin 512)) := by
  unfold W3
  after_reads_at
theorem W3_v7 (h : Fin 8) (t : Fin 4096) (d : Fin 64) :
    (W3 m c main_v7 : FVec Ideal S8x4096x64 .f32) (ix3 h t d) = gA m c (ix2 t (⟨h.val * 64 + d.val, by omega⟩ : Fin 512)) := by
  unfold W3
  after_reads_at

theorem tril (t u : Fin 4096) {α : Type} (A B : α) :
    Scalar.select (Scalar.select (IntOp.cmpi .sge (IntOp.addi (BitVec.ofNat 32 t.val) 0#32) (BitVec.ofNat 32 u.val)) 1#1 0#1) A B
      = if u.val ≤ t.val then A else B := by
  have ht := t.isLt
  have hu := u.isLt
  have e : IntOp.cmpi .sge (IntOp.addi (BitVec.ofNat 32 t.val) 0#32) (BitVec.ofNat 32 u.val) = if u.val ≤ t.val then 1#1 else 0#1 := by
    have h1 : (BitVec.ofNat 32 t.val + 0#32).toInt = t.val := by
      rw [BitVec.add_zero, BitVec.toInt_eq_toNat_of_lt] <;> simp [BitVec.toNat_ofNat] <;> omega
    have h2 : (BitVec.ofNat 32 u.val).toInt = u.val := by
      rw [BitVec.toInt_eq_toNat_of_lt] <;> simp [BitVec.toNat_ofNat] <;> omega
    show BitVec.ofBool (decide ((BitVec.ofNat 32 u.val).toInt ≤ (BitVec.ofNat 32 t.val + 0#32).toInt)) = _
    rw [h1, h2]
    by_cases h : u.val ≤ t.val
    · rw [if_pos h, decide_eq_true (by exact_mod_cast h)]; rfl
    · rw [if_neg h, decide_eq_false (by exact_mod_cast h)]; rfl
  rw [e]
  split <;> rfl

theorem W3_v20 (h : Fin 8) (t u : Fin 4096) :
    (W3 m c main_v20 : FVec Ideal S8x4096x4096 .f32) (ix3 h t u)
      = if u.val ≤ t.val then ((∑ x : Fin 64, qA m c (ix2 t (⟨h.val * 64 + x.val, by omega⟩ : Fin 512)) * kA m c (ix2 u (⟨h.val * 64 + x.val, by omega⟩ : Fin 512)))
          * Ideal.ofBits .f32 0x3E000000#32 + cA m c (ix2 h t) - cA m c (ix2 h u) : EReal) else Ideal.ofBits .f32 0xFF800000#32 := by
  unfold W3
  after_reads_at
  rw [tril]
  rfl

end Cert.KernelIdeal.Fox
end
-- ==== Proof.RefVal.lean ====
module

public import proofs.«01_k».proof.Proof.Gen.ReferenceIdeal
public import proofs.«01_k».proof.Proof.Gen.ReferenceIdeal.Run
public import proofs.«01_k».proof.Proof.Gen.ReferenceIdeal.Read
public import proofs.«01_k».proof.Proof.Host
public import Idealize.ShloMosaic.Lib.Pointwise

/-! The reference's stages at an index. -/

@[expose] public section

set_option maxRecDepth 16384

noncomputable section
namespace Cert.ReferenceIdeal.Fox

open Idealize.ShloMosaic
open Cert.ReferenceIdeal.Gen Cert.ReferenceIdeal.Read

/-- A head's lane among the columns. -/
def lane (g : Fin 8) (d : Fin 64) : Fin 512 := ⟨g.val * 64 + d.val, by omega⟩

variable (q k v g : FVec Ideal S4096x512 .f32) (c : FVec Ideal S8x4096 .f32) (h : Fin 8) (t u : Fin 4096) (d : Fin 64)

theorem head1 : (val_main_v1 (F := Ideal) q : FVec Ideal S8x4096x64 .f32) (ix3 h t d) = q (ix2 t (lane h d)) := by
  pointwise [val_main_v1, val_main_v0]; rfl
theorem head3 : (val_main_v3 (F := Ideal) q : FVec Ideal S8x4096x64 .f32) (ix3 h t d) = q (ix2 t (lane h d)) := by
  pointwise [val_main_v3, val_main_v2]; rfl
theorem head5 : (val_main_v5 (F := Ideal) q : FVec Ideal S8x4096x64 .f32) (ix3 h t d) = q (ix2 t (lane h d)) := by
  pointwise [val_main_v5, val_main_v4]; rfl
theorem head51 : (val_main_v51 (F := Ideal) q : FVec Ideal S8x4096x64 .f32) (ix3 h t d) = q (ix2 t (lane h d)) := by
  pointwise [val_main_v51, val_main_v50]; rfl
theorem mask_at {α : Type} (A B : α) : Scalar.select (val_main_v16 (F := Ideal) (ix2 t u)) A B = if u.val ≤ t.val then A else B := by
  have e : val_main_v16 (F := Ideal) (ix2 t u) = Scalar.select (IntOp.cmpi .sge (IntOp.addi (BitVec.ofNat 32 t.val) 0#32) (BitVec.ofNat 32 u.val)) 1#1 0#1 := by
    rw [val_main_v16_apply, val_main_v15_apply, val_main_call0_v5_apply, val_main_call0_v4_apply, val_main_call0_v2_apply, val_main_call0_v1_apply]
    rfl
  rw [e]
  exact Cert.KernelIdeal.Fox.tril t u A B
theorem v18_at : (val_main_v18_0 (F := Ideal) q k c : FVec Ideal S8x4096x4096 .f32) (ix3 h t u) =
    if u.val ≤ t.val then ((∑ x : Fin 64, q (ix2 t (lane h x)) * k (ix2 u (lane h x))) * Ideal.ofBits .f32 0x3E000000#32 + c (ix2 h t) - c (ix2 h u) : EReal)
      else Ideal.ofBits .f32 0xFF800000#32 := by
  pointwise [val_main_v18_0, val_main_v18_1, val_main_v17, val_main_v14, val_main_v13, val_main_v12, val_main_v11, val_main_v10, val_main_v9, val_main_v8, val_main_v7, val_main_v6]
  rw [mask_at, val_main_call1_v2_apply]
  simp only [head1, head3]
  rfl
theorem v19_at : (val_main_v19 (F := Ideal) q k c : FVec Ideal S8x4096 .f32) (ix2 h t) =
    Finset.fold max (Ideal.ofBits .f32 4286578688#32) (fun x : Fin 4096 => (val_main_v18_0 (F := Ideal) q k c : FVec Ideal S8x4096x4096 .f32) (ix3 h t x)) Finset.univ := by
  pointwise [val_main_v19, val_main_cst_1]
theorem v26_at : (val_main_v26 (F := Ideal) q k c : FVec Ideal S8x4096 .f32) (ix2 h t) =
    max (Ideal.ofBits .f32 0xFF800000#32 : EReal) ((val_main_v19 (F := Ideal) q k c : FVec Ideal S8x4096 .f32) (ix2 h t)) := by
  rw [val_main_v26_apply, val_main_v25_apply, val_main_cst_3_apply]
  generalize val_main_v19 (F := Ideal) q k c = y
  rfl
theorem v39_at : (val_main_v39 (F := Ideal) q k c : FVec Ideal S8x4096x4096 .f32) (ix3 h t u) =
    Ideal.exp ((val_main_v18_0 (F := Ideal) q k c : FVec Ideal S8x4096x4096 .f32) (ix3 h t u)
      - (val_main_v26 (F := Ideal) q k c : FVec Ideal S8x4096 .f32) (ix2 h t)) := by
  pointwise [val_main_v39, val_main_v38, val_main_v37, val_main_v36]
theorem v40_at : (val_main_v40 (F := Ideal) q k c : FVec Ideal S8x4096 .f32) (ix2 h t) = ∑ x : Fin 4096, (val_main_v39 (F := Ideal) q k c : FVec Ideal S8x4096x4096 .f32) (ix3 h t x) := by
  pointwise [val_main_v40, val_main_cst_9]
theorem v43_at : (val_main_v43 (F := Ideal) q k c : FVec Ideal S8x4096x4096 .f32) (ix3 h t u) =
    Ideal.div ((val_main_v39 (F := Ideal) q k c : FVec Ideal S8x4096x4096 .f32) (ix3 h t u)) ((val_main_v40 (F := Ideal) q k c : FVec Ideal S8x4096 .f32) (ix2 h t)) := by
  pointwise [val_main_v43, val_main_v42, val_main_v41]
theorem v46_at : (val_main_v46 (F := Ideal) q k c : FVec Ideal S8x4096x1 .f32) (ix3 h t 0) =
    Ideal.div (Ideal.ofBits .f32 0x3F800000#32) ((val_main_v40 (F := Ideal) q k c : FVec Ideal S8x4096 .f32) (ix2 h t) * (val_main_v40 (F := Ideal) q k c : FVec Ideal S8x4096 .f32) (ix2 h t)) := by
  pointwise [val_main_v46, val_main_v45, val_main_v44, val_main_v41, val_main_cst_10]
theorem v54_at : (val_main_v54 (F := Ideal) v g : FVec Ideal S8x4096x4096 .f32) (ix3 h t u) = ∑ x : Fin 64, g (ix2 t (lane h x)) * v (ix2 u (lane h x)) := by
  pointwise [val_main_v54]
  simp only [head51, head5]
theorem v57_at : (val_main_v57 (F := Ideal) q k v c g : FVec Ideal S8x4096x4096 .f32) (ix3 h t u) =
    (val_main_v54 (F := Ideal) v g : FVec Ideal S8x4096x4096 .f32) (ix3 h t u) * (val_main_v46 (F := Ideal) q k c : FVec Ideal S8x4096x1 .f32) (ix3 h t 0)
      * (val_main_v39 (F := Ideal) q k c : FVec Ideal S8x4096x4096 .f32) (ix3 h t u) := by
  pointwise [val_main_v57, val_main_v56, val_main_v55]
theorem v58_at : (val_main_v58 (F := Ideal) q k v c g : FVec Ideal S8x4096 .f32) (ix2 h t) = ∑ x : Fin 4096, (val_main_v57 (F := Ideal) q k v c g : FVec Ideal S8x4096x4096 .f32) (ix3 h t x) := by
  pointwise [val_main_v58, val_main_cst_11]
theorem v63_at : (val_main_v63 (F := Ideal) q k v c g : FVec Ideal S8x4096 .f32) (ix2 h t) = - (val_main_v58 (F := Ideal) q k v c g : FVec Ideal S8x4096 .f32) (ix2 h t) := by
  pointwise [val_main_v63, val_main_v60, val_main_v59, val_main_cst_12]
  simp only [Finset.univ_unique, Finset.sum_singleton]
theorem v67_at : (val_main_v67 (F := Ideal) q k v c g : FVec Ideal S8x4096x4096 .f32) (ix3 h t u) =
    if u.val ≤ t.val then ((Ideal.div ((val_main_v54 (F := Ideal) v g : FVec Ideal S8x4096x4096 .f32) (ix3 h t u)) ((val_main_v40 (F := Ideal) q k c : FVec Ideal S8x4096 .f32) (ix2 h t))
      + (val_main_v63 (F := Ideal) q k v c g : FVec Ideal S8x4096 .f32) (ix2 h t)) * (val_main_v39 (F := Ideal) q k c : FVec Ideal S8x4096x4096 .f32) (ix3 h t u) : EReal) else 0 := by
  pointwise [val_main_v67, val_main_v66, val_main_v65, val_main_v64, val_main_v62, val_main_v61, val_main_v41, val_main_v18_1, val_main_v17]
  rw [mask_at, val_main_call2_v0_apply, val_main_call2_cst_apply]
  exact if_congr Iff.rfl rfl (by simp [FloatOps.ofBits, Ideal.ofBits, Ideal.ieee])
theorem v71_at : (val_main_v71 (F := Ideal) q k v c g : FVec Ideal S8x4096 .f32) (ix2 h t) = ∑ x : Fin 4096, - (val_main_v67 (F := Ideal) q k v c g : FVec Ideal S8x4096x4096 .f32) (ix3 h x t) := by
  pointwise [val_main_v71, val_main_v70, val_main_v69, val_main_v68, val_main_cst_13, val_main_cst_14]
  simp only [Finset.univ_unique, Finset.sum_singleton]
theorem v74_at : (val_main_v74 (F := Ideal) q k v c g : FVec Ideal S8x4096 .f32) (ix2 h t) = ∑ x : Fin 4096, (val_main_v67 (F := Ideal) q k v c g : FVec Ideal S8x4096x4096 .f32) (ix3 h t x) := by
  pointwise [val_main_v74, val_main_v73, val_main_v72, val_main_cst_15, val_main_cst_16]
  simp only [Finset.univ_unique, Finset.sum_singleton]
theorem v75_at : (val_main_v75 (F := Ideal) q k v c g : FVec Ideal S8x4096 .f32) (ix2 h t) =
    (val_main_v71 (F := Ideal) q k v c g : FVec Ideal S8x4096 .f32) (ix2 h t) + (val_main_v74 (F := Ideal) q k v c g : FVec Ideal S8x4096 .f32) (ix2 h t) := by
  pointwise [val_main_v75]
theorem v81_at : (val_main_v81 (F := Ideal) q k c g : FVec Ideal S4096x512 .f32) (ix2 u (lane h d)) =
    ∑ x : Fin 4096, g (ix2 x (lane h d)) * (val_main_v43 (F := Ideal) q k c : FVec Ideal S8x4096x4096 .f32) (ix3 h x u) := by
  pointwise [val_main_v81, val_main_v80, val_main_v53, val_main_v52, lane]
  simp only [head51]; rfl
theorem v83_at : (val_main_v83 (F := Ideal) q k v c g : FVec Ideal S4096x512 .f32) (ix2 u (lane h d)) =
    ∑ x : Fin 4096, (val_main_v67 (F := Ideal) q k v c g : FVec Ideal S8x4096x4096 .f32) (ix3 h x u) * Ideal.ofBits .f32 0x3E000000#32 * q (ix2 x (lane h d)) := by
  pointwise [val_main_v83, val_main_v82, val_main_v78, val_main_v77, val_main_v76, lane]
  simp only [head1]; rfl
theorem v85_at : (val_main_v85 (F := Ideal) q k v c g : FVec Ideal S4096x512 .f32) (ix2 t (lane h d)) =
    ∑ x : Fin 4096, (val_main_v67 (F := Ideal) q k v c g : FVec Ideal S8x4096x4096 .f32) (ix3 h t x) * Ideal.ofBits .f32 0x3E000000#32 * k (ix2 x (lane h d)) := by
  pointwise [val_main_v85, val_main_v84, val_main_v79, val_main_v77, val_main_v76, lane]
  simp only [head3]; rfl

end Cert.ReferenceIdeal.Fox
end
-- ==== Proof.HostPure.lean ====
module

public import proofs.«01_k».proof.Proof.Run
public import Idealize.ShloMosaic.Lib.Pointwise
public import Idealize.ShloMosaic.Lib.StableHlo.ReadAt
public import Idealize.ShloMosaic.Lib.StableHlo.RunRead

/-! Pure functions of the host code between the masked scores and the launch, at an index. -/

@[expose] public section

set_option maxRecDepth 16384

noncomputable section
namespace Cert.KernelIdeal.Fox

open Idealize.ShloMosaic Idealize.ShloMosaic.TcCoe Idealize.ShloMosaic.StableHlo
open Cert.KernelIdeal.Gen

section
variable {F : FTy → Type} [FloatOps F]

/-- A row's largest score. -/
def hMax (s : FVec F S8x4096x4096 .f32) : FVec F S8x4096 .f32 :=
  Host.reduce FloatOps.maximumf s (constant S_ .f32 0xFF800000#32) reducesTo_S8x4096x4096_S8x4096_d2 h_S_
/-- The exponentials of the shifted scores. -/
def hExp (s : FVec F S8x4096x4096 .f32) (mx : FVec F S8x4096 .f32) : FVec F S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 mx)))
/-- A row's sum. -/
def hSum (e : FVec F S8x4096x4096 .f32) : FVec F S8x4096 .f32 :=
  Host.reduceAdd e (constant S_ .f32 0x00000000#32) reducesTo_S8x4096x4096_S8x4096_d2 h_S_
/-- A row's saved logarithm. -/
def hLse (mx l : FVec F S8x4096 .f32) : FVec F S8x4096 .f32 := addf mx (Host.log l)
/-- The forward pass's output. -/
def hOut (e : FVec F S8x4096x4096 .f32) (l : FVec F S8x4096 .f32) (v : FVec F S8x4096x64 .f32) : FVec F S8x4096x64 .f32 :=
  Host.dotGeneral dot_S8x4096x4096_S8x4096x64_S8x4096x64_2_1_1_2_0_0 none
    (Host.divf e (broadcastInDim S8x4096x4096 ![0, 1, 2] bcast_S8x4096x1_S8x4096x4096_0_1_2 (broadcastInDim S8x4096x1 ![0, 1] bcast_S8x4096_S8x4096x1_0_1 l))) v
/-- A row's product of output and cotangent. -/
def hDelta (ct o : FVec F S8x4096x64 .f32) : FVec F S8x4096 .f32 :=
  Host.reduceAdd (mulf ct o) (constant S_ .f32 0x00000000#32) reducesTo_S8x4096x64_S8x4096_d2 h_S_
/-- The gate's leading part. -/
def hHi (x : FVec F S8x4096 .f32) : FVec F S8x4096 .f32 := extf .f32 (truncf .bf16 x bitsLt_bf16_f32) bitsLt_bf16_f32
/-- A column of one lane. -/
def hCol (x : FVec F S8x4096 .f32) : FVec F S8x4096x1 .f32 := broadcastInDim S8x4096x1 ![0, 1] bcast_S8x4096_S8x4096x1_0_1 x
/-- Ones. -/
def hOne : FVec F S8x4096 .f32 := broadcastInDim S8x4096 ![] bcast_S_S8x4096 (constant S_ .f32 0x3F800000#32)
/-- Six columns side by side. -/
def hSix (a b c d e f : FVec F S8x4096 .f32) : FVec F S8x4096x6 .f32 :=
  concatenate S8x4096x6 2 [⟨S8x4096x1, hCol a⟩, ⟨S8x4096x1, hCol b⟩, ⟨S8x4096x1, hCol c⟩, ⟨S8x4096x1, hCol d⟩, ⟨S8x4096x1, hCol e⟩, ⟨S8x4096x1, hCol f⟩] concatenates_S8x4096x1_S8x4096x1_S8x4096x1_S8x4096x1_S8x4096x1_S8x4096x1_S8x4096x6_d2
/-- A head's features: its lanes, the six columns, zeros. -/
def hFeat (x : FVec F S8x4096x64 .f32) (y : FVec F S8x4096x6 .f32) : FVec F S8x4096x128 .f32 :=
  concatenate S8x4096x128 2 [⟨S8x4096x64, x⟩, ⟨S8x4096x6, y⟩, ⟨S8x4096x58, broadcastInDim S8x4096x58 ![] bcast_S_S8x4096x58 (constant S_ .f32 0x00000000#32)⟩] concatenates_S8x4096x64_S8x4096x6_S8x4096x58_S8x4096x128_d2
/-- The queries scaled. -/
def hScale (q : FVec F S8x4096x64 .f32) : FVec F S8x4096x64 .f32 := mulf q (broadcastInDim S8x4096x64 ![] bcast_S_S8x4096x64 (constant S_ .f32 0x3E000000#32))
/-- Features with a row to a position, the heads side by side. -/
def hRows (f : FVec F S8x4096x128 .f32) : FVec F S4096x1024 .bf16 :=
  truncf .bf16 (shapeCast S4096x1024 (transpose S4096x8x128 [1, 0, 2] f transposes_S8x4096x128_S4096x8x128_1_0_2) shapeCasts_S4096x8x128_S4096x1024) bitsLt_bf16_f32
/-- Features transposed block by block. -/
def hQt (f : FVec F S8x4096x128 .f32) : FVec F S8x8x128x512 .bf16 :=
  truncf .bf16 (transpose S8x8x128x512 [0, 1, 3, 2] (shapeCast S8x8x512x128 f shapeCasts_S8x4096x128_S8x8x512x128) transposes_S8x8x512x128_S8x8x128x512_0_1_3_2) bitsLt_bf16_f32
/-- The cotangent transposed block by block. -/
def hDt (g : FVec F S4096x512 .f32) : FVec F S4x8x128x512 .bf16 :=
  truncf .bf16 (transpose S4x8x128x512 [2, 0, 3, 1] (shapeCast S8x512x4x128 g shapeCasts_S4096x512_S8x512x4x128) transposes_S8x512x4x128_S4x8x128x512_2_0_3_1) bitsLt_bf16_f32
/-- The values among the columns the call reads. -/
def hWide (v : FVec F S4096x512 .f32) : FVec F S4096x4096 .f32 :=
  pad S4096x4096 ![0, 2816] ![0, 768] ![0, 0] v (sitofp .f32 (constantI S_ 32 0#32)) pads_S4096x512_S4096x4096_000_28167680 h_S_
/-- A row statistic, block by block, a head pair's two rows first. -/
def hStat (y : FVec F S8x4096 .f32) : FVec F S4x8x8x512 .f32 :=
  pad S4x8x8x512 ![0, 0, 0, 0] ![0, 0, 6, 0] ![0, 0, 0, 0]
    (transpose S4x8x2x512 [0, 2, 1, 3] (shapeCast S4x2x8x512 y shapeCasts_S8x4096_S4x2x8x512) transposes_S4x2x8x512_S4x8x2x512_0_2_1_3)
    (sitofp .f32 (constantI S_ 32 0#32)) pads_S4x8x2x512_S4x8x8x512_000_000_060_000 h_S_
end

variable (h : Fin 8) (t u : Fin 4096) (d : Fin 64)

theorem hMax_at (s : FVec Ideal S8x4096x4096 .f32) : hMax s (ix2 h t) = Finset.fold max (Ideal.ofBits .f32 4286578688#32) (fun x : Fin 4096 => s (ix3 h t x)) Finset.univ := by
  pointwise [hMax]
theorem hExp_at (s : FVec Ideal S8x4096x4096 .f32) (mx) : hExp s mx (ix3 h t u) = Ideal.exp (s (ix3 h t u) - mx (ix2 h t)) := by
  pointwise [hExp]
theorem hSum_at (e : FVec Ideal S8x4096x4096 .f32) : hSum e (ix2 h t) = ∑ x : Fin 4096, e (ix3 h t x) := by
  pointwise [hSum]
theorem hLse_at (mx l : FVec Ideal S8x4096 .f32) : hLse mx l (ix2 h t) = mx (ix2 h t) + Ideal.log (l (ix2 h t)) := by
  pointwise [hLse]
theorem hOut_at (e : FVec Ideal S8x4096x4096 .f32) (l v) : hOut e l v (ix3 h t d) = ∑ x : Fin 4096, Ideal.div (e (ix3 h t x)) (l (ix2 h t)) * v (ix3 h x d) := by
  pointwise [hOut]
theorem hDelta_at (ct o : FVec Ideal S8x4096x64 .f32) : hDelta ct o (ix2 h t) = ∑ x : Fin 64, ct (ix3 h t x) * o (ix3 h t x) := by
  pointwise [hDelta]
theorem hHi_at (x : FVec Ideal S8x4096 .f32) : hHi x (ix2 h t) = x (ix2 h t) := by
  pointwise [hHi]
theorem hOne_at : (hOne : FVec Ideal S8x4096 .f32) (ix2 h t) = Ideal.ofBits .f32 0x3F800000#32 := by
  pointwise [hOne]
theorem hScale_at (q : FVec Ideal S8x4096x64 .f32) : hScale q (ix3 h t d) = q (ix3 h t d) * Ideal.ofBits .f32 0x3E000000#32 := by
  pointwise [hScale]
theorem hSix_at (x0 x1 x2 x3 x4 x5 : FVec Ideal S8x4096 .f32) (l : Fin 6) : hSix x0 x1 x2 x3 x4 x5 (ix3 h t l)
    = if l.val = 0 then x0 (ix2 h t) else if l.val = 1 then x1 (ix2 h t) else if l.val = 2 then x2 (ix2 h t) else if l.val = 3 then x3 (ix2 h t) else if l.val = 4 then x4 (ix2 h t) else x5 (ix2 h t) := by
  fin_cases l <;> pointwise [hSix, hCol]
theorem hFeat_at (x : FVec Ideal S8x4096x64 .f32) (y) (l : Fin 128) : hFeat x y (ix3 h t l)
    = if hl : l.val < 64 then x (ix3 h t ⟨l.val, hl⟩) else if hl6 : l.val - 64 < 6 then y (ix3 h t ⟨l.val - 64, hl6⟩) else 0 := by
  pointwise [hFeat]

theorem hRows_at (f : FVec Ideal S8x4096x128 .f32) (x : Fin 1024) :
    hRows f (ix2 t x) = f (ix3 ⟨x.val / 128, by omega⟩ t ⟨x.val % 128, by omega⟩) := by
  pointwise [hRows]
theorem hQt_at (f : FVec Ideal S8x4096x128 .f32) (b : Fin 8) (l : Fin 128) (r : Fin 512) :
    hQt f (ix4 h b l r) = f (ix3 h ⟨b.val * 512 + r.val, by omega⟩ l) := by
  pointwise [hQt]
theorem hDt_at (g : FVec Ideal S4096x512 .f32) (p : Fin 4) (b : Fin 8) (l : Fin 128) (r : Fin 512) :
    hDt g (ix4 p b l r) = g (ix2 ⟨b.val * 512 + r.val, by omega⟩ ⟨p.val * 128 + l.val, by omega⟩) := by
  pointwise [hDt]
theorem hWide_at (v : FVec Ideal S4096x512 .f32) (x : Fin 512) :
    hWide v (ix2 t ⟨2816 + x.val, by omega⟩) = v (ix2 t x) := by
  pointwise [hWide]
theorem hStat_at (y : FVec Ideal S8x4096 .f32) (p : Fin 4) (b : Fin 8) (a : Fin 8) (ha : a.val < 2) (r : Fin 512) :
    hStat y (ix4 p b a r) = y (ix2 ⟨p.val * 2 + a.val, by omega⟩ ⟨b.val * 512 + r.val, by omega⟩) := by
  pointwise [hStat]
  exact dif_pos ha

end Cert.KernelIdeal.Fox
end
-- ==== Proof.HostVal.lean ====
module

public import proofs.«01_k».proof.Proof.Host
public import proofs.«01_k».proof.Proof.HostPure
public import Idealize.ShloMosaic.Lib.Pointwise
public import Idealize.ShloMosaic.Lib.StableHlo.ReadAt
public import Idealize.ShloMosaic.Lib.StableHlo.RunRead

/-! The arrays the call finds, as pure functions of the arguments. -/

@[expose] public section

set_option maxRecDepth 16384

noncomputable section
namespace Cert.KernelIdeal.Fox

open Idealize.ShloMosaic Idealize.ShloMosaic.TcCoe Idealize.ShloMosaic.StableHlo
open Cert.KernelIdeal.Gen

variable {F : FTy → Type} [FloatOps F] (m : (ℓ : Loc nD τ sig) → Buf (Elt F) ℓ) (c : Dev nD)

/-- The masked scores. -/
abbrev sA : FVec F S8x4096x4096 .f32 := W3 m c main_v20
/-- The exponentials. -/
abbrev eA : FVec F S8x4096x4096 .f32 := hExp (sA m c) (hMax (sA m c))
/-- The rows' sums. -/
abbrev lA : FVec F S8x4096 .f32 := hSum (eA m c)
/-- The rows' saved logarithms. -/
abbrev lseA : FVec F S8x4096 .f32 := hLse (hMax (sA m c)) (lA m c)
/-- The rows' products of output and cotangent. -/
abbrev dltA : FVec F S8x4096 .f32 := hDelta (W3 m c main_v7) (hOut (eA m c) (lA m c) (W3 m c main_v5))
/-- The gate's leading, middle and last parts. -/
abbrev c1A : FVec F S8x4096 .f32 := hHi (cA m c)
abbrev c2A : FVec F S8x4096 .f32 := hHi (subf (cA m c) (c1A m c))
abbrev c3A : FVec F S8x4096 .f32 := hHi (subf (subf (cA m c) (c1A m c)) (c2A m c))
/-- The queries' features. -/
abbrev qfA : FVec F S8x4096x128 .f32 := hFeat (hScale (W3 m c main_v1)) (hSix (c1A m c) (c2A m c) (c3A m c) hOne hOne hOne)
/-- The keys' features. -/
abbrev kfA : FVec F S8x4096x128 .f32 := hFeat (W3 m c main_v3) (hSix hOne hOne hOne (Host.negf (c1A m c)) (Host.negf (c2A m c)) (Host.negf (c3A m c)))

theorem V_lse : V m c main_v28 = lseA m c := by
  unfold V; rw [V0_split]; after_reads_simp; rfl
theorem V_dlt : V m c main_v34 = dltA m c := by
  unfold V; rw [V0_split]; after_reads_simp; rfl
theorem late_v48 (W : Valuation τ sig (Elt F)) : upto lateOps W 39 (Proc.devRef .tc main_v48) = hCol (hHi (W main_arg3)) := by
  after_reads_simp
  rfl

theorem late_v49 (W : Valuation τ sig (Elt F)) : upto lateOps W 39 (Proc.devRef .tc main_v49) = hCol (hHi (subf (W main_arg3) (hHi (W main_arg3)))) := by
  after_reads_simp
  rfl

theorem late_v50 (W : Valuation τ sig (Elt F)) : upto lateOps W 39 (Proc.devRef .tc main_v50) = hCol (hHi (subf (subf (W main_arg3) (hHi (W main_arg3))) (hHi (subf (W main_arg3) (hHi (W main_arg3)))))) := by
  after_reads_simp
  rfl

theorem late_v51 (W : Valuation τ sig (Elt F)) : upto lateOps W 39 (Proc.devRef .tc main_v51) = hCol hOne := by
  after_reads_simp
  rfl

theorem late_v52 (W : Valuation τ sig (Elt F)) : upto lateOps W 39 (Proc.devRef .tc main_v52) = hCol hOne := by
  after_reads_simp
  rfl

theorem late_v53 (W : Valuation τ sig (Elt F)) : upto lateOps W 39 (Proc.devRef .tc main_v53) = hCol hOne := by
  after_reads_simp
  rfl

theorem late_v59 (W : Valuation τ sig (Elt F)) : upto lateOps W 50 (Proc.devRef .tc main_v59) = hCol hOne := by
  after_reads_simp
  rfl

theorem late_v60 (W : Valuation τ sig (Elt F)) : upto lateOps W 50 (Proc.devRef .tc main_v60) = hCol hOne := by
  after_reads_simp
  rfl

theorem late_v61 (W : Valuation τ sig (Elt F)) : upto lateOps W 50 (Proc.devRef .tc main_v61) = hCol hOne := by
  after_reads_simp
  rfl

theorem late_v62 (W : Valuation τ sig (Elt F)) : upto lateOps W 50 (Proc.devRef .tc main_v62) = hCol (Host.negf (hHi (W main_arg3))) := by
  after_reads_simp
  rfl

theorem late_v63 (W : Valuation τ sig (Elt F)) : upto lateOps W 50 (Proc.devRef .tc main_v63) = hCol (Host.negf (hHi (subf (W main_arg3) (hHi (W main_arg3))))) := by
  after_reads_simp
  rfl

theorem late_v64 (W : Valuation τ sig (Elt F)) : upto lateOps W 50 (Proc.devRef .tc main_v64) = hCol (Host.negf (hHi (subf (subf (W main_arg3) (hHi (W main_arg3))) (hHi (subf (W main_arg3) (hHi (W main_arg3))))))) := by
  after_reads_simp
  rfl

theorem late_v47 (W : Valuation τ sig (Elt F)) : upto lateOps W 40 (Proc.devRef .tc main_v47) = hScale (W main_v1) := by
  after_reads_simp
  rfl

theorem late_v45q (W : Valuation τ sig (Elt F)) : upto lateOps W 40 (Proc.devRef .tc main_v45) = broadcastInDim S8x4096x58 ![] bcast_S_S8x4096x58 (constant S_ .f32 0x00000000#32) := by
  after_reads_simp

theorem late_v45k (W : Valuation τ sig (Elt F)) : upto lateOps W 51 (Proc.devRef .tc main_v45) = broadcastInDim S8x4096x58 ![] bcast_S_S8x4096x58 (constant S_ .f32 0x00000000#32) := by
  after_reads_simp

theorem late_v3 (W : Valuation τ sig (Elt F)) : upto lateOps W 51 (Proc.devRef .tc main_v3) = W main_v3 := by
  after_reads_simp

theorem late_six_q (W : Valuation τ sig (Elt F)) : upto lateOps W 40 (Proc.devRef .tc main_v54) = hSix (hHi (W main_arg3)) (hHi (subf (W main_arg3) (hHi (W main_arg3)))) (hHi (subf (subf (W main_arg3) (hHi (W main_arg3))) (hHi (subf (W main_arg3) (hHi (W main_arg3)))))) hOne hOne hOne := by
  after_reads_simp
  show concatenate S8x4096x6 2 [⟨S8x4096x1, upto lateOps W 39 (Proc.devRef .tc main_v48)⟩, ⟨S8x4096x1, upto lateOps W 39 (Proc.devRef .tc main_v49)⟩, ⟨S8x4096x1, upto lateOps W 39 (Proc.devRef .tc main_v50)⟩, ⟨S8x4096x1, upto lateOps W 39 (Proc.devRef .tc main_v51)⟩, ⟨S8x4096x1, upto lateOps W 39 (Proc.devRef .tc main_v52)⟩, ⟨S8x4096x1, upto lateOps W 39 (Proc.devRef .tc main_v53)⟩] _ = _
  rw [late_v48, late_v49, late_v50, late_v51, late_v52, late_v53]
  rfl

theorem late_six_k (W : Valuation τ sig (Elt F)) : upto lateOps W 51 (Proc.devRef .tc main_v65) = hSix hOne hOne hOne (Host.negf (hHi (W main_arg3))) (Host.negf (hHi (subf (W main_arg3) (hHi (W main_arg3))))) (Host.negf (hHi (subf (subf (W main_arg3) (hHi (W main_arg3))) (hHi (subf (W main_arg3) (hHi (W main_arg3))))))) := by
  after_reads_simp
  show concatenate S8x4096x6 2 [⟨S8x4096x1, upto lateOps W 50 (Proc.devRef .tc main_v59)⟩, ⟨S8x4096x1, upto lateOps W 50 (Proc.devRef .tc main_v60)⟩, ⟨S8x4096x1, upto lateOps W 50 (Proc.devRef .tc main_v61)⟩, ⟨S8x4096x1, upto lateOps W 50 (Proc.devRef .tc main_v62)⟩, ⟨S8x4096x1, upto lateOps W 50 (Proc.devRef .tc main_v63)⟩, ⟨S8x4096x1, upto lateOps W 50 (Proc.devRef .tc main_v64)⟩] _ = _
  rw [late_v59, late_v60, late_v61, late_v62, late_v63, late_v64]
  rfl

theorem V_qf : V m c main_v55 = qfA m c := by
  unfold V; rw [V0_split]; after_reads_simp
  show concatenate S8x4096x128 2
      [⟨S8x4096x64, upto lateOps (W3 m c) 40 (Proc.devRef .tc main_v47)⟩, ⟨S8x4096x6, upto lateOps (W3 m c) 40 (Proc.devRef .tc main_v54)⟩,
        ⟨S8x4096x58, upto lateOps (W3 m c) 40 (Proc.devRef .tc main_v45)⟩] _ = _
  rw [late_v47, late_six_q, late_v45q, W3_arg3]
  rfl

theorem V_kf : V m c main_v66 = kfA m c := by
  unfold V; rw [V0_split]; after_reads_simp
  show concatenate S8x4096x128 2
      [⟨S8x4096x64, upto lateOps (W3 m c) 51 (Proc.devRef .tc main_v3)⟩, ⟨S8x4096x6, upto lateOps (W3 m c) 51 (Proc.devRef .tc main_v65)⟩,
        ⟨S8x4096x58, upto lateOps (W3 m c) 51 (Proc.devRef .tc main_v45)⟩] _ = _
  rw [late_v3, late_six_k, late_v45k, W3_arg3]
  rfl
theorem V_q : V m c main_v76 = hRows (V m c main_v55) := by
  unfold V; rw [V0_split]; after_reads_simp; rfl
theorem V_k : V m c main_v79 = hRows (V m c main_v66) := by
  unfold V; rw [V0_split]; after_reads_simp; rfl
theorem V_v : V m c main_v73 = hWide (vA m c) := by
  unfold V; rw [V0_split]; after_reads_simp; rw [W3_arg2]; rfl
theorem V_o : V m c main_v80 = truncf .bf16 (gA m c) bitsLt_bf16_f32 := by
  unfold V; rw [V0_split]; after_reads_simp; rw [W3_arg4]
theorem V_ls : V m c main_v83 = hStat (V m c main_v28) := by
  unfold V; rw [V0_split]; after_reads_simp; rfl
theorem V_dl : V m c main_v86 = hStat (V m c main_v34) := by
  unfold V; rw [V0_split]; after_reads_simp; rfl
theorem V_ot : V m c main_v72 = hDt (gA m c) := by
  unfold V; rw [V0_split]; after_reads_simp; rw [W3_arg4]; rfl
theorem V_qt : V m c main_v69 = hQt (V m c main_v55) := by
  unfold V; rw [V0_split]; after_reads_simp; rfl

end Cert.KernelIdeal.Fox
end
-- ==== Proof.Pay.lean ====
module

public import proofs.«01_k».proof.Proof.State
public import Idealize.ShloMosaic.Lib.Pointwise
public import Idealize.ShloMosaic.Lib.Tactic.WordOmega

/-! The body's operations at the ideal values, read at an index: scores, probabilities, score gradients and the three
sums' increments. -/

@[expose] public section

set_option maxRecDepth 16384

noncomputable section
namespace Cert.KernelIdeal.Fox

open Idealize.ShloMosaic Idealize.ShloMosaic.TcCoe
open Cert.KernelIdeal.Gen

/-- A lane's half, as the body's mask tests it. -/
theorem lane_half {α : Type} (x : Fin 128) (A B : α) :
    Scalar.select (IntOp.cmpi .slt (BitVec.ofNat 32 x.val) 64#32) A B = if x.val < 64 then A else B := by
  have hx := x.isLt
  have : IntOp.cmpi .slt (BitVec.ofNat 32 x.val) 64#32 = if x.val < 64 then 1#1 else 0#1 := by
    revert x; decide +kernel
  rw [this]
  split <;> rfl

/-- The diagonal block's causal mask. -/
theorem causal_mask {α : Type} (w : BitVec 32) (r c : Fin 512) (A B : α) :
    Scalar.select (IntOp.cmpi .sle (IntOp.addi (BitVec.ofNat 32 r.val) (Scalar.subi (Scalar.muli w 512#32) (Scalar.muli w 512#32)))
      (BitVec.ofNat 32 c.val)) A B = if r.val ≤ c.val then A else B := by
  have hr := r.isLt
  have hc := c.isLt
  have e : Scalar.subi (Scalar.muli w 512#32) (Scalar.muli w 512#32) = 0#32 := by
    show (w * 512#32) - (w * 512#32) = 0#32
    exact BitVec.sub_self _
  rw [e]
  have : IntOp.cmpi .sle (IntOp.addi (BitVec.ofNat 32 r.val) 0#32) (BitVec.ofNat 32 c.val) = if r.val ≤ c.val then 1#1 else 0#1 := by
    have hrc : (BitVec.ofNat 32 r.val + 0#32).sle (BitVec.ofNat 32 c.val) = decide (r.val ≤ c.val) := by
      rw [BitVec.add_zero, BitVec.sle_eq_decide, BitVec.toInt_eq_toNat_of_lt (by rw [BitVec.toNat_ofNat]; omega),
        BitVec.toInt_eq_toNat_of_lt (by rw [BitVec.toNat_ofNat]; omega), BitVec.toNat_ofNat, BitVec.toNat_ofNat,
        Nat.mod_eq_of_lt (by omega), Nat.mod_eq_of_lt (by omega)]
      simp
    show BitVec.ofBool ((BitVec.ofNat 32 r.val + 0#32).sle (BitVec.ofNat 32 c.val)) = _
    rw [hrc]
    by_cases h : r.val ≤ c.val
    · rw [if_pos h, decide_eq_true h]; rfl
    · rw [if_neg h, decide_eq_false h]; rfl
  rw [this]
  split <;> rfl

abbrev s4 (h : Fin 2) : Fin 4 := ⟨h.val, by omega⟩
abbrev d4 (h : Fin 2) : Fin 4 := ⟨h.val + 2, by omega⟩

/-- A head's key rows and their transpose. -/
abbrev Opnd.kf (I : Opnd Ideal) (h : Fin 2) : FVec Ideal S512x128 .bf16 := (![I.k0, I.k1] : Fin 2 → _) h
abbrev Opnd.ktf (I : Opnd Ideal) (h : Fin 2) : FVec Ideal S128x512 .bf16 := (![I.kt0, I.kt1] : Fin 2 → _) h

variable (I : Opnd Ideal) (b : Fin 8) (h : Fin 2) (r c : Fin 512) (sc : Fin 4 → Vec Ideal S1x1x512x512 .f32) (w : BitVec 32)

theorem scS_at : scN I b (s4 h) (ix4 0 0 r c) = ∑ l : Fin 128, I.kf h (ix2 r l) * I.q b (ix2 c ⟨128 * h.val + l.val, by omega⟩) := by
  match h with
  | 0 =>
    show k0_pay5 I.k0 (I.q b) (ix4 0 0 r c) = ∑ l : Fin 128, I.k0 (ix2 r l) * I.q b (ix2 c ⟨128 * 0 + l.val, by omega⟩)
    pointwise [k0_pay5, k0_pay2]
  | 1 =>
    show k0_pay6 I.k1 (I.q b) (ix4 0 0 r c) = ∑ l : Fin 128, I.k1 (ix2 r l) * I.q b (ix2 c ⟨128 * 1 + l.val, by omega⟩)
    pointwise [k0_pay6, k0_pay2]

theorem scD_at : scN I b (d4 h) (ix4 0 0 r c) = ∑ d : Fin 64, I.v (ix2 r ⟨64 * h.val + d.val, by omega⟩) * I.o b (ix2 c ⟨64 * h.val + d.val, by omega⟩) := by
  match h with
  | 0 =>
    show k0_pay7 I.v k0_pay122 (I.o b) (ix4 0 0 r c) = ∑ d : Fin 64, I.v (ix2 r ⟨64 * 0 + d.val, by omega⟩) * I.o b (ix2 c ⟨64 * 0 + d.val, by omega⟩)
    pointwise [k0_pay7, k0_pay3, k0_pay122]
    simp only [lane_half]
    rw [Fin.sum_univ_two_halves 64 64 rfl]
    rw [Finset.sum_congr rfl (fun (x : Fin 64) _ => if_pos x.isLt),
      Finset.sum_congr (g := fun _ => 0) rfl (fun (x : Fin 64) _ => if_neg (show ¬ (64 + x.val < 64) by omega)), Finset.sum_const_zero, add_zero]
  | 1 =>
    show k0_pay8 (k0_pay4 I.v k0_pay122 (I.o b)) (ix4 0 0 r c) = ∑ d : Fin 64, I.v (ix2 r ⟨64 * 1 + d.val, by omega⟩) * I.o b (ix2 c ⟨64 * 1 + d.val, by omega⟩)
    pointwise [k0_pay8, k0_pay4, k0_pay3, k0_pay122]
    simp only [lane_half]
    rw [Fin.sum_univ_two_halves 64 64 rfl]
    rw [Finset.sum_congr (g := fun _ => 0) rfl (fun (x : Fin 64) _ => if_pos x.isLt),
      Finset.sum_congr rfl (fun (x : Fin 64) _ => if_neg (show ¬ (64 + x.val < 64) by omega)), Finset.sum_const_zero, zero_add]

theorem ptN_at : ptN I b sc h (ix3 0 r c) = Ideal.exp (sc (s4 h) (ix4 0 0 r c) - I.lse b (ix4 0 0 ⟨h.val, by omega⟩ c)) := by
  match h with
  | 0 =>
    show k0_pay21 (k0_pay19 (I.lse b) (sc 0)) (ix3 0 r c) = Ideal.exp (sc 0 (ix4 0 0 r c) - I.lse b (ix4 0 0 0 c))
    pointwise [k0_pay21, k0_pay19, k0_pay17]
  | 1 =>
    show k0_pay24 (k0_pay17 (I.lse b)) (sc 1) (ix3 0 r c) = Ideal.exp (sc 1 (ix4 0 0 r c) - I.lse b (ix4 0 0 1 c))
    pointwise [k0_pay24, k0_pay22, k0_pay17]

theorem dsN_at : dsN I b sc h (ix3 0 r c) = Ideal.exp (sc (s4 h) (ix4 0 0 r c) - I.lse b (ix4 0 0 ⟨h.val, by omega⟩ c))
    * (sc (d4 h) (ix4 0 0 r c) - I.dlt b (ix4 0 0 ⟨h.val, by omega⟩ c)) := by
  match h with
  | 0 =>
    show k0_pay20 (k0_pay18 (I.dlt b)) (k0_pay19 (I.lse b) (sc 0)) (sc 2) (ix3 0 r c) = Ideal.exp (sc 0 (ix4 0 0 r c) - I.lse b (ix4 0 0 0 c)) * (sc 2 (ix4 0 0 r c) - I.dlt b (ix4 0 0 0 c))
    pointwise [k0_pay20, k0_pay19, k0_pay18, k0_pay17]
  | 1 =>
    show k0_pay23 (k0_pay17 (I.lse b)) (k0_pay18 (I.dlt b)) (sc 1) (sc 3) (ix3 0 r c) = Ideal.exp (sc 1 (ix4 0 0 r c) - I.lse b (ix4 0 0 1 c)) * (sc 3 (ix4 0 0 r c) - I.dlt b (ix4 0 0 1 c))
    pointwise [k0_pay23, k0_pay22, k0_pay18, k0_pay17]

theorem ptD_at : ptD I w w b sc h (ix3 0 r c) = if r.val ≤ c.val then Ideal.exp (sc (s4 h) (ix4 0 0 r c) - I.lse b (ix4 0 0 ⟨h.val, by omega⟩ c)) else 0 := by
  match h with
  | 0 =>
    show k0_pay144 (k0_pay141 w w (I.lse b) (sc 0)) (ix3 0 r c) = if r.val ≤ c.val then Ideal.exp (sc 0 (ix4 0 0 r c) - I.lse b (ix4 0 0 0 c)) else 0
    pointwise [k0_pay144, k0_pay141, k0_pay139]
    rw [causal_mask]
  | 1 =>
    show k0_pay148 (k0_pay147 w w (k0_pay139 (I.lse b)) (sc 1)) (ix3 0 r c) = if r.val ≤ c.val then Ideal.exp (sc 1 (ix4 0 0 r c) - I.lse b (ix4 0 0 1 c)) else 0
    pointwise [k0_pay148, k0_pay147, k0_pay145, k0_pay139]
    rw [causal_mask]

theorem dsD_at : dsD I w w b sc h (ix3 0 r c) = if r.val ≤ c.val then Ideal.exp (sc (s4 h) (ix4 0 0 r c) - I.lse b (ix4 0 0 ⟨h.val, by omega⟩ c))
    * (sc (d4 h) (ix4 0 0 r c) - I.dlt b (ix4 0 0 ⟨h.val, by omega⟩ c)) else 0 := by
  match h with
  | 0 =>
    show k0_pay143 (k0_pay141 w w (I.lse b) (sc 0)) (k0_pay142 (I.dlt b) (sc 2)) (ix3 0 r c) = if r.val ≤ c.val then Ideal.exp (sc 0 (ix4 0 0 r c) - I.lse b (ix4 0 0 0 c)) * (sc 2 (ix4 0 0 r c) - I.dlt b (ix4 0 0 0 c)) else 0
    pointwise [k0_pay143, k0_pay142, k0_pay141, k0_pay139, k0_pay140]
    rw [causal_mask]
  | 1 =>
    show k0_pay146 w w (k0_pay139 (I.lse b)) (k0_pay140 (I.dlt b)) (sc 1) (sc 3) (ix3 0 r c) = if r.val ≤ c.val then Ideal.exp (sc 1 (ix4 0 0 r c) - I.lse b (ix4 0 0 1 c)) * (sc 3 (ix4 0 0 r c) - I.dlt b (ix4 0 0 1 c)) else 0
    pointwise [k0_pay146, k0_pay145, k0_pay139, k0_pay140]
    rw [causal_mask]

theorem dv_at (st : St Ideal) (d : Fin 64) : (grads I b st).dv h (ix2 d r)
    = st.dv h (ix2 d r) + ∑ c : Fin 512, I.ot h b (ix4 0 0 d c) * st.pt h (ix3 0 r c) := by
  match h with
  | 0 =>
    show k0_pay9 (st.dv 0) (I.ot 0 b) (st.pt 0) (ix2 d r) = _
    pointwise [k0_pay9]
  | 1 =>
    show k0_pay12 (st.dv 1) (I.ot 1 b) (st.pt 1) (ix2 d r) = _
    pointwise [k0_pay12]

theorem dk_at (st : St Ideal) (l : Fin 128) : (grads I b st).dk h (ix3 0 l r)
    = st.dk h (ix3 0 l r) + ∑ c : Fin 512, I.qt h b (ix4 0 0 l c) * st.ds h (ix3 0 r c) := by
  match h with
  | 0 =>
    show k0_pay10 (st.dk 0) (I.qt 0 b) (st.ds 0) (ix3 0 l r) = _
    pointwise [k0_pay10]
  | 1 =>
    show k0_pay15 (k0_pay13 (st.dk 1)) (k0_pay14 (I.qt 1 b)) (st.ds 1) (ix3 0 l r) = _
    pointwise [k0_pay15, k0_pay13, k0_pay14]

theorem dq_at (st : St Ideal) (b' : Fin 8) (l : Fin 128) : (grads I b st).dq h b' (ix4 0 0 l c)
    = if b' = b then st.dq h b (ix4 0 0 l c) + ∑ r : Fin 512, I.ktf h (ix2 l r) * st.ds h (ix3 0 r c) else st.dq h b' (ix4 0 0 l c) := by
  by_cases hb : b' = b
  · rw [if_pos hb]
    unfold grads
    simp only [if_pos hb]
    match h with
    | 0 =>
      show k0_pay11 I.kt0 (st.dq 0 b) (st.ds 0) (ix4 0 0 l c) = st.dq 0 b (ix4 0 0 l c) + ∑ r : Fin 512, I.kt0 (ix2 l r) * st.ds 0 (ix3 0 r c)
      pointwise [k0_pay11]
    | 1 =>
      show k0_pay16 I.kt1 (st.dq 1 b) (st.ds 1) (ix4 0 0 l c) = st.dq 1 b (ix4 0 0 l c) + ∑ r : Fin 512, I.kt1 (ix2 l r) * st.ds 1 (ix3 0 r c)
      pointwise [k0_pay16]
  · rw [if_neg hb]
    unfold grads
    simp only [if_neg hb]

end Cert.KernelIdeal.Fox
end
-- ==== Proof.Pass.lean ====
module

public import proofs.«01_k».proof.Proof.Pay

/-! One key block's pass in closed form: its sums over the query blocks from the diagonal on. -/

@[expose] public section

set_option maxRecDepth 16384

noncomputable section
namespace Cert.KernelIdeal.Fox

open Idealize.ShloMosaic Idealize.ShloMosaic.TcCoe
open Cert.KernelIdeal.Gen

variable (I : Opnd Ideal) (j : ℕ) (b : Fin 8) (h : Fin 2) (r c : Fin 512) (w : BitVec 32)
  (dq : Fin 2 → Fin 8 → Vec Ideal S1x1x128x512 .f32)

/-- The score of query `c` of block `b` against key `r`. -/
def Opnd.S : EReal := ∑ l : Fin 128, I.kf h (ix2 r l) * I.q b (ix2 c ⟨128 * h.val + l.val, by omega⟩)
/-- Its upstream product. -/
def Opnd.dP : EReal := ∑ d : Fin 64, I.v (ix2 r ⟨64 * h.val + d.val, by omega⟩) * I.o b (ix2 c ⟨64 * h.val + d.val, by omega⟩)
/-- The probability, zero where the query of the diagonal block precedes the key. -/
def Opnd.P : EReal := if (b.val = j → r.val ≤ c.val) then Ideal.exp (I.S b h r c - I.lse b (ix4 0 0 ⟨h.val, by omega⟩ c)) else 0
/-- The score gradient. -/
def Opnd.D : EReal := if (b.val = j → r.val ≤ c.val) then
  Ideal.exp (I.S b h r c - I.lse b (ix4 0 0 ⟨h.val, by omega⟩ c)) * (I.dP b h r c - I.dlt b (ix4 0 0 ⟨h.val, by omega⟩ c)) else 0

theorem sum_step (f : Fin 8 → EReal) (j n : ℕ) (hn : j + n < 8) :
    (∑ b : Fin 8, if j ≤ b.val ∧ b.val < j + (n + 1) then f b else 0)
      = (∑ b : Fin 8, if j ≤ b.val ∧ b.val < j + n then f b else 0) + f (b8 (j + n)) := by
  have e : f (b8 (j + n)) = ∑ b : Fin 8, if b = b8 (j + n) then f b else 0 := by
    rw [Finset.sum_ite_eq' Finset.univ (b8 (j + n)) f, if_pos (Finset.mem_univ _)]
  rw [e, ← Finset.sum_add_distrib]
  refine Finset.sum_congr rfl fun b _ => ?_
  have hv := b8_val hn
  by_cases hb : b = b8 (j + n)
  · rw [if_pos hb, if_pos (by rw [hb, hv]; omega), if_neg (by rw [hb, hv]; omega), zero_add]
  · have hb' : b.val ≠ j + n := fun e => hb (Fin.ext (by rw [hv, e]))
    rw [if_neg hb, add_zero]
    by_cases hc : j ≤ b.val ∧ b.val < j + n
    · rw [if_pos hc, if_pos (by omega)]
    · rw [if_neg hc, if_neg (by omega)]

/-- What the sums hold once the blocks from `j` to below `j + n` are added. -/
structure Sums (n : ℕ) (st : St Ideal) : Prop where
  dv : ∀ (h : Fin 2) (d : Fin 64) (r : Fin 512), st.dv h (ix2 d r) = ∑ b : Fin 8, if j ≤ b.val ∧ b.val < j + n then
    ∑ c : Fin 512, I.ot h b (ix4 0 0 d c) * I.P j b h r c else 0
  dk : ∀ (h : Fin 2) (l : Fin 128) (r : Fin 512), st.dk h (ix3 0 l r) = ∑ b : Fin 8, if j ≤ b.val ∧ b.val < j + n then
    ∑ c : Fin 512, I.qt h b (ix4 0 0 l c) * I.D j b h r c else 0
  dq : ∀ (h : Fin 2) (b : Fin 8) (l : Fin 128) (c : Fin 512), st.dq h b (ix4 0 0 l c) = dq h b (ix4 0 0 l c)
    + if j ≤ b.val ∧ b.val < j + n then ∑ r : Fin 512, I.ktf h (ix2 l r) * I.D j b h r c else 0

/-- One block's gradients added to the sums. -/
theorem Sums.step (n : ℕ) (hn : j + n < 8) (st : St Ideal) (H : Sums I j dq n st)
    (hp : ∀ h r c, st.pt h (ix3 0 r c) = I.P j (b8 (j + n)) h r c) (hd : ∀ h r c, st.ds h (ix3 0 r c) = I.D j (b8 (j + n)) h r c) :
    Sums I j dq (n + 1) (grads I (b8 (j + n)) st) where
  dv h d r := by
    rw [dv_at, H.dv, sum_step (fun b => ∑ c : Fin 512, I.ot h b (ix4 0 0 d c) * I.P j b h r c) j n hn]
    simp only [hp]
  dk h l r := by
    rw [dk_at, H.dk, sum_step (fun b => ∑ c : Fin 512, I.qt h b (ix4 0 0 l c) * I.D j b h r c) j n hn]
    simp only [hd]
  dq h b l c := by
    rw [dq_at]
    have hv := b8_val hn
    by_cases hb : b = b8 (j + n)
    · rw [if_pos hb, H.dq, if_neg (by rw [hv]; omega), add_zero, if_pos (by rw [hb, hv]; omega)]
      simp only [hd, hb]
    · have hb' : b.val ≠ j + n := fun e => hb (Fin.ext (by rw [hv, e]))
      rw [if_neg hb, H.dq]
      by_cases hc : j ≤ b.val ∧ b.val < j + n
      · rw [if_pos hc, if_pos (by omega)]
      · rw [if_neg hc, if_neg (by omega)]

theorem zero115 (x : S128x512.Idx) : (k0_pay115 : FVec Ideal S128x512 .f32) x = 0 := by
  idx_vars x
  pointwise [k0_pay115]
theorem zero114 (x : S2x128x512.Idx) : (k0_pay114 : FVec Ideal S2x128x512 .f32) x = 0 := by
  idx_vars x
  pointwise [k0_pay114]
theorem zero113 (x : S2x8x128x512.Idx) : (k0_pay113 : FVec Ideal S2x8x128x512 .f32) x = 0 := by
  idx_vars x
  pointwise [k0_pay113]

theorem Sums.zero (st : St Ideal) (hv : ∀ h x, st.dv h x = 0) (hk : ∀ h x, st.dk h x = 0) (hq : st.dq = dq) : Sums I j dq 0 st where
  dv h d r := by
    rw [hv, Finset.sum_congr (g := fun _ => 0) rfl (fun (b : Fin 8) _ => if_neg (by omega)), Finset.sum_const_zero]
  dk h l r := by
    rw [hk, Finset.sum_congr (g := fun _ => 0) rfl (fun (b : Fin 8) _ => if_neg (by omega)), Finset.sum_const_zero]
  dq h b l c := by rw [hq, if_neg (by omega), add_zero]

theorem ptD_P : ptD I w w b (scN I b) h (ix3 0 r c) = I.P b.val b h r c := by
  rw [ptD_at, scS_at]
  unfold Opnd.P
  by_cases hc : r.val ≤ c.val
  · rw [if_pos hc, if_pos (fun _ => hc)]; rfl
  · rw [if_neg hc, if_neg (fun f => hc (f rfl))]

theorem dsD_D : dsD I w w b (scN I b) h (ix3 0 r c) = I.D b.val b h r c := by
  rw [dsD_at, scS_at, scD_at]
  unfold Opnd.D
  by_cases hc : r.val ≤ c.val
  · rw [if_pos hc, if_pos (fun _ => hc)]; rfl
  · rw [if_neg hc, if_neg (fun f => hc (f rfl))]

theorem ptN_P (hb : b.val ≠ j) : ptN I b (scN I b) h (ix3 0 r c) = I.P j b h r c := by
  rw [ptN_at, scS_at]
  unfold Opnd.P
  rw [if_pos (fun e => absurd e hb)]; rfl

theorem dsN_D (hb : b.val ≠ j) : dsN I b (scN I b) h (ix3 0 r c) = I.D j b h r c := by
  rw [dsN_at, scS_at, scD_at]
  unfold Opnd.D
  rw [if_pos (fun e => absurd e hb)]; rfl

/-- After block `j + n`: its probabilities and score gradients are formed, the earlier blocks' sums added. -/
theorem stB_closed (hj : j < 8) : ∀ n, j + n < 8 → Sums I j dq n (stB I w w j dq n)
    ∧ (stB I w w j dq n).sc = scN I (b8 (min (j + n + 1) 7))
    ∧ (∀ h r c, (stB I w w j dq n).pt h (ix3 0 r c) = I.P j (b8 (j + n)) h r c)
    ∧ (∀ h r c, (stB I w w j dq n).ds h (ix3 0 r c) = I.D j (b8 (j + n)) h r c)
  | 0, hn => by
    refine ⟨Sums.zero I j dq _ (fun h x => zero115 ((dvRect h).emb x)) (fun h x => zero114 ((dkRect h).emb x)) rfl, rfl, fun h r c => ?_, fun h r c => ?_⟩
    · refine (ptD_P I (b8 j) h r c w).trans ?_
      rw [b8_val hj]; rfl
    · refine (dsD_D I (b8 j) h r c w).trans ?_
      rw [b8_val hj]; rfl
  | n + 1, hn => by
    obtain ⟨hS, hsc, hp, hd⟩ := stB_closed hj n (by omega)
    have hS' := Sums.step I j dq n (by omega) _ hS hp hd
    refine ⟨⟨hS'.dv, hS'.dk, hS'.dq⟩, rfl, fun h r c => ?_, fun h r c => ?_⟩
    · show ptN I (b8 (j + n + 1)) (stB I w w j dq n).sc h (ix3 0 r c) = _
      rw [hsc, Nat.min_eq_left (by omega)]
      exact ptN_P I j _ h r c (by rw [b8_val (by omega)]; omega)
    · show dsN I (b8 (j + n + 1)) (stB I w w j dq n).sc h (ix3 0 r c) = _
      rw [hsc, Nat.min_eq_left (by omega)]
      exact dsN_D I j _ h r c (by rw [b8_val (by omega)]; omega)

/-- After the pass: the sums over every query block from the diagonal on. -/
theorem stEnd_sums (hj : j < 8) : Sums I j dq (8 - j) (stEnd I w w j dq) := by
  obtain ⟨hS, -, hp, hd⟩ := stB_closed I j w dq hj (7 - j) (by omega)
  have := Sums.step I j dq (7 - j) (by omega) _ hS hp hd
  rw [show b8 (j + (7 - j)) = 7 by apply Fin.ext; rw [b8_val (by omega)]; show j + (7 - j) = 7; omega,
    show 7 - j + 1 = 8 - j by omega] at this
  exact this

end Cert.KernelIdeal.Fox
end
-- ==== Proof.Blocks.lean ====
module

public import proofs.«01_k».proof.Proof.HostVal
public import proofs.«01_k».proof.Proof.Pass

/-! The operands of a grid point as reads of the arrays the call finds. -/

@[expose] public section

set_option maxRecDepth 16384

noncomputable section
namespace Cert.KernelIdeal.Fox

open Idealize.ShloMosaic Idealize.ShloMosaic.TcCoe
open Cert.KernelIdeal.Gen

theorem idx_facts : ∀ t : Fin cfg0.N,
    (win0_0.index t 0 = 0 ∧ win0_0.index t 1 = t.val / 8) ∧ (win0_1.index t 0 = t.val % 8 ∧ win0_1.index t 1 = t.val / 8)
    ∧ (win0_2.index t 0 = t.val % 8 ∧ win0_2.index t 1 = 22 + t.val / 8) ∧ (win0_3.index t 0 = 0 ∧ win0_3.index t 1 = t.val / 8)
    ∧ (win0_4.index t 0 = t.val / 8 ∧ win0_4.index t 1 = 0 ∧ win0_4.index t 2 = 0 ∧ win0_4.index t 3 = 0)
    ∧ (win0_5.index t 0 = t.val / 8 ∧ win0_5.index t 1 = 0 ∧ win0_5.index t 2 = 0 ∧ win0_5.index t 3 = 0)
    ∧ (win0_6.index t 0 = t.val / 8 ∧ win0_6.index t 1 = 0 ∧ win0_6.index t 2 = 0 ∧ win0_6.index t 3 = 0)
    ∧ (win0_7.index t 0 = t.val / 8 ∧ win0_7.index t 1 = 0 ∧ win0_7.index t 2 = 0 ∧ win0_7.index t 3 = 0)
    ∧ (win0_8.index t 0 = t.val / 8 ∧ win0_8.index t 1 = 0 ∧ win0_8.index t 2 = 0 ∧ win0_8.index t 3 = 0)
    ∧ (win0_9.index t 0 = t.val % 8 ∧ win0_9.index t 1 = t.val / 8) ∧ (win0_10.index t 0 = t.val % 8 ∧ win0_10.index t 1 = t.val / 8) :=
  (by decide +kernel : ∀ t : Fin grid0.N, _)

section
variable {F : FTy → Type} [FloatOps F] (m : (ℓ : Loc nD τ sig) → Buf (Elt F) ℓ) (c : Dev nD) (t : Fin cfg0.N)

theorem t_lt : t.val < 32 := lt_of_lt_of_eq t.isLt N_0

theorem blk0_at (a : Fin 4096) (b : Fin 256) : (iblk m c 0 t : Vec F S4096x256 .bf16) (ix2 a b)
    = (V m c main_v76 : Vec F S4096x1024 .bf16) (ix2 a ⟨256 * (t.val / 8) + b.val, by have := t_lt t; omega⟩) := by
  obtain ⟨⟨h0, h1⟩, -⟩ := idx_facts t
  unfold iblk
  show (V m c main_v76 : Vec F S4096x1024 .bf16) ((win0_0.rect t).emb (ix2 a b)) = _
  refine congrArg _ (funext fun x => Fin.ext ?_)
  match x with
  | ⟨0, _⟩ => show win0_0.index t 0 * 4096 + 1 * a.val = a.val; rw [h0]; omega
  | ⟨1, _⟩ => show win0_0.index t 1 * 256 + 1 * b.val = 256 * (t.val / 8) + b.val; rw [h1]; omega

theorem blk1_at (a : Fin 512) (b : Fin 256) : (iblk m c 1 t : Vec F S512x256 .bf16) (ix2 a b)
    = (V m c main_v79 : Vec F S4096x1024 .bf16) (ix2 ⟨512 * (t.val % 8) + a.val, by omega⟩ ⟨256 * (t.val / 8) + b.val, by have := t_lt t; omega⟩) := by
  obtain ⟨-, ⟨h0, h1⟩, -⟩ := idx_facts t
  unfold iblk
  show (V m c main_v79 : Vec F S4096x1024 .bf16) ((win0_1.rect t).emb (ix2 a b)) = _
  refine congrArg _ (funext fun x => Fin.ext ?_)
  match x with
  | ⟨0, _⟩ => show win0_1.index t 0 * 512 + 1 * a.val = 512 * (t.val % 8) + a.val; rw [h0]; omega
  | ⟨1, _⟩ => show win0_1.index t 1 * 256 + 1 * b.val = 256 * (t.val / 8) + b.val; rw [h1]; omega

theorem blk2_at (a : Fin 512) (b : Fin 128) : (iblk m c 2 t : Vec F S512x128 .f32) (ix2 a b)
    = (V m c main_v73 : Vec F S4096x4096 .f32) (ix2 ⟨512 * (t.val % 8) + a.val, by omega⟩ ⟨2816 + (128 * (t.val / 8) + b.val), by have := t_lt t; omega⟩) := by
  obtain ⟨-, -, ⟨h0, h1⟩, -⟩ := idx_facts t
  unfold iblk
  show (V m c main_v73 : Vec F S4096x4096 .f32) ((win0_2.rect t).emb (ix2 a b)) = _
  refine congrArg _ (funext fun x => Fin.ext ?_)
  match x with
  | ⟨0, _⟩ => show win0_2.index t 0 * 512 + 1 * a.val = 512 * (t.val % 8) + a.val; rw [h0]; omega
  | ⟨1, _⟩ => show win0_2.index t 1 * 128 + 1 * b.val = 2816 + (128 * (t.val / 8) + b.val); rw [h1]; omega

theorem blk3_at (a : Fin 4096) (b : Fin 128) : (iblk m c 3 t : Vec F S4096x128 .bf16) (ix2 a b)
    = (V m c main_v80 : Vec F S4096x512 .bf16) (ix2 a ⟨128 * (t.val / 8) + b.val, by have := t_lt t; omega⟩) := by
  obtain ⟨-, -, -, ⟨h0, h1⟩, -⟩ := idx_facts t
  unfold iblk
  show (V m c main_v80 : Vec F S4096x512 .bf16) ((win0_3.rect t).emb (ix2 a b)) = _
  refine congrArg _ (funext fun x => Fin.ext ?_)
  match x with
  | ⟨0, _⟩ => show win0_3.index t 0 * 4096 + 1 * a.val = a.val; rw [h0]; omega
  | ⟨1, _⟩ => show win0_3.index t 1 * 128 + 1 * b.val = 128 * (t.val / 8) + b.val; rw [h1]; omega

theorem blk4_at (b s : Fin 8) (r : Fin 512) : (iblk m c 4 t : Vec F S1x8x8x512 .f32) (ix4 0 b s r)
    = (V m c main_v83 : Vec F S4x8x8x512 .f32) (ix4 ⟨t.val / 8, by have := t_lt t; omega⟩ b s r) := by
  obtain ⟨-, -, -, -, ⟨h0, h1, h2, h3⟩, -⟩ := idx_facts t
  unfold iblk
  show (V m c main_v83 : Vec F S4x8x8x512 .f32) ((win0_4.rect t).emb (ix4 0 b s r)) = _
  refine congrArg _ (funext fun x => Fin.ext ?_)
  match x with
  | ⟨0, _⟩ => show win0_4.index t 0 * 1 + 1 * 0 = t.val / 8; rw [h0]; omega
  | ⟨1, _⟩ => show win0_4.index t 1 * 8 + 1 * b.val = b.val; rw [h1]; omega
  | ⟨2, _⟩ => show win0_4.index t 2 * 8 + 1 * s.val = s.val; rw [h2]; omega
  | ⟨3, _⟩ => show win0_4.index t 3 * 512 + 1 * r.val = r.val; rw [h3]; omega

theorem blk5_at (b s : Fin 8) (r : Fin 512) : (iblk m c 5 t : Vec F S1x8x8x512 .f32) (ix4 0 b s r)
    = (V m c main_v86 : Vec F S4x8x8x512 .f32) (ix4 ⟨t.val / 8, by have := t_lt t; omega⟩ b s r) := by
  obtain ⟨-, -, -, -, -, ⟨h0, h1, h2, h3⟩, -⟩ := idx_facts t
  unfold iblk
  show (V m c main_v86 : Vec F S4x8x8x512 .f32) ((win0_5.rect t).emb (ix4 0 b s r)) = _
  refine congrArg _ (funext fun x => Fin.ext ?_)
  match x with
  | ⟨0, _⟩ => show win0_5.index t 0 * 1 + 1 * 0 = t.val / 8; rw [h0]; omega
  | ⟨1, _⟩ => show win0_5.index t 1 * 8 + 1 * b.val = b.val; rw [h1]; omega
  | ⟨2, _⟩ => show win0_5.index t 2 * 8 + 1 * s.val = s.val; rw [h2]; omega
  | ⟨3, _⟩ => show win0_5.index t 3 * 512 + 1 * r.val = r.val; rw [h3]; omega

theorem blk6_at (b : Fin 8) (l : Fin 128) (r : Fin 512) : (iblk m c 6 t : Vec F S1x8x128x512 .bf16) (ix4 0 b l r)
    = (V m c main_v72 : Vec F S4x8x128x512 .bf16) (ix4 ⟨t.val / 8, by have := t_lt t; omega⟩ b l r) := by
  obtain ⟨-, -, -, -, -, -, ⟨h0, h1, h2, h3⟩, -⟩ := idx_facts t
  unfold iblk
  show (V m c main_v72 : Vec F S4x8x128x512 .bf16) ((win0_6.rect t).emb (ix4 0 b l r)) = _
  refine congrArg _ (funext fun x => Fin.ext ?_)
  match x with
  | ⟨0, _⟩ => show win0_6.index t 0 * 1 + 1 * 0 = t.val / 8; rw [h0]; omega
  | ⟨1, _⟩ => show win0_6.index t 1 * 8 + 1 * b.val = b.val; rw [h1]; omega
  | ⟨2, _⟩ => show win0_6.index t 2 * 128 + 1 * l.val = l.val; rw [h2]; omega
  | ⟨3, _⟩ => show win0_6.index t 3 * 512 + 1 * r.val = r.val; rw [h3]; omega

theorem blk7_at (h : Fin 2) (b : Fin 8) (l : Fin 128) (r : Fin 512) : (iblk m c 7 t : Vec F S2x8x128x512 .bf16) (ix4 h b l r)
    = (V m c main_v69 : Vec F S8x8x128x512 .bf16) (ix4 ⟨2 * (t.val / 8) + h.val, by have := t_lt t; omega⟩ b l r) := by
  obtain ⟨-, -, -, -, -, -, -, ⟨h0, h1, h2, h3⟩, -⟩ := idx_facts t
  unfold iblk
  show (V m c main_v69 : Vec F S8x8x128x512 .bf16) ((win0_7.rect t).emb (ix4 h b l r)) = _
  refine congrArg _ (funext fun x => Fin.ext ?_)
  match x with
  | ⟨0, _⟩ => show win0_7.index t 0 * 2 + 1 * h.val = 2 * (t.val / 8) + h.val; rw [h0]; omega
  | ⟨1, _⟩ => show win0_7.index t 1 * 8 + 1 * b.val = b.val; rw [h1]; omega
  | ⟨2, _⟩ => show win0_7.index t 2 * 128 + 1 * l.val = l.val; rw [h2]; omega
  | ⟨3, _⟩ => show win0_7.index t 3 * 512 + 1 * r.val = r.val; rw [h3]; omega
end

end Cert.KernelIdeal.Fox
end
-- ==== Proof.Operands.lean ====
module

public import proofs.«01_k».proof.Proof.Blocks

/-! The operands of a grid point in terms of the whole features, statistics and arguments. -/

@[expose] public section

set_option maxRecDepth 16384

noncomputable section
namespace Cert.KernelIdeal.Fox

open Idealize.ShloMosaic Idealize.ShloMosaic.TcCoe
open Cert.KernelIdeal.Gen

/-- A grid point's head pair and key block. -/
def tp (t : Fin cfg0.N) : Fin 4 := ⟨t.val / 8, by have := t_lt t; omega⟩
def tj (t : Fin cfg0.N) : Fin 8 := ⟨t.val % 8, by omega⟩
/-- A pair's head, a block's position. -/
def hd (p : Fin 4) (h : Fin 2) : Fin 8 := ⟨p.val * 2 + h.val, by omega⟩
def pos (b : Fin 8) (r : Fin 512) : Fin 4096 := ⟨b.val * 512 + r.val, by omega⟩
/-- A head's lane among the columns. -/
def lane (g : Fin 8) (d : Fin 64) : Fin 512 := ⟨g.val * 64 + d.val, by omega⟩

variable (m : (ℓ : Loc nD τ sig) → Buf (Elt Ideal) ℓ) (c : Dev nD) (t : Fin cfg0.N) (h : Fin 2) (b : Fin 8) (r s : Fin 512) (l : Fin 128) (d : Fin 64)

theorem ld_k0 (x : Vec Ideal S512x256 .bf16) : (View.ld (Val := Elt Ideal) x (Rect.unit (s := S512x256) ![0, 0] S512x128.size inb_S512x256_S512x128_0_0) : Vec Ideal S512x128 .bf16) (ix2 r l)
    = x (ix2 r ⟨l.val, by omega⟩) :=
  congrArg x (funext fun a => Fin.ext (match a with
    | ⟨0, _⟩ => by show 0 + 1 * r.val = r.val; omega
    | ⟨1, _⟩ => by show 0 + 1 * l.val = l.val; omega))
theorem ld_k1 (x : Vec Ideal S512x256 .bf16) : (View.ld (Val := Elt Ideal) x (Rect.unit (s := S512x256) ![0, 128] S512x128.size inb_S512x256_S512x128_0_128) : Vec Ideal S512x128 .bf16) (ix2 r l)
    = x (ix2 r ⟨128 + l.val, by omega⟩) :=
  congrArg x (funext fun a => Fin.ext (match a with
    | ⟨0, _⟩ => by show 0 + 1 * r.val = r.val; omega
    | ⟨1, _⟩ => by show 128 + 1 * l.val = 128 + l.val; omega))
theorem ld_v (x : Vec Ideal S512x128 .f32) : (View.ld (Val := Elt Ideal) x (Rect.unit (s := S512x128) ![0, 0] S512x128.size inb_S512x128_S512x128_0_0) : Vec Ideal S512x128 .f32) (ix2 r l)
    = x (ix2 r l) :=
  congrArg x (funext fun a => Fin.ext (match a with
    | ⟨0, _⟩ => by show 0 + 1 * r.val = r.val; omega
    | ⟨1, _⟩ => by show 0 + 1 * l.val = l.val; omega))

theorem pay116_at (x : Vec Ideal S512x128 .bf16) : k0_pay116 x (ix2 r l) = x (ix2 r l) := by pointwise [k0_pay116]
theorem pay117_at (x : Vec Ideal S512x128 .bf16) : k0_pay117 x (ix2 r l) = x (ix2 r l) := by pointwise [k0_pay117]
theorem pay119_at (x : Vec Ideal S512x128 .bf16) : k0_pay119 (k0_pay118 x) (ix2 l r) = x (ix2 r l) := by pointwise [k0_pay119, k0_pay118, k0_pay116]
theorem pay120_at (x : Vec Ideal S512x128 .bf16) : k0_pay120 (k0_pay117 x) (ix2 l r) = x (ix2 r l) := by pointwise [k0_pay120, k0_pay117]
theorem pay121_at (x : Vec Ideal S512x128 .f32) : k0_pay121 x (ix2 r l) = x (ix2 r l) := by pointwise [k0_pay121]

theorem blk1_feat (x : Fin 256) (hx : x.val = 128 * h.val + l.val) : (iblk m c 1 t : Vec Ideal S512x256 .bf16) (ix2 r x)
    = kfA m c (ix3 (hd (tp t) h) (pos (tj t) r) l) := by
  rw [blk1_at, V_k, hRows_at, V_kf]
  have h1 := t_lt t
  congr 2 <;> apply Fin.ext
  · show (256 * (t.val / 8) + x.val) / 128 = t.val / 8 * 2 + h.val; omega
  · show 512 * (t.val % 8) + r.val = t.val % 8 * 512 + r.val; omega
  · show (256 * (t.val / 8) + x.val) % 128 = l.val; omega

theorem kf_at : (opnd m c t).kf h (ix2 r l) = kfA m c (ix3 (hd (tp t) h) (pos (tj t) r) l) := by
  match h with
  | ⟨0, _⟩ =>
    refine (pay116_at r l _).trans ((ld_k0 r l _).trans (blk1_feat m c t 0 r l _ ?_))
    show l.val = 128 * 0 + l.val; omega
  | ⟨1, _⟩ =>
    refine (pay117_at r l _).trans ((ld_k1 r l _).trans (blk1_feat m c t 1 r l _ ?_))
    show 128 + l.val = 128 * 1 + l.val; omega
theorem ktf_at : (opnd m c t).ktf h (ix2 l r) = kfA m c (ix3 (hd (tp t) h) (pos (tj t) r) l) := by
  match h with
  | ⟨0, _⟩ =>
    refine (pay119_at r l _).trans ((ld_k0 r l _).trans (blk1_feat m c t 0 r l _ ?_))
    show l.val = 128 * 0 + l.val; omega
  | ⟨1, _⟩ =>
    refine (pay120_at r l _).trans ((ld_k1 r l _).trans (blk1_feat m c t 1 r l _ ?_))
    show 128 + l.val = 128 * 1 + l.val; omega

theorem v_at : (opnd m c t).v (ix2 r (⟨64 * h.val + d.val, by omega⟩ : Fin 128)) = vA m c (ix2 (pos (tj t) r) (lane (hd (tp t) h) d)) := by
  refine (pay121_at r _ _).trans ((ld_v r _ _).trans ?_)
  rw [blk2_at, V_v]
  have h1 := t_lt t
  refine Eq.trans ?_ (hWide_at (pos (tj t) r) (vA m c) (lane (hd (tp t) h) d))
  congr 2 <;> apply Fin.ext
  · show 512 * (t.val % 8) + r.val = t.val % 8 * 512 + r.val; omega
  · show 2816 + (128 * (t.val / 8) + (64 * h.val + d.val)) = 2816 + ((t.val / 8 * 2 + h.val) * 64 + d.val); omega

theorem q_at : (opnd m c t).q b (ix2 s (⟨128 * h.val + l.val, by omega⟩ : Fin 256)) = qfA m c (ix3 (hd (tp t) h) (pos b s) l) := by
  have h1 := t_lt t
  have e : (opnd m c t).q b (ix2 s (⟨128 * h.val + l.val, by omega⟩ : Fin 256))
      = (iblk m c 0 t : Vec Ideal S4096x256 .bf16) (ix2 (pos b s) ⟨128 * h.val + l.val, by omega⟩) :=
    congrArg (iblk m c 0 t : Vec Ideal S4096x256 .bf16) (funext fun a => Fin.ext (match a with
      | ⟨0, _⟩ => by show 512 * b.val + 1 * s.val = b.val * 512 + s.val; omega
      | ⟨1, _⟩ => by show 0 + 1 * (128 * h.val + l.val) = 128 * h.val + l.val; omega))
  rw [e, blk0_at, V_q, hRows_at, V_qf]
  congr 2 <;> apply Fin.ext
  · show (256 * (t.val / 8) + (128 * h.val + l.val)) / 128 = t.val / 8 * 2 + h.val; omega
  · show (256 * (t.val / 8) + (128 * h.val + l.val)) % 128 = l.val; omega

theorem o_at : (opnd m c t).o b (ix2 s (⟨64 * h.val + d.val, by omega⟩ : Fin 128)) = gA m c (ix2 (pos b s) (lane (hd (tp t) h) d)) := by
  have h1 := t_lt t
  have e : (opnd m c t).o b (ix2 s (⟨64 * h.val + d.val, by omega⟩ : Fin 128))
      = (iblk m c 3 t : Vec Ideal S4096x128 .bf16) (ix2 (pos b s) ⟨64 * h.val + d.val, by omega⟩) :=
    congrArg (iblk m c 3 t : Vec Ideal S4096x128 .bf16) (funext fun a => Fin.ext (match a with
      | ⟨0, _⟩ => by show 512 * b.val + 1 * s.val = b.val * 512 + s.val; omega
      | ⟨1, _⟩ => by show 0 + 1 * (64 * h.val + d.val) = 64 * h.val + d.val; omega))
  rw [e, blk3_at, V_o]
  show gA m c _ = _
  congr 2; apply Fin.ext
  show 128 * (t.val / 8) + (64 * h.val + d.val) = (t.val / 8 * 2 + h.val) * 64 + d.val; omega

theorem ot_at : (opnd m c t).ot h b (ix4 0 0 d s) = gA m c (ix2 (pos b s) (lane (hd (tp t) h) d)) := by
  have h1 := t_lt t
  have e : (opnd m c t).ot h b (ix4 0 0 d s)
      = (iblk m c 6 t : Vec Ideal S1x8x128x512 .bf16) (ix4 0 b ⟨64 * h.val + d.val, by omega⟩ s) :=
    congrArg (iblk m c 6 t : Vec Ideal S1x8x128x512 .bf16) (funext fun a => Fin.ext (match a with
      | ⟨0, _⟩ => by show 0 + 1 * 0 = 0; omega
      | ⟨1, _⟩ => by show b.val + 1 * 0 = b.val; omega
      | ⟨2, _⟩ => by show 64 * h.val + 1 * d.val = 64 * h.val + d.val; omega
      | ⟨3, _⟩ => by show 0 + 1 * s.val = s.val; omega))
  rw [e, blk6_at, V_ot, hDt_at]
  congr 2; apply Fin.ext
  show t.val / 8 * 128 + (64 * h.val + d.val) = (t.val / 8 * 2 + h.val) * 64 + d.val; omega

theorem qt_at : (opnd m c t).qt h b (ix4 0 0 l s) = qfA m c (ix3 (hd (tp t) h) (pos b s) l) := by
  have h1 := t_lt t
  have e : (opnd m c t).qt h b (ix4 0 0 l s)
      = (iblk m c 7 t : Vec Ideal S2x8x128x512 .bf16) (ix4 h b l s) :=
    congrArg (iblk m c 7 t : Vec Ideal S2x8x128x512 .bf16) (funext fun a => Fin.ext (match a with
      | ⟨0, _⟩ => by show h.val + 1 * 0 = h.val; omega
      | ⟨1, _⟩ => by show b.val + 1 * 0 = b.val; omega
      | ⟨2, _⟩ => by show 0 + 1 * l.val = l.val; omega
      | ⟨3, _⟩ => by show 0 + 1 * s.val = s.val; omega))
  rw [e, blk7_at, V_qt, hQt_at, V_qf]
  congr 2; apply Fin.ext
  show 2 * (t.val / 8) + h.val = t.val / 8 * 2 + h.val; omega

theorem lse_at : (opnd m c t).lse b (ix4 0 0 (⟨h.val, by omega⟩ : Fin 8) s) = lseA m c (ix2 (hd (tp t) h) (pos b s)) := by
  have h1 := t_lt t
  have e : (opnd m c t).lse b (ix4 0 0 (⟨h.val, by omega⟩ : Fin 8) s)
      = (iblk m c 4 t : Vec Ideal S1x8x8x512 .f32) (ix4 0 b ⟨h.val, by omega⟩ s) :=
    congrArg (iblk m c 4 t : Vec Ideal S1x8x8x512 .f32) (funext fun a => Fin.ext (match a with
      | ⟨0, _⟩ => by show 0 + 1 * 0 = 0; omega
      | ⟨1, _⟩ => by show b.val + 1 * 0 = b.val; omega
      | ⟨2, _⟩ => by show 0 + 1 * h.val = h.val; omega
      | ⟨3, _⟩ => by show 0 + 1 * s.val = s.val; omega))
  rw [e, blk4_at, V_ls, hStat_at _ _ _ _ (by show h.val < 2; omega), V_lse]
  rfl
theorem dlt_at : (opnd m c t).dlt b (ix4 0 0 (⟨h.val, by omega⟩ : Fin 8) s) = dltA m c (ix2 (hd (tp t) h) (pos b s)) := by
  have h1 := t_lt t
  have e : (opnd m c t).dlt b (ix4 0 0 (⟨h.val, by omega⟩ : Fin 8) s)
      = (iblk m c 5 t : Vec Ideal S1x8x8x512 .f32) (ix4 0 b ⟨h.val, by omega⟩ s) :=
    congrArg (iblk m c 5 t : Vec Ideal S1x8x8x512 .f32) (funext fun a => Fin.ext (match a with
      | ⟨0, _⟩ => by show 0 + 1 * 0 = 0; omega
      | ⟨1, _⟩ => by show b.val + 1 * 0 = b.val; omega
      | ⟨2, _⟩ => by show 0 + 1 * h.val = h.val; omega
      | ⟨3, _⟩ => by show 0 + 1 * s.val = s.val; omega))
  rw [e, blk5_at, V_dl, hStat_at _ _ _ _ (by show h.val < 2; omega), V_dlt]
  rfl

/-! ## The point's scores and gradients, whole -/

/-- The score, upstream product, probability and score gradient of head `g`'s query `u` against key `k`. -/
def gS (g : Fin 8) (u k : Fin 4096) : EReal := ∑ l : Fin 128, kfA m c (ix3 g k l) * qfA m c (ix3 g u l)
def gdP (g : Fin 8) (u k : Fin 4096) : EReal := ∑ d : Fin 64, vA m c (ix2 k (lane g d)) * gA m c (ix2 u (lane g d))
def gP (g : Fin 8) (u k : Fin 4096) : EReal := if k.val ≤ u.val then Ideal.exp (gS m c g u k - lseA m c (ix2 g u)) else 0
def gD (g : Fin 8) (u k : Fin 4096) : EReal := if k.val ≤ u.val then
  Ideal.exp (gS m c g u k - lseA m c (ix2 g u)) * (gdP m c g u k - dltA m c (ix2 g u)) else 0

theorem S_eq : (opnd m c t).S b h r s = gS m c (hd (tp t) h) (pos b s) (pos (tj t) r) := by
  unfold Opnd.S gS
  simp only [kf_at, q_at]
theorem dP_eq : (opnd m c t).dP b h r s = gdP m c (hd (tp t) h) (pos b s) (pos (tj t) r) := by
  unfold Opnd.dP gdP
  simp only [v_at, o_at]

theorem le_iff (hb : (tj t).val ≤ b.val) : ((b.val = (tj t).val → r.val ≤ s.val) ↔ (pos (tj t) r).val ≤ (pos b s).val) := by
  show _ ↔ (tj t).val * 512 + r.val ≤ b.val * 512 + s.val
  have := r.isLt; have := s.isLt
  constructor
  · intro f
    by_cases e : b.val = (tj t).val
    · have := f e; omega
    · omega
  · intro f e; omega

theorem P_eq (hb : (tj t).val ≤ b.val) : (opnd m c t).P (tj t).val b h r s = gP m c (hd (tp t) h) (pos b s) (pos (tj t) r) := by
  unfold Opnd.P gP
  rw [S_eq, lse_at]
  by_cases f : (pos (tj t) r).val ≤ (pos b s).val
  · rw [if_pos f, if_pos ((le_iff t b r s hb).mpr f)]
  · rw [if_neg f, if_neg (fun e => f ((le_iff t b r s hb).mp e))]
theorem D_eq (hb : (tj t).val ≤ b.val) : (opnd m c t).D (tj t).val b h r s = gD m c (hd (tp t) h) (pos b s) (pos (tj t) r) := by
  unfold Opnd.D gD
  rw [S_eq, lse_at, dP_eq, dlt_at]
  by_cases f : (pos (tj t) r).val ≤ (pos b s).val
  · rw [if_pos f, if_pos ((le_iff t b r s hb).mpr f)]
  · rw [if_neg f, if_neg (fun e => f ((le_iff t b r s hb).mp e))]

/-- Below the diagonal both vanish. -/
theorem gP_zero (g : Fin 8) (hb : b.val < (tj t).val) : gP m c g (pos b s) (pos (tj t) r) = 0 :=
  if_neg (by show ¬ ((tj t).val * 512 + r.val ≤ b.val * 512 + s.val); have := s.isLt; omega)
theorem gD_zero (g : Fin 8) (hb : b.val < (tj t).val) : gD m c g (pos b s) (pos (tj t) r) = 0 :=
  if_neg (by show ¬ ((tj t).val * 512 + r.val ≤ b.val * 512 + s.val); have := s.isLt; omega)

end Cert.KernelIdeal.Fox
end
-- ==== Proof.Stack.lean ====
module

public import proofs.«01_k».proof.Proof.Operands

/-! The grid's points put together: dk and dv from each point's pass over the query blocks, dq from the points of a head
pair in turn. -/

@[expose] public section

set_option maxRecDepth 16384

noncomputable section
namespace Cert.KernelIdeal.Fox

open Idealize.ShloMosaic Idealize.ShloMosaic.TcCoe
open Cert.KernelIdeal.Gen

/-- A sum over the positions, block by block. -/
theorem sum_pos (f : Fin 4096 → EReal) : ∑ u, f u = ∑ b : Fin 8, ∑ s : Fin 512, f (pos b s) := by
  rw [← Fintype.sum_prod_type', ← Equiv.sum_comp (finProdFinEquiv (m := 8) (n := 512)) f]
  refine Finset.sum_congr rfl fun x _ => congrArg f (Fin.ext ?_)
  show x.2.val + 512 * x.1.val = x.1.val * 512 + x.2.val
  omega

variable (m : (ℓ : Loc nD τ sig) → Buf (Elt Ideal) ℓ) (c : Dev nD) (t : Fin cfg0.N)

/-- The gradients of the values, the keys' features and the queries' features. -/
def gDV (g : Fin 8) (k : Fin 4096) (d : Fin 64) : EReal := ∑ u : Fin 4096, gA m c (ix2 u (lane g d)) * gP m c g u k
def gDK (g : Fin 8) (k : Fin 4096) (l : Fin 128) : EReal := ∑ u : Fin 4096, qfA m c (ix3 g u l) * gD m c g u k
def gDQ (g : Fin 8) (u : Fin 4096) (l : Fin 128) : EReal := ∑ k : Fin 4096, kfA m c (ix3 g k l) * gD m c g u k

theorem stAt_sums : Sums (opnd m c t) (tj t).val (if (tj t).val = 0 then zeroDq else dqBefore m c t.val) (8 - (tj t).val) (stAt m c t.val) := by
  have e : (grid0.coords t 1).val = (tj t).val := coords_val t
  rw [stAt_eq]
  unfold stPt
  rw [e]
  exact stEnd_sums _ _ _ _ (tj t).isLt

theorem dv_eq (h : Fin 2) (d : Fin 64) (r : Fin 512) : (stAt m c t.val).dv h (ix2 d r) = gDV m c (hd (tp t) h) (pos (tj t) r) d := by
  rw [(stAt_sums m c t).dv]
  unfold gDV
  rw [sum_pos]
  refine Finset.sum_congr rfl fun b _ => ?_
  have hj := (tj t).isLt
  by_cases hb : (tj t).val ≤ b.val
  · rw [if_pos ⟨hb, by omega⟩]
    refine Finset.sum_congr rfl fun s _ => ?_
    rw [ot_at, P_eq m c t h b r s hb]
  · rw [if_neg (fun f => hb f.1)]
    refine (Finset.sum_eq_zero fun s _ => ?_).symm
    rw [gP_zero m c t b r s _ (by omega), mul_zero]

theorem dk_eq (h : Fin 2) (l : Fin 128) (r : Fin 512) : (stAt m c t.val).dk h (ix3 0 l r) = gDK m c (hd (tp t) h) (pos (tj t) r) l := by
  rw [(stAt_sums m c t).dk]
  unfold gDK
  rw [sum_pos]
  refine Finset.sum_congr rfl fun b _ => ?_
  have hj := (tj t).isLt
  by_cases hb : (tj t).val ≤ b.val
  · rw [if_pos ⟨hb, by omega⟩]
    refine Finset.sum_congr rfl fun s _ => ?_
    rw [qt_at, D_eq m c t h b r s hb]
  · rw [if_neg (fun f => hb f.1)]
    refine (Finset.sum_eq_zero fun s _ => ?_).symm
    rw [gD_zero m c t b r s _ (by omega), mul_zero]

/-- A key block's part of a query's gradient. -/
def part (g : Fin 8) (b : Fin 8) (s : Fin 512) (l : Fin 128) (j : Fin 8) : EReal :=
  ∑ r : Fin 512, kfA m c (ix3 g (pos j r) l) * gD m c g (pos b s) (pos j r)

theorem part_eq (h : Fin 2) (b : Fin 8) (s : Fin 512) (l : Fin 128) :
    (if (tj t).val ≤ b.val ∧ b.val < (tj t).val + (8 - (tj t).val) then ∑ r : Fin 512, (opnd m c t).ktf h (ix2 l r) * (opnd m c t).D (tj t).val b h r s else 0)
      = part m c (hd (tp t) h) b s l (tj t) := by
  unfold part
  have hj := (tj t).isLt
  by_cases hb : (tj t).val ≤ b.val
  · rw [if_pos ⟨hb, by omega⟩]
    refine Finset.sum_congr rfl fun r _ => ?_
    rw [ktf_at, D_eq m c t h b r s hb]
  · rw [if_neg (fun f => hb f.1)]
    refine (Finset.sum_eq_zero fun r _ => ?_).symm
    rw [gD_zero m c t b r s _ (by omega), mul_zero]

theorem sum_upto (f : Fin 8 → EReal) (j : Fin 8) (n : ℕ) (hn : j.val = n + 1) :
    (∑ i : Fin 8, if i.val ≤ j.val then f i else 0) = (∑ i : Fin 8, if i.val ≤ n then f i else 0) + f j := by
  have e : f j = ∑ i : Fin 8, if i = j then f i else 0 := by
    rw [Finset.sum_ite_eq' Finset.univ j f, if_pos (Finset.mem_univ _)]
  rw [e, ← Finset.sum_add_distrib]
  refine Finset.sum_congr rfl fun i _ => ?_
  by_cases hi : i = j
  · rw [if_pos hi, if_pos (by rw [hi]), if_neg (by rw [hi]; omega), zero_add]
  · have : i.val ≠ j.val := fun e => hi (Fin.ext e)
    rw [if_neg hi, add_zero]
    by_cases hc : i.val ≤ n
    · rw [if_pos hc, if_pos (by omega)]
    · rw [if_neg hc, if_neg (by omega)]

theorem sum_first (f : Fin 8 → EReal) (j : Fin 8) (hj : j.val = 0) : (∑ i : Fin 8, if i.val ≤ j.val then f i else 0) = f j := by
  have e : f j = ∑ i : Fin 8, if i = j then f i else 0 := by
    rw [Finset.sum_ite_eq' Finset.univ j f, if_pos (Finset.mem_univ _)]
  rw [e]
  refine Finset.sum_congr rfl fun i _ => ?_
  by_cases hi : i = j
  · rw [if_pos hi, if_pos (by rw [hi])]
  · have : i.val ≠ j.val := fun e => hi (Fin.ext e)
    rw [if_neg hi, if_neg (by omega)]

theorem zeroDq_at (h : Fin 2) (b : Fin 8) (x : S1x1x128x512.Idx) : (zeroDq (F := Ideal) h b) x = (0 : EReal) :=
  zero113 ((qtRect h b).emb x)

theorem dq_upto : ∀ (n : ℕ) (t : Fin cfg0.N), t.val = n → ∀ (h : Fin 2) (b : Fin 8) (l : Fin 128) (s : Fin 512),
    (stAt m c n).dq h b (ix4 0 0 l s) = ∑ i : Fin 8, if i.val ≤ (tj t).val then part m c (hd (tp t) h) b s l i else 0 := by
  intro n
  induction n with
  | zero =>
    intro t ht h b l s
    have h0 : (tj t).val = 0 := by show t.val % 8 = 0; rw [ht]
    have H := (stAt_sums m c t).dq h b l s
    rw [ht, if_pos h0, part_eq] at H
    rw [H, sum_first _ _ h0]
    rw [zeroDq_at, zero_add]
  | succ n ih =>
    intro t ht h b l s
    have H := (stAt_sums m c t).dq h b l s
    rw [part_eq] at H
    by_cases h0 : (tj t).val = 0
    · rw [ht, if_pos h0] at H
      rw [H, sum_first _ _ h0]
      rw [zeroDq_at, zero_add]
    · rw [ht, if_neg h0] at H
      have h1 : t.val % 8 ≠ 0 := h0
      have hlt := t.isLt
      have hp := ih ⟨n, by omega⟩ rfl h b l s
      have ep : tp (⟨n, by omega⟩ : Fin cfg0.N) = tp t := Fin.ext (by show n / 8 = t.val / 8; omega)
      rw [ep] at hp
      rw [H, show dqBefore m c (n + 1) = (stAt m c n).dq from rfl, hp]
      exact (sum_upto _ (tj t) (n % 8) (by show t.val % 8 = n % 8 + 1; omega)).symm

/-- A head pair's last point: the queries' gradients whole. -/
theorem dq_eq (ht : (tj t).val = 7) (h : Fin 2) (b : Fin 8) (l : Fin 128) (s : Fin 512) :
    (stAt m c t.val).dq h b (ix4 0 0 l s) = gDQ m c (hd (tp t) h) (pos b s) l := by
  rw [dq_upto m c t.val t rfl, ht]
  unfold gDQ
  rw [sum_pos]
  refine Finset.sum_congr rfl fun i _ => ?_
  rw [if_pos (by have := i.isLt; omega)]
  rfl

end Cert.KernelIdeal.Fox
end
-- ==== Proof.Arrays.lean ====
module

public import proofs.«01_k».proof.Proof.Stack
public import Idealize.ShloMosaic.Lib.Pipeline.ValueKit.Geometry
public import Idealize.ShloMosaic.Lib.Pointwise.IndexBridge

/-! The result arrays after the run. -/

@[expose] public section

set_option maxRecDepth 16384

noncomputable section
namespace Cert.KernelIdeal.Fox

open Idealize.ShloMosaic Idealize.ShloMosaic.TcCoe Idealize.ShloMosaic.Pipeline
open Cert.KernelIdeal.Gen

variable (m : (ℓ : Loc nD τ sig) → Buf (Elt Ideal) ℓ) (c : Dev nD)

/-- The queries' gradients, transposed block by block, as the call leaves them. -/
def G8 : FVec Ideal S8x8x128x512 .f32 := fun i => gDQ m c (i 0) (pos (i 1) (i 3)) (i 2)
/-- The keys' gradients. -/
def G9 : FVec Ideal S4096x1024 .f32 := fun i =>
  gDK m c ⟨(i 1).val / 128, by have h : (i 1).val < 1024 := (i 1).isLt; omega⟩ (i 0) ⟨(i 1).val % 128, by omega⟩
/-- The values' gradients. -/
def G10 : FVec Ideal S4096x512 .bf16 := fun i =>
  gDV m c ⟨(i 1).val / 64, by have h : (i 1).val < 512 := (i 1).isLt; omega⟩ (i 0) ⟨(i 1).val % 64, by omega⟩

theorem pay164_at (x : Vec Ideal S1x128x512 .f32) (r : Fin 512) (l : Fin 128) : k0_pay164 x (ix2 r l) = x (ix3 0 l r) := by
  pointwise [k0_pay164]
theorem pay165_at (x : Vec Ideal S1x128x512 .f32) (r : Fin 512) (l : Fin 128) : k0_pay1 (k0_pay165 x) (ix2 r l) = x (ix3 0 l r) := by
  pointwise [k0_pay1, k0_pay165]
theorem pay163_at (x : Vec Ideal S128x512 .f32) (r : Fin 512) (l : Fin 128) : k0_pay163 x (ix2 r l) = x (ix2 l r) := by
  pointwise [k0_pay163]

theorem gDK_congr {g g' : Fin 8} {k : Fin 4096} {l l' : Fin 128} (hg : g.val = g'.val) (hl : l.val = l'.val) : gDK m c g k l = gDK m c g' k l' := by
  rw [Fin.ext hg, Fin.ext hl]
theorem gDV_congr {g g' : Fin 8} {k : Fin 4096} {d d' : Fin 64} (hg : g.val = g'.val) (hd : d.val = d'.val) : gDV m c g k d = gDV m c g' k d' := by
  rw [Fin.ext hg, Fin.ext hd]

variable (t : Fin cfg0.N)

theorem out8 (ht : t.val % 8 = 7) (h : Fin 2) (b : Fin 8) (l : Fin 128) (s : Fin 512) :
    (dqOut (stAt m c t.val).dq : Vec Ideal S2x8x128x512 .f32) (ix4 h b l s) = gDQ m c (hd (tp t) h) (pos b s) l :=
  Eq.trans (congrArg ((stAt m c t.val).dq h b) (ix4_eq_valueIdx (0 : Fin 1) (0 : Fin 1) l s).symm) (dq_eq m c t ht h b l s)

theorem out9 (r : Fin 512) (x : Fin 256) :
    (dkOut (stAt m c t.val) : Vec Ideal S512x256 .f32) (ix2 r x) = gDK m c (hd (tp t) ⟨x.val / 128, by omega⟩) (pos (tj t) r) ⟨x.val % 128, by omega⟩ := by
  by_cases hx : x.val < 128
  · refine ((dif_pos hx).trans (congrArg (k0_pay164 ((stAt m c t.val).dk 0)) (ix2_eq_valueIdx r (⟨x.val, hx⟩ : Fin 128)).symm)).trans
      ((pay164_at ((stAt m c t.val).dk 0) r ⟨x.val, hx⟩).trans ((dk_eq m c t 0 ⟨x.val, hx⟩ r).trans (gDK_congr m c ?_ ?_)))
    · show t.val / 8 * 2 + 0 = t.val / 8 * 2 + x.val / 128; omega
    · show x.val = x.val % 128; omega
  · refine ((dif_neg hx).trans (congrArg (k0_pay1 (k0_pay165 ((stAt m c t.val).dk 1))) (ix2_eq_valueIdx r (⟨x.val - 128, by omega⟩ : Fin 128)).symm)).trans
      ((pay165_at ((stAt m c t.val).dk 1) r ⟨x.val - 128, by omega⟩).trans ((dk_eq m c t 1 ⟨x.val - 128, by omega⟩ r).trans (gDK_congr m c ?_ ?_)))
    · show t.val / 8 * 2 + 1 = t.val / 8 * 2 + x.val / 128; omega
    · show x.val - 128 = x.val % 128; omega

theorem out10 (r : Fin 512) (x : Fin 128) :
    (dvOut (stAt m c t.val) : Vec Ideal S512x128 .bf16) (ix2 r x) = gDV m c (hd (tp t) ⟨x.val / 64, by omega⟩) (pos (tj t) r) ⟨x.val % 64, by omega⟩ := by
  refine (pay163_at _ r x).trans ?_
  by_cases hx : x.val < 64
  · refine ((dif_pos hx).trans (congrArg ((stAt m c t.val).dv 0) (ix2_eq_valueIdx (⟨x.val, hx⟩ : Fin 64) r).symm)).trans
      ((dv_eq m c t 0 ⟨x.val, hx⟩ r).trans (gDV_congr m c ?_ ?_))
    · show t.val / 8 * 2 + 0 = t.val / 8 * 2 + x.val / 64; omega
    · show x.val = x.val % 64; omega
  · refine ((dif_neg hx).trans (congrArg ((stAt m c t.val).dv 1) (ix2_eq_valueIdx (⟨x.val - 64, by omega⟩ : Fin 64) r).symm)).trans
      ((dv_eq m c t 1 ⟨x.val - 64, by omega⟩ r).trans (gDV_congr m c ?_ ?_))
    · show t.val / 8 * 2 + 1 = t.val / 8 * 2 + x.val / 64; omega
    · show x.val - 64 = x.val % 64; omega

theorem arr8 : (dats m 0 c).arrAt 8 cfg0.N = G8 m c := by
  refine (dats m 0 c).arrAt_eq_of_covers 8 _ (by decide +kernel) fun t hf y => ?_
  have h7 := (flush0_8 t).mp hf
  obtain ⟨-, -, -, -, -, -, -, -, ⟨h0, h1, h2, h3⟩, -⟩ := idx_facts t
  blk_simp
  rw [after0_8]
  have H : ∀ y : S2x8x128x512.Idx, (dqOut (stAt m c t.val).dq : Vec Ideal S2x8x128x512 .f32) y = G8 m c ((win0_8.rect t).emb y) := by
    intro y
    idx_vars y
    rename' y0 => h, y1 => b, y2 => l, y3 => s
    rw [out8 m c t h7]
    have e : ((win0_8.rect t).emb (ix4 h b l s) : S8x8x128x512.Idx) = ix4 (hd (tp t) h) b l s := funext fun x => Fin.ext (by
      match x with
      | ⟨0, _⟩ => show win0_8.index t 0 * 2 + 1 * h.val = t.val / 8 * 2 + h.val; rw [h0]; omega
      | ⟨1, _⟩ => show win0_8.index t 1 * 8 + 1 * b.val = b.val; rw [h1]; omega
      | ⟨2, _⟩ => show win0_8.index t 2 * 128 + 1 * l.val = l.val; rw [h2]; omega
      | ⟨3, _⟩ => show win0_8.index t 3 * 512 + 1 * s.val = s.val; rw [h3]; omega)
    rw [e]; rfl
  exact H y

theorem arr9 : (dats m 0 c).arrAt 9 cfg0.N = G9 m c := by
  refine (dats m 0 c).arrAt_eq_of_covers 9 _ (by decide +kernel) fun t hf y => ?_
  obtain ⟨-, -, -, -, -, -, -, -, -, ⟨h0, h1⟩, -⟩ := idx_facts t
  blk_simp
  rw [after0_9]
  have H : ∀ y : S512x256.Idx, (dkOut (stAt m c t.val) : Vec Ideal S512x256 .f32) y = G9 m c ((win0_9.rect t).emb y) := by
    intro y
    idx_vars y
    rename' y0 => r, y1 => x
    rw [out9 m c t]
    have hl := t_lt t
    have e : ((win0_9.rect t).emb (ix2 r x) : S4096x1024.Idx) = ix2 (pos (tj t) r) ⟨t.val / 8 * 256 + x.val, by omega⟩ := funext fun a => Fin.ext (by
      match a with
      | ⟨0, _⟩ => show win0_9.index t 0 * 512 + 1 * r.val = t.val % 8 * 512 + r.val; rw [h0]; omega
      | ⟨1, _⟩ => show win0_9.index t 1 * 256 + 1 * x.val = t.val / 8 * 256 + x.val; rw [h1]; omega)
    rw [e]
    refine gDK_congr m c ?_ ?_
    · show t.val / 8 * 2 + x.val / 128 = (t.val / 8 * 256 + x.val) / 128; omega
    · show x.val % 128 = (t.val / 8 * 256 + x.val) % 128; omega
  exact H y

theorem arr10 : (dats m 0 c).arrAt 10 cfg0.N = G10 m c := by
  refine (dats m 0 c).arrAt_eq_of_covers 10 _ (by decide +kernel) fun t hf y => ?_
  obtain ⟨-, -, -, -, -, -, -, -, -, -, ⟨h0, h1⟩⟩ := idx_facts t
  blk_simp
  rw [after0_10]
  have H : ∀ y : S512x128.Idx, (dvOut (stAt m c t.val) : Vec Ideal S512x128 .bf16) y = G10 m c ((win0_10.rect t).emb y) := by
    intro y
    idx_vars y
    rename' y0 => r, y1 => x
    rw [out10 m c t]
    have hl := t_lt t
    have e : ((win0_10.rect t).emb (ix2 r x) : S4096x512.Idx) = ix2 (pos (tj t) r) ⟨t.val / 8 * 128 + x.val, by omega⟩ := funext fun a => Fin.ext (by
      match a with
      | ⟨0, _⟩ => show win0_10.index t 0 * 512 + 1 * r.val = t.val % 8 * 512 + r.val; rw [h0]; omega
      | ⟨1, _⟩ => show win0_10.index t 1 * 128 + 1 * x.val = t.val / 8 * 128 + x.val; rw [h1]; omega)
    rw [e]
    refine gDV_congr m c ?_ ?_
    · show t.val / 8 * 2 + x.val / 64 = (t.val / 8 * 128 + x.val) / 64; omega
    · show x.val % 64 = (t.val / 8 * 128 + x.val) % 64; omega
  exact H y

end Cert.KernelIdeal.Fox
end
-- ==== Proof.Tail.lean ====
module

public import proofs.«01_k».proof.Proof.Arrays
public import Idealize.ShloMosaic.Lib.Pointwise
public import Idealize.ShloMosaic.Lib.StableHlo.RunRead

/-! The host code after the launch: each result at an index, in the sums that the three arrays hold. -/

@[expose] public section

set_option maxRecDepth 16384

noncomputable section
namespace Cert.KernelIdeal.Fox

open Idealize.ShloMosaic Idealize.ShloMosaic.TcCoe Idealize.ShloMosaic.StableHlo Idealize.ShloMosaic.Pipeline
open Cert.KernelIdeal.Gen

section
variable {F : FTy → Type} [FloatOps F]

/-- The queries' gradient by head, position and feature. -/
def tQ (x : FVec F S8x8x128x512 .f32) : FVec F S8x4096x128 .f32 :=
  shapeCast _ (transpose S8x8x512x128 [0, 1, 3, 2] x transposes_S8x8x128x512_S8x8x512x128_0_1_3_2) shapeCasts_S8x8x512x128_S8x4096x128
/-- The keys' gradient by head, position and feature. -/
def tK (x : FVec F S4096x1024 .f32) : FVec F S8x4096x128 .f32 :=
  transpose S8x4096x128 [1, 0, 2] (shapeCast _ x shapeCasts_S4096x1024_S4096x8x128) transposes_S4096x8x128_S8x4096x128_1_0_2
/-- The leading lanes, back in columns. -/
def tBack (x : FVec F S8x4096x128 .f32) : FVec F S4096x512 .f32 :=
  shapeCast _ (transpose S4096x8x64 [1, 0, 2] (extractStridedSlice S8x4096x64 ![0, 0, 0] x slices_S8x4096x128_S8x4096x64_0_0_0) transposes_S8x4096x64_S4096x8x64_1_0_2)
    shapeCasts_S4096x8x64_S4096x512
/-- The scaling of the queries' gradient. -/
def tScale (x : FVec F S4096x512 .f32) : FVec F S4096x512 .f32 :=
  mulf x (broadcastInDim S4096x512 ![] bcast_S_S4096x512 (constant S_ .f32 0x3E000000#32))
/-- The values' gradient, widened. -/
def tV (x : FVec F S4096x512 .bf16) : FVec F S4096x512 .f32 := extf .f32 x bitsLt_bf16_f32
/-- The gates' gradient. -/
def tC (x y : FVec F S8x4096x128 .f32) : FVec F S8x4096 .f32 :=
  subf (shapeCast _ (extractStridedSlice S8x4096x1 ![0, 0, 64] x slices_S8x4096x128_S8x4096x1_0_0_64) shapeCasts_S8x4096x1_S8x4096)
    (shapeCast _ (extractStridedSlice S8x4096x1 ![0, 0, 67] y slices_S8x4096x128_S8x4096x1_0_0_67) shapeCasts_S8x4096x1_S8x4096)

variable (W : Valuation τ sig (Elt F))
theorem tail96 : after hostOps1 W main_v96 = tScale (tBack (tQ (W main_v87_0))) := by after_reads_simp; rfl
theorem tail99 : after hostOps1 W main_v99 = tBack (tK (W main_v87_1)) := by after_reads_simp; rfl
theorem tail100 : after hostOps1 W main_v100 = tV (W main_v87_2) := by after_reads_simp; rfl
theorem tail105 : after hostOps1 W main_v105 = tC (tQ (W main_v87_0)) (tK (W main_v87_1)) := by after_reads_simp; rfl
end

section
variable (h : Fin 8) (t : Fin 4096) (d : Fin 64) (l : Fin 128)
theorem tQ_at (x : FVec Ideal S8x8x128x512 .f32) : tQ x (ix3 h t l) = x (ix4 h (⟨t.val / 512, by omega⟩ : Fin 8) l (⟨t.val % 512, by omega⟩ : Fin 512)) := by
  pointwise [tQ]
theorem tK_at (x : FVec Ideal S4096x1024 .f32) : tK x (ix3 h t l) = x (ix2 t (⟨h.val * 128 + l.val, by omega⟩ : Fin 1024)) := by
  pointwise [tK]
theorem tBack_at (x : FVec Ideal S8x4096x128 .f32) : tBack x (ix2 t (lane h d)) = x (ix3 h t (⟨d.val, by omega⟩ : Fin 128)) := by
  pointwise [tBack, lane]
theorem tScale_at (x : FVec Ideal S4096x512 .f32) (y : Fin 512) : tScale x (ix2 t y) = x (ix2 t y) * Ideal.ofBits .f32 0x3E000000#32 := by
  pointwise [tScale]
theorem tV_at (x : FVec Ideal S4096x512 .bf16) (y : Fin 512) : tV x (ix2 t y) = x (ix2 t y) := by
  pointwise [tV]
theorem tC_at (x y : FVec Ideal S8x4096x128 .f32) : tC x y (ix2 h t) = x (ix3 h t (64 : Fin 128)) - y (ix3 h t (67 : Fin 128)) := by
  pointwise [tC]
end

variable (m : (ℓ : Loc nD τ sig) → Buf (Elt Ideal) ℓ) (c : Dev nD) (h : Fin 8) (t : Fin 4096) (d : Fin 64) (l : Fin 128)

/-- The buffers as the launch leaves them. -/
def WA : Valuation τ sig (Elt Ideal) := withArrays (cfgs 0).spec c (V0 m c) fun w => (dats m 0 c).arrAt w (cfgs 0).N

theorem arr_inj : Function.Injective (arrRef (cfgs (0 : Fin 1)).spec) := by decide +kernel

theorem WA_8 : WA m c main_v87_0 = G8 m c := (withArrays_arr _ arr_inj c _ _ (8 : Fin 11)).trans (arr8 m c)
theorem WA_9 : WA m c main_v87_1 = G9 m c := (withArrays_arr _ arr_inj c _ _ (9 : Fin 11)).trans (arr9 m c)
theorem WA_10 : WA m c main_v87_2 = G10 m c := (withArrays_arr _ arr_inj c _ _ (10 : Fin 11)).trans (arr10 m c)

theorem tQ_G : tQ (G8 m c) (ix3 h t l) = gDQ m c h t l := by
  rw [tQ_at]
  show gDQ m c h (pos _ _) l = _
  congr 1
  exact Fin.ext (by show t.val / 512 * 512 + t.val % 512 = t.val; omega)
theorem tK_G : tK (G9 m c) (ix3 h t l) = gDK m c h t l := by
  rw [tK_at]
  refine gDK_congr m c ?_ ?_
  · show (h.val * 128 + l.val) / 128 = h.val; omega
  · show (h.val * 128 + l.val) % 128 = l.val; omega

/-- The results after the host code. -/
abbrev out96 : FVec Ideal S4096x512 .f32 := afterTail₀ cfgs (dats m) 0 (V0 m) [hostOps1] c main_v96
abbrev out99 : FVec Ideal S4096x512 .f32 := afterTail₀ cfgs (dats m) 0 (V0 m) [hostOps1] c main_v99
abbrev out100 : FVec Ideal S4096x512 .f32 := afterTail₀ cfgs (dats m) 0 (V0 m) [hostOps1] c main_v100
abbrev out105 : FVec Ideal S8x4096 .f32 := afterTail₀ cfgs (dats m) 0 (V0 m) [hostOps1] c main_v105

theorem out96_at : out96 m c (ix2 t (lane h d)) = gDQ m c h t ⟨d.val, by omega⟩ * Ideal.ofBits .f32 0x3E000000#32 := by
  have e : out96 m c = tScale (tBack (tQ (WA m c main_v87_0))) := tail96 (WA m c)
  rw [e, WA_8, tScale_at, tBack_at, tQ_G]
theorem out99_at : out99 m c (ix2 t (lane h d)) = gDK m c h t ⟨d.val, by omega⟩ := by
  have e : out99 m c = tBack (tK (WA m c main_v87_1)) := tail99 (WA m c)
  rw [e, WA_9, tBack_at, tK_G]
theorem out100_at : out100 m c (ix2 t (lane h d)) = gDV m c h t d := by
  have e : out100 m c = tV (WA m c main_v87_2) := tail100 (WA m c)
  rw [e, WA_10, tV_at]
  refine gDV_congr m c ?_ ?_
  · show (h.val * 64 + d.val) / 64 = h.val; omega
  · show (h.val * 64 + d.val) % 64 = d.val; omega
theorem out105_at : out105 m c (ix2 h t) = gDQ m c h t 64 - gDK m c h t 67 := by
  have e : out105 m c = tC (tQ (WA m c main_v87_0)) (tK (WA m c main_v87_1)) := tail105 (WA m c)
  rw [e, WA_8, WA_9, tC_at, tQ_G, tK_G]

end Cert.KernelIdeal.Fox
end
-- ==== Proof.Math.lean ====
module

public import Idealize.ShloMosaic.Lib.Pointwise

/-! The attention of one head over the real numbers: its rows' probabilities, and the two spellings of its gradient. -/

@[expose] public section

noncomputable section
namespace Cert.Fox

open Idealize.ShloMosaic

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem coe_ite (p : Prop) [Decidable p] (a b : ℝ) : ((if p then a else b : ℝ) : EReal) = if p then (a : EReal) else (b : EReal) := by
  split <;> rfl

/-- The largest of finitely many, some of them real and the others least, is real. -/
theorem fold_max_real {n : ℕ} (p : Fin n → Prop) [DecidablePred p] (s : Fin n → ℝ) (a : Fin n) (ha : p a) :
    ∃ M : ℝ, Finset.fold max (⊥ : EReal) (fun x => if p x then (s x : EReal) else ⊥) Finset.univ = (M : EReal) := by
  have key : ∀ S : Finset (Fin n), (Finset.fold max (⊥ : EReal) (fun x => if p x then (s x : EReal) else ⊥) S = ⊥ ∧ a ∉ S)
      ∨ ∃ M : ℝ, Finset.fold max (⊥ : EReal) (fun x => if p x then (s x : EReal) else ⊥) S = (M : EReal) := by
    intro S
    induction S using Finset.induction_on with
    | empty => left; simp
    | insert b S hb ih =>
      rw [Finset.fold_insert hb]
      by_cases hp : p b
      · right
        rw [if_pos hp]
        rcases ih with ⟨h, -⟩ | ⟨M, h⟩
        · exact ⟨s b, by rw [h]; exact max_eq_left bot_le⟩
        · exact ⟨max (s b) M, by rw [h]; exact (EReal.coe_strictMono.monotone.map_max).symm⟩
      · rw [if_neg hp, max_eq_right bot_le]
        rcases ih with ⟨h, h'⟩ | h
        · left; exact ⟨h, by simp only [Finset.mem_insert, not_or]; exact ⟨fun e => hp (e ▸ ha), h'⟩⟩
        · right; exact h
  rcases key Finset.univ with ⟨-, h⟩ | h
  · exact absurd (Finset.mem_univ a) h
  · exact h

theorem exp_coe (x : ℝ) : Ideal.exp (x : EReal) = ((Real.exp x : ℝ) : EReal) := rfl
theorem log_coe {x : ℝ} (hx : 0 < x) : Ideal.log (x : EReal) = ((Real.log x : ℝ) : EReal) := if_neg (not_le.mpr hx)
theorem div_real (x : ℝ) {y : ℝ} (hy : y ≠ 0) : Ideal.div (x : EReal) (y : EReal) = ((x / y : ℝ) : EReal) := by
  rw [Ideal.div_coe hy, ← EReal.coe_mul, mul_one_div]

section
variable (q k v g : Fin 4096 → Fin 64 → ℝ) (c : Fin 4096 → ℝ)

/-- A score. -/
def sc (t u : Fin 4096) : ℝ := (∑ d, q t d * k u d) * (1 / 8) + c t - c u
/-- A row's sum of exponentials. -/
def Z (t : Fin 4096) : ℝ := ∑ u : Fin 4096, if u.val ≤ t.val then Real.exp (sc q k c t u) else 0
/-- A probability. -/
def P (t u : Fin 4096) : ℝ := if u.val ≤ t.val then Real.exp (sc q k c t u) / Z q k c t else 0
/-- A probability's cotangent. -/
def dP (t u : Fin 4096) : ℝ := ∑ d, g t d * v u d
/-- A row's product of probabilities and their cotangents. -/
def dl (t : Fin 4096) : ℝ := ∑ u, P q k c t u * dP v g t u
/-- A score's cotangent. -/
def dS (t u : Fin 4096) : ℝ := P q k c t u * (dP v g t u - dl q k v g c t)

theorem Z_pos (t : Fin 4096) : 0 < Z q k c t := by
  refine Finset.sum_pos' (fun u _ => ?_) ⟨t, Finset.mem_univ t, ?_⟩
  · split
    · exact (Real.exp_pos _).le
    · exact le_rfl
  · rw [if_pos le_rfl]; exact Real.exp_pos _

/-- An exponential of a shifted score. -/
def E (M : ℝ) (t u : Fin 4096) : ℝ := if u.val ≤ t.val then Real.exp (sc q k c t u - M) else 0

theorem E_sum (M : ℝ) (t : Fin 4096) : ∑ u, E q k c M t u = Real.exp (-M) * Z q k c t := by
  unfold Z E
  rw [Finset.mul_sum]
  refine Finset.sum_congr rfl fun u _ => ?_
  split
  · rw [← Real.exp_add]; congr 1; ring
  · rw [mul_zero]
theorem L_pos (M : ℝ) (t : Fin 4096) : 0 < ∑ u, E q k c M t u := by
  rw [E_sum]; exact mul_pos (Real.exp_pos _) (Z_pos q k c t)
theorem E_div (M : ℝ) (t u : Fin 4096) : E q k c M t u / ∑ u, E q k c M t u = P q k c t u := by
  rw [E_sum]
  have hZ := (Z_pos q k c t).ne'
  have hM := (Real.exp_pos (-M)).ne'
  unfold E P
  split
  · rw [sub_eq_add_neg, Real.exp_add]; field_simp
  · rw [zero_div]
theorem log_L (M : ℝ) (t : Fin 4096) : M + Real.log (∑ u, E q k c M t u) = Real.log (Z q k c t) := by
  rw [E_sum, Real.log_mul (Real.exp_pos _).ne' (Z_pos q k c t).ne', Real.log_exp]; ring
theorem exp_sub_log (t u : Fin 4096) (h : u.val ≤ t.val) : Real.exp (sc q k c t u - Real.log (Z q k c t)) = P q k c t u := by
  rw [Real.exp_sub, Real.exp_log (Z_pos q k c t)]; exact (if_pos h).symm
/-- The rows' product as output times cotangent. -/
theorem dl_out (t : Fin 4096) : ∑ d, g t d * ∑ u, P q k c t u * v u d = dl q k v g c t := by
  unfold dl dP
  simp only [Finset.mul_sum]
  rw [Finset.sum_comm]
  exact Finset.sum_congr rfl fun u _ => Finset.sum_congr rfl fun d _ => by ring
/-- A score's cotangent through the quotient. -/
theorem dS_quot (M : ℝ) (t u : Fin 4096) :
    (dP v g t u / (∑ u, E q k c M t u) + -(∑ x, dP v g t x * (1 / ((∑ u, E q k c M t u) * (∑ u, E q k c M t u))) * E q k c M t x)) * E q k c M t u
      = dS q k v g c t u := by
  have hL := (L_pos q k c M t).ne'
  unfold dS dl
  simp only [← E_div q k c M t]
  generalize (∑ u, E q k c M t u) = L at *
  have e : ∑ x, dP v g t x * (1 / (L * L)) * E q k c M t x = (∑ x, E q k c M t x / L * dP v g t x) / L := by
    rw [Finset.sum_div]
    exact Finset.sum_congr rfl fun x _ => by field_simp
  rw [e]
  field_simp
  ring
theorem dS_zero (t u : Fin 4096) (h : ¬ u.val ≤ t.val) : dS q k v g c t u = 0 := by
  unfold dS P; rw [if_neg h, zero_mul]
end

end Cert.Fox
end
-- ==== Proof.Finite.lean ====
module

public import proofs.«01_k».proof.Defs
public import proofs.«01_k».proof.Proof.Gen.Pre_finite
public import proofs.«01_k».proof.Proof.Host
public import Idealize.ShloMosaic.Lib.ReduceAll
public import Idealize.ShloMosaic.Lib.Pointwise

/-! The precondition, read: every argument is an array of real numbers. -/

@[expose] public section

noncomputable section
namespace Cert.KernelIdeal.Fox

open Idealize.ShloMosaic Idealize.ShloMosaic.TcCoe

theorem inf_f32 : Ideal.ofBits .f32 0x7F800000#32 = ⊤ := by simp [Ideal.ofBits, Ideal.ieee]
theorem ninf_f32 : Ideal.ofBits .f32 0xFF800000#32 = ⊥ := by simp [Ideal.ofBits, Ideal.ieee]
theorem eighth_f32 : Ideal.ofBits .f32 0x3E000000#32 = ((1 / 8 : ℝ) : EReal) := by
  simp [Ideal.ofBits, Ideal.ieee, -EReal.coe_mul]; norm_num
theorem one_f32 : Ideal.ofBits .f32 0x3F800000#32 = ((1 : ℝ) : EReal) := by
  simp [Ideal.ofBits, Ideal.ieee, -EReal.coe_mul]; norm_num
theorem and_one (a b : BitVec 1) : a &&& b = 1#1 ↔ a = 1#1 ∧ b = 1#1 := by revert a b; decide

theorem real_of_lt (x : EReal) (h : FloatOps.cmpf (F := Ideal) .olt (FloatOps.absf (F := Ideal) (φ := .f32) x) (Ideal.ofBits .f32 0x7F800000#32) = 1#1) : ∃ r : ℝ, x = r := by
  rw [inf_f32] at h
  induction x with
  | bot => exfalso; revert h; simp [FloatOps.cmpf, FloatOps.absf, Ideal.cmp]
  | top => exfalso; revert h; simp [FloatOps.cmpf, FloatOps.absf, Ideal.cmp]
  | coe r => exact ⟨r, rfl⟩

theorem real_of_all {s : Shape} {axes : List (Fin s.rank)} (x : FVec Ideal s .f32) (y : FVec Ideal s .f32) (hy : ∀ i, y i = Ideal.ofBits .f32 0x7F800000#32)
    (init : Cert.Pre_finite.S_.Idx → BitVec 1) (h : s.ReducesTo axes Cert.Pre_finite.S_) (hu : 0 < Cert.Pre_finite.S_.numel) (j : Cert.Pre_finite.S_.Idx)
    (e : Host.reduce IntOp.andi (cmpf .olt (Host.absf x) y) init h hu j = 1#1) (i : s.Idx) : ∃ r : ℝ, x i = (r : EReal) := by
  haveI : Subsingleton Cert.Pre_finite.S_.Idx := ⟨fun a b => funext fun x => x.elim0⟩
  have := Host.reduce_andi_all _ _ _ _ j e i
  refine real_of_lt (x i) ?_
  rw [← hy i]
  exact this

theorem finite_args (m : (ℓ : Loc nD τ sig) → Buf (Elt Ideal) ℓ) (hm : Cert.Pre_KernelIdeal_finite m) (c : Dev nD) :
    (∀ i, ∃ r : ℝ, qA m c i = (r : EReal)) ∧ (∀ i, ∃ r : ℝ, kA m c i = (r : EReal)) ∧ (∀ i, ∃ r : ℝ, vA m c i = (r : EReal))
      ∧ (∀ i, ∃ r : ℝ, cA m c i = (r : EReal)) ∧ (∀ i, ∃ r : ℝ, gA m c i = (r : EReal)) := by
  have h := congrFun (hm c) ix0
  unfold Cert.Pre_finite.fn Cert.Pre_finite.fn_part1 at h
  simp only [andi_apply, IntOp.andi, and_one] at h
  obtain ⟨⟨⟨⟨h0, h1⟩, h2⟩, h3⟩, h4⟩ := h
  have w : ∀ i, (broadcastInDim Cert.Pre_finite.S4096x512 ![] Cert.Pre_finite.Gen.bcast_S_S4096x512 (constant Cert.Pre_finite.S_ .f32 0x7F800000#32) : FVec Ideal Cert.Pre_finite.S4096x512 .f32) i
      = Ideal.ofBits .f32 0x7F800000#32 := fun _ => rfl
  have w' : ∀ i, (broadcastInDim Cert.Pre_finite.S8x4096 ![] Cert.Pre_finite.Gen.bcast_S_S8x4096 (constant Cert.Pre_finite.S_ .f32 0x7F800000#32) : FVec Ideal Cert.Pre_finite.S8x4096 .f32) i
      = Ideal.ofBits .f32 0x7F800000#32 := fun _ => rfl
  exact ⟨real_of_all _ _ w _ _ _ _ h0, real_of_all _ _ w _ _ _ _ h1, real_of_all _ _ w _ _ _ _ h2, real_of_all _ _ w' _ _ _ _ h3, real_of_all _ _ w _ _ _ _ h4⟩

end Cert.KernelIdeal.Fox
end
-- ==== Proof.KReal.lean ====
module

public import proofs.«01_k».proof.Proof.Tail
public import proofs.«01_k».proof.Proof.Math
public import proofs.«01_k».proof.Proof.Finite

/-! The kernel's sums over the real numbers. -/

@[expose] public section

set_option maxRecDepth 16384

noncomputable section
namespace Cert.KernelIdeal.Fox

open Idealize.ShloMosaic Idealize.ShloMosaic.TcCoe
open Cert.Fox (sc Z P dP dl dS E coe_sum coe_ite exp_coe log_coe div_real)

/-- The arguments are the real arrays `q k v g` (by head) and `cc`. -/
structure RealArgs (q k v g : Fin 8 → Fin 4096 → Fin 64 → ℝ) (cc : Fin 8 → Fin 4096 → ℝ)
    (x0 x1 x2 : FVec Ideal S4096x512 .f32) (x3 : FVec Ideal S8x4096 .f32) (x4 : FVec Ideal S4096x512 .f32) : Prop where
  hq : ∀ h t d, x0 (ix2 t (lane h d)) = (q h t d : EReal)
  hk : ∀ h t d, x1 (ix2 t (lane h d)) = (k h t d : EReal)
  hv : ∀ h t d, x2 (ix2 t (lane h d)) = (v h t d : EReal)
  hc : ∀ h t, x3 (ix2 h t) = (cc h t : EReal)
  hg : ∀ h t d, x4 (ix2 t (lane h d)) = (g h t d : EReal)

variable {m : (ℓ : Loc nD τ sig) → Buf (Elt Ideal) ℓ} {c : Dev nD}
variable {q k v g : Fin 8 → Fin 4096 → Fin 64 → ℝ} {cc : Fin 8 → Fin 4096 → ℝ}

theorem exists_real (hm : Cert.Pre_KernelIdeal_finite m) (c : Dev nD) :
    ∃ q k v g cc, RealArgs q k v g cc (qA m c) (kA m c) (vA m c) (cA m c) (gA m c) := by
  obtain ⟨h0, h1, h2, h3, h4⟩ := finite_args m hm c
  choose q hq using h0
  choose k hk using h1
  choose v hv using h2
  choose cc hc using h3
  choose g hg using h4
  exact ⟨fun h t d => q (ix2 t (lane h d)), fun h t d => k (ix2 t (lane h d)), fun h t d => v (ix2 t (lane h d)), fun h t d => g (ix2 t (lane h d)),
    fun h t => cc (ix2 h t), ⟨fun _ _ _ => hq _, fun _ _ _ => hk _, fun _ _ _ => hv _, fun _ _ => hc _, fun _ _ _ => hg _⟩⟩

variable (A : RealArgs q k v g cc (qA m c) (kA m c) (vA m c) (cA m c) (gA m c)) (h : Fin 8) (t u : Fin 4096) (d : Fin 64)

include A
theorem s_real : sA m c (ix3 h t u) = if u.val ≤ t.val then (sc (q h) (k h) (cc h) t u : EReal) else ⊥ := by
  refine (W3_v20 m c h t u).trans ?_
  refine if_congr Iff.rfl ?_ ninf_f32
  have e : (∑ x : Fin 64, qA m c (ix2 t (⟨h.val * 64 + x.val, by omega⟩ : Fin 512)) * kA m c (ix2 u (⟨h.val * 64 + x.val, by omega⟩ : Fin 512)) : EReal)
      = ((∑ d, q h t d * k h u d : ℝ) : EReal) := by
    rw [coe_sum]
    exact Finset.sum_congr rfl fun x _ => by rw [EReal.coe_mul, ← A.hq h t x, ← A.hk h u x]; rfl
  rw [e, eighth_f32, A.hc h t, A.hc h u]
  rw [← EReal.coe_mul, ← EReal.coe_add, ← EReal.coe_sub]
  rfl

theorem max_real : ∃ M : ℝ, hMax (sA m c) (ix2 h t) = (M : EReal) := by
  rw [hMax_at]
  simp only [s_real A]
  have := ninf_f32
  rw [show Ideal.ofBits .f32 4286578688#32 = (⊥ : EReal) from ninf_f32]
  exact Cert.Fox.fold_max_real (fun u : Fin 4096 => u.val ≤ t.val) _ t le_rfl

theorem rows_real : ∃ M : ℝ, (∀ u, eA m c (ix3 h t u) = (E (q h) (k h) (cc h) M t u : EReal))
    ∧ lA m c (ix2 h t) = ((∑ u, E (q h) (k h) (cc h) M t u : ℝ) : EReal)
    ∧ lseA m c (ix2 h t) = (Real.log (Z (q h) (k h) (cc h) t) : EReal) := by
  obtain ⟨M, hM⟩ := max_real A h t
  have he : ∀ u, eA m c (ix3 h t u) = (E (q h) (k h) (cc h) M t u : EReal) := by
    intro u
    refine (hExp_at ..).trans ?_
    rw [hM, s_real A]
    unfold E
    rw [coe_ite]
    split
    · rw [← EReal.coe_sub, exp_coe]
    · rfl
  have hl : lA m c (ix2 h t) = ((∑ u, E (q h) (k h) (cc h) M t u : ℝ) : EReal) := by
    refine (hSum_at ..).trans ?_
    rw [coe_sum]
    exact Finset.sum_congr rfl fun u _ => he u
  refine ⟨M, he, hl, ?_⟩
  refine (hLse_at ..).trans ?_
  rw [hM, hl, log_coe (Cert.Fox.L_pos _ _ _ M t), ← EReal.coe_add, Cert.Fox.log_L]

theorem dlt_real : dltA m c (ix2 h t) = (dl (q h) (k h) (v h) (g h) (cc h) t : EReal) := by
  obtain ⟨M, he, hl, -⟩ := rows_real A h t
  refine (hDelta_at ..).trans ?_
  rw [← Cert.Fox.dl_out, coe_sum]
  refine Finset.sum_congr rfl fun x _ => ?_
  rw [EReal.coe_mul, coe_sum, hOut_at, W3_v7]
  refine congrArg₂ (· * ·) (A.hg h t x) (Finset.sum_congr rfl fun u _ => ?_)
  rw [EReal.coe_mul, he u, hl, W3_v5, div_real _ (Cert.Fox.L_pos _ _ _ M t).ne', Cert.Fox.E_div]
  exact congrArg₂ (· * ·) rfl (A.hv h u x)

theorem c1_real : c1A m c (ix2 h t) = (cc h t : EReal) := (hHi_at ..).trans (A.hc h t)
theorem c2_real : c2A m c (ix2 h t) = ((0 : ℝ) : EReal) := by
  refine (hHi_at ..).trans ?_
  show cA m c (ix2 h t) - c1A m c (ix2 h t) = _
  rw [c1_real A, A.hc, ← EReal.coe_sub, sub_self]
theorem c3_real : c3A m c (ix2 h t) = ((0 : ℝ) : EReal) := by
  refine (hHi_at ..).trans ?_
  show cA m c (ix2 h t) - c1A m c (ix2 h t) - c2A m c (ix2 h t) = _
  rw [c1_real A, c2_real A, A.hc, ← EReal.coe_sub, ← EReal.coe_sub, sub_self, sub_self]

omit A in
/-- A query's features. -/
def qr (q : Fin 4096 → Fin 64 → ℝ) (cc : Fin 4096 → ℝ) (t : Fin 4096) (l : Fin 128) : ℝ :=
  if hl : l.val < 64 then q t ⟨l.val, hl⟩ * (1 / 8) else if l.val = 64 then cc t else if l.val = 67 ∨ l.val = 68 ∨ l.val = 69 then 1 else 0
omit A in
/-- A key's features. -/
def kr (k : Fin 4096 → Fin 64 → ℝ) (cc : Fin 4096 → ℝ) (t : Fin 4096) (l : Fin 128) : ℝ :=
  if hl : l.val < 64 then k t ⟨l.val, hl⟩ else if l.val = 64 ∨ l.val = 65 ∨ l.val = 66 then 1 else if l.val = 67 then -cc t else 0

theorem qf_real (l : Fin 128) : qfA m c (ix3 h t l) = (qr (q h) (cc h) t l : EReal) := by
  refine (hFeat_at ..).trans ?_
  unfold qr
  by_cases hl : l.val < 64
  · rw [dif_pos hl, dif_pos hl, hScale_at, eighth_f32, W3_v1, EReal.coe_mul]
    exact congrArg₂ (· * ·) (A.hq h t ⟨l.val, hl⟩) rfl
  · rw [dif_neg hl, dif_neg hl]
    by_cases h6 : l.val - 64 < 6
    · rw [dif_pos h6, hSix_at, c1_real A, c2_real A, c3_real A, hOne_at, one_f32]
      dsimp only
      rcases (by omega : l.val = 64 ∨ l.val = 65 ∨ l.val = 66 ∨ l.val = 67 ∨ l.val = 68 ∨ l.val = 69) with e | e | e | e | e | e <;> simp [e]
    · rw [dif_neg h6, if_neg (by omega), if_neg (by omega)]; rfl
theorem kf_real (l : Fin 128) : kfA m c (ix3 h t l) = (kr (k h) (cc h) t l : EReal) := by
  have n1 : Host.negf (c1A m c) (ix2 h t) = ((-cc h t : ℝ) : EReal) := by
    show -(c1A m c (ix2 h t)) = _
    rw [c1_real A, EReal.coe_neg]
  have n2 : Host.negf (c2A m c) (ix2 h t) = ((0 : ℝ) : EReal) := by
    show -(c2A m c (ix2 h t)) = _
    rw [c2_real A, ← EReal.coe_neg, neg_zero]
  have n3 : Host.negf (c3A m c) (ix2 h t) = ((0 : ℝ) : EReal) := by
    show -(c3A m c (ix2 h t)) = _
    rw [c3_real A, ← EReal.coe_neg, neg_zero]
  refine (hFeat_at ..).trans ?_
  unfold kr
  by_cases hl : l.val < 64
  · rw [dif_pos hl, dif_pos hl, W3_v3]
    exact A.hk h t ⟨l.val, hl⟩
  · rw [dif_neg hl, dif_neg hl]
    by_cases h6 : l.val - 64 < 6
    · rw [dif_pos h6, hSix_at, n1, n2, n3, hOne_at, one_f32]
      dsimp only
      rcases (by omega : l.val = 64 ∨ l.val = 65 ∨ l.val = 66 ∨ l.val = 67 ∨ l.val = 68 ∨ l.val = 69) with e | e | e | e | e | e <;> simp [e]
    · rw [dif_neg h6, if_neg (by omega), if_neg (by omega)]; rfl

omit A in
theorem feat_sum (q k : Fin 4096 → Fin 64 → ℝ) (cc : Fin 4096 → ℝ) (t u : Fin 4096) : ∑ l, kr k cc u l * qr q cc t l = sc q k cc t u := by
  rw [show (∑ l, kr k cc u l * qr q cc t l) = ∑ l : Fin (64 + 64), kr k cc u l * qr q cc t l from rfl, Fin.sum_univ_add]
  have e1 : ∑ i : Fin 64, kr k cc u (Fin.castAdd 64 i) * qr q cc t (Fin.castAdd 64 i) = (∑ d, q t d * k u d) * (1 / 8) := by
    rw [Finset.sum_mul]
    refine Finset.sum_congr rfl fun d _ => ?_
    have hd : (Fin.castAdd 64 d).val < 64 := d.isLt
    unfold kr qr
    rw [dif_pos hd, dif_pos hd]
    show k u d * (q t d * (1 / 8)) = _
    ring
  have e2 : ∑ i : Fin 64, kr k cc u (Fin.natAdd 64 i) * qr q cc t (Fin.natAdd 64 i) = cc t - cc u := by
    have w : ∀ i : Fin 64, kr k cc u (Fin.natAdd 64 i) * qr q cc t (Fin.natAdd 64 i) = (if i = 0 then cc t else 0) + (if i = 3 then -cc u else 0) := by
      intro i
      have hn : ¬ (Fin.natAdd 64 i).val < 64 := by rw [Fin.val_natAdd]; omega
      unfold kr qr
      rw [dif_neg hn, dif_neg hn]
      rw [Fin.val_natAdd]
      have e0 : i = 0 ↔ i.val = 0 := Fin.ext_iff
      have e3 : i = 3 ↔ i.val = 3 := Fin.ext_iff
      simp only [e0, e3]
      by_cases h6 : i.val < 6
      · rcases (by omega : i.val = 0 ∨ i.val = 1 ∨ i.val = 2 ∨ i.val = 3 ∨ i.val = 4 ∨ i.val = 5) with e | e | e | e | e | e <;> simp [e]
      · rw [if_neg (by omega), if_neg (by omega), if_neg (by omega), if_neg (by omega), if_neg (by omega), if_neg (by omega)]; simp
    simp only [w]
    rw [Finset.sum_add_distrib, Finset.sum_ite_eq', Finset.sum_ite_eq', if_pos (Finset.mem_univ _), if_pos (Finset.mem_univ _)]
    ring
  rw [e1, e2]
  unfold sc
  ring

theorem gS_real : gS m c h t u = (sc (q h) (k h) (cc h) t u : EReal) := by
  unfold gS
  rw [← feat_sum, coe_sum]
  exact Finset.sum_congr rfl fun l _ => by rw [kf_real A, qf_real A, EReal.coe_mul]
theorem gdP_real : gdP m c h t u = (dP (v h) (g h) t u : EReal) := by
  unfold gdP dP
  rw [coe_sum]
  exact Finset.sum_congr rfl fun d _ => by rw [A.hv, A.hg, ← EReal.coe_mul, mul_comm]
theorem exp_real (hu : u.val ≤ t.val) : Ideal.exp (gS m c h t u - lseA m c (ix2 h t)) = (P (q h) (k h) (cc h) t u : EReal) := by
  obtain ⟨M, -, -, hl⟩ := rows_real A h t
  rw [gS_real A, hl, ← EReal.coe_sub, exp_coe, Cert.Fox.exp_sub_log _ _ _ t u hu]
theorem gP_real : gP m c h t u = (P (q h) (k h) (cc h) t u : EReal) := by
  unfold gP
  by_cases hu : u.val ≤ t.val
  · rw [if_pos hu, exp_real A h t u hu]
  · rw [if_neg hu]; unfold P; rw [if_neg hu]; rfl
theorem gD_real : gD m c h t u = (dS (q h) (k h) (v h) (g h) (cc h) t u : EReal) := by
  unfold gD
  by_cases hu : u.val ≤ t.val
  · rw [if_pos hu, exp_real A h t u hu, gdP_real A, dlt_real A, ← EReal.coe_sub, ← EReal.coe_mul]; rfl
  · rw [if_neg hu, Cert.Fox.dS_zero _ _ _ _ _ t u hu]; rfl

/-- The queries' gradient. -/
theorem dq_real : out96 m c (ix2 t (lane h d)) = (((∑ u, dS (q h) (k h) (v h) (g h) (cc h) t u * k h u d) * (1 / 8) : ℝ) : EReal) := by
  rw [out96_at, eighth_f32, EReal.coe_mul, coe_sum]
  refine congrArg₂ (· * ·) (Finset.sum_congr rfl fun u _ => ?_) rfl
  rw [kf_real A, gD_real A, ← EReal.coe_mul]
  unfold kr
  rw [dif_pos d.isLt, mul_comm]
/-- The keys' gradient. -/
theorem dk_real : out99 m c (ix2 u (lane h d)) = (((∑ t, dS (q h) (k h) (v h) (g h) (cc h) t u * q h t d) * (1 / 8) : ℝ) : EReal) := by
  rw [out99_at, Finset.sum_mul, coe_sum]
  refine Finset.sum_congr rfl fun t _ => ?_
  rw [qf_real A, gD_real A, ← EReal.coe_mul]
  unfold qr
  rw [dif_pos d.isLt]
  exact congrArg _ (by ring)
/-- The values' gradient. -/
theorem dv_real : out100 m c (ix2 u (lane h d)) = ((∑ t, g h t d * P (q h) (k h) (cc h) t u : ℝ) : EReal) := by
  rw [out100_at, coe_sum]
  refine Finset.sum_congr rfl fun t _ => ?_
  rw [A.hg, gP_real A, ← EReal.coe_mul]
/-- The gates' gradient. -/
theorem dc_real : out105 m c (ix2 h t)
    = ((∑ u, dS (q h) (k h) (v h) (g h) (cc h) t u - ∑ x, dS (q h) (k h) (v h) (g h) (cc h) x t : ℝ) : EReal) := by
  rw [out105_at, EReal.coe_sub, coe_sum, coe_sum]
  refine congrArg₂ (· - ·) (Finset.sum_congr rfl fun u _ => ?_) (Finset.sum_congr rfl fun x _ => ?_)
  · rw [kf_real A, gD_real A, ← EReal.coe_mul]
    exact congrArg _ (by rw [show kr (k h) (cc h) u 64 = 1 from rfl, one_mul])
  · rw [qf_real A, gD_real A, ← EReal.coe_mul]
    exact congrArg _ (by rw [show qr (q h) (cc h) x 67 = 1 from rfl, one_mul])

end Cert.KernelIdeal.Fox
end
-- ==== Proof.RReal.lean ====
module

public import proofs.«01_k».proof.Proof.RefVal
public import proofs.«01_k».proof.Proof.KReal

/-! The reference's stages over the real numbers. -/

@[expose] public section

set_option maxRecDepth 16384

noncomputable section
namespace Cert.ReferenceIdeal.Fox

open Idealize.ShloMosaic
open Cert.ReferenceIdeal.Gen Cert.ReferenceIdeal.Read
open Cert.KernelIdeal.Fox (RealArgs ninf_f32 eighth_f32 one_f32)
open Cert.Fox (sc Z P dP dl dS E coe_sum coe_ite exp_coe div_real)

variable {x0 x1 x2 x4 : FVec Ideal S4096x512 .f32} {x3 : FVec Ideal S8x4096 .f32}
variable {q k v g : Fin 8 → Fin 4096 → Fin 64 → ℝ} {cc : Fin 8 → Fin 4096 → ℝ}
variable (A : RealArgs q k v g cc x0 x1 x2 x3 x4) (h : Fin 8) (t u : Fin 4096) (d : Fin 64)

include A

theorem s_real : (val_main_v18_0 (F := Ideal) x0 x1 x3 : FVec Ideal S8x4096x4096 .f32) (ix3 h t u)
    = if u.val ≤ t.val then (sc (q h) (k h) (cc h) t u : EReal) else ⊥ := by
  rw [v18_at]
  refine if_congr Iff.rfl ?_ ninf_f32
  have e : (∑ x : Fin 64, x0 (ix2 t (lane h x)) * x1 (ix2 u (lane h x)) : EReal) = ((∑ d, q h t d * k h u d : ℝ) : EReal) := by
    rw [coe_sum]
    exact Finset.sum_congr rfl fun x _ => by rw [EReal.coe_mul, ← A.hq h t x, ← A.hk h u x]; rfl
  rw [e, eighth_f32, A.hc h t, A.hc h u]
  rw [← EReal.coe_mul, ← EReal.coe_add, ← EReal.coe_sub]
  rfl

theorem rows_real : ∃ M : ℝ, (∀ u, (val_main_v39 (F := Ideal) x0 x1 x3 : FVec Ideal S8x4096x4096 .f32) (ix3 h t u) = (E (q h) (k h) (cc h) M t u : EReal))
    ∧ (val_main_v40 (F := Ideal) x0 x1 x3 : FVec Ideal S8x4096 .f32) (ix2 h t) = ((∑ u, E (q h) (k h) (cc h) M t u : ℝ) : EReal) := by
  have hM : ∃ M : ℝ, (val_main_v26 (F := Ideal) x0 x1 x3 : FVec Ideal S8x4096 .f32) (ix2 h t) = (M : EReal) := by
    rw [v26_at, v19_at, ninf_f32, max_eq_right bot_le]
    simp only [s_real A]
    exact Cert.Fox.fold_max_real (fun u : Fin 4096 => u.val ≤ t.val) _ t le_rfl
  obtain ⟨M, hM⟩ := hM
  have he : ∀ u, (val_main_v39 (F := Ideal) x0 x1 x3 : FVec Ideal S8x4096x4096 .f32) (ix3 h t u) = (E (q h) (k h) (cc h) M t u : EReal) := by
    intro u
    rw [v39_at, hM, s_real A]
    unfold E
    rw [coe_ite]
    split
    · rw [← EReal.coe_sub, exp_coe]
    · rfl
  refine ⟨M, he, ?_⟩
  rw [v40_at, coe_sum]
  exact Finset.sum_congr rfl fun u _ => he u

theorem p_real : (val_main_v43 (F := Ideal) x0 x1 x3 : FVec Ideal S8x4096x4096 .f32) (ix3 h t u) = (P (q h) (k h) (cc h) t u : EReal) := by
  obtain ⟨M, he, hl⟩ := rows_real A h t
  rw [v43_at, he, hl, div_real _ (Cert.Fox.L_pos _ _ _ M t).ne', Cert.Fox.E_div]

theorem dP_real : (val_main_v54 (F := Ideal) x2 x4 : FVec Ideal S8x4096x4096 .f32) (ix3 h t u) = (dP (v h) (g h) t u : EReal) := by
  rw [v54_at]
  unfold dP
  rw [coe_sum]
  exact Finset.sum_congr rfl fun x _ => by rw [EReal.coe_mul, ← A.hg h t x, ← A.hv h u x]; rfl

theorem dS_real : (val_main_v67 (F := Ideal) x0 x1 x2 x3 x4 : FVec Ideal S8x4096x4096 .f32) (ix3 h t u) = (dS (q h) (k h) (v h) (g h) (cc h) t u : EReal) := by
  obtain ⟨M, he, hl⟩ := rows_real A h t
  have hL := (Cert.Fox.L_pos (q h) (k h) (cc h) M t).ne'
  rw [v67_at]
  by_cases hu : u.val ≤ t.val
  · rw [if_pos hu, v63_at, v58_at, dP_real A, hl, he u, div_real _ hL, ← Cert.Fox.dS_quot _ _ _ _ _ M t u]
    rw [EReal.coe_mul, EReal.coe_add, EReal.coe_neg, coe_sum]
    refine congrArg₂ (· * ·) (congrArg₂ (· + ·) rfl (congrArg _ (Finset.sum_congr rfl fun x _ => ?_))) rfl
    rw [v57_at, v46_at, dP_real A, hl, he x, one_f32, ← EReal.coe_mul, div_real _ (mul_ne_zero hL hL), ← EReal.coe_mul, ← EReal.coe_mul]
  · rw [if_neg hu, Cert.Fox.dS_zero _ _ _ _ _ t u hu]; rfl

/-- The queries' gradient. -/
theorem dq_real : (val_main_v85 (F := Ideal) x0 x1 x2 x3 x4 : FVec Ideal S4096x512 .f32) (ix2 t (lane h d))
    = (((∑ u, dS (q h) (k h) (v h) (g h) (cc h) t u * k h u d) * (1 / 8) : ℝ) : EReal) := by
  rw [v85_at, Finset.sum_mul, coe_sum]
  refine Finset.sum_congr rfl fun u _ => ?_
  rw [dS_real A, eighth_f32, ← EReal.coe_mul, show x1 (ix2 u (lane h d)) = (k h u d : EReal) from A.hk h u d, ← EReal.coe_mul]
  exact congrArg _ (by ring)
/-- The keys' gradient. -/
theorem dk_real : (val_main_v83 (F := Ideal) x0 x1 x2 x3 x4 : FVec Ideal S4096x512 .f32) (ix2 u (lane h d))
    = (((∑ t, dS (q h) (k h) (v h) (g h) (cc h) t u * q h t d) * (1 / 8) : ℝ) : EReal) := by
  rw [v83_at, Finset.sum_mul, coe_sum]
  refine Finset.sum_congr rfl fun t _ => ?_
  rw [dS_real A, eighth_f32, ← EReal.coe_mul, show x0 (ix2 t (lane h d)) = (q h t d : EReal) from A.hq h t d, ← EReal.coe_mul]
  exact congrArg _ (by ring)
/-- The values' gradient. -/
theorem dv_real : (val_main_v81 (F := Ideal) x0 x1 x3 x4 : FVec Ideal S4096x512 .f32) (ix2 u (lane h d))
    = ((∑ t, g h t d * P (q h) (k h) (cc h) t u : ℝ) : EReal) := by
  rw [v81_at, coe_sum]
  refine Finset.sum_congr rfl fun t _ => ?_
  rw [p_real A, show x4 (ix2 t (lane h d)) = (g h t d : EReal) from A.hg h t d, ← EReal.coe_mul]
/-- The gates' gradient. -/
theorem dc_real : (val_main_v75 (F := Ideal) x0 x1 x2 x3 x4 : FVec Ideal S8x4096 .f32) (ix2 h t)
    = ((∑ u, dS (q h) (k h) (v h) (g h) (cc h) t u - ∑ x, dS (q h) (k h) (v h) (g h) (cc h) x t : ℝ) : EReal) := by
  rw [v75_at, v71_at, v74_at]
  simp only [dS_real A, ← EReal.coe_neg]
  rw [← coe_sum, ← coe_sum, ← EReal.coe_add]
  exact congrArg _ (by rw [Finset.sum_neg_distrib]; ring)

end Cert.ReferenceIdeal.Fox
end
-- ==== Proof.Value.lean ====
module

public import proofs.«01_k».proof.Defs
public import proofs.«01_k».proof.Proof.RReal
public import proofs.«01_k».proof.Proof.Gen.Pre_finite

/-! The value claim: from equal finite arguments, the kernel's four gradients are the reference's. -/

@[expose] public section

set_option maxRecDepth 16384

noncomputable section
namespace Cert.Proof

open Idealize.ShloMosaic Idealize.ShloMosaic.TcCoe Idealize.SL.Sem
open Cert.KernelIdeal.Fox (RealArgs lane out96 out99 out100 out105 qA kA vA cA gA)

/-- Two arrays over the columns that agree at every head, position and lane. -/
theorem ext_cols {f f' : FVec Ideal Cert.KernelIdeal.S4096x512 .f32} (H : ∀ h t d, f (ix2 t (lane h d)) = f' (ix2 t (lane h d))) : f = f' := by
  funext i
  have hi : (i 1).val < 512 := (i 1).isLt
  have e : i = (ix2 (i 0 : Fin 4096) (lane (⟨(i 1).val / 64, by omega⟩) (⟨(i 1).val % 64, by omega⟩)) : Cert.KernelIdeal.S4096x512.Idx) :=
    funext fun a => match a with
    | ⟨0, _⟩ => rfl
    | ⟨1, _⟩ => Fin.ext (by show (i 1).val = (i 1).val / 64 * 64 + (i 1).val % 64; omega)
  rw [e]; exact H _ _ _
/-- Two arrays over heads and positions that agree. -/
theorem ext_rows {f f' : FVec Ideal Cert.KernelIdeal.S8x4096 .f32} (H : ∀ h t, f (ix2 h t) = f' (ix2 h t)) : f = f' := by
  funext i
  have e : i = (ix2 (i 0 : Fin 8) (i 1 : Fin 4096) : Cert.KernelIdeal.S8x4096.Idx) :=
    funext fun a => match a with
    | ⟨0, _⟩ => rfl
    | ⟨1, _⟩ => rfl
  rw [e]; exact H _ _

section
variable {m : (ℓ : Loc Cert.KernelIdeal.nD Cert.KernelIdeal.τ Cert.KernelIdeal.sig) → Buf (Elt Ideal) ℓ} (hm : Cert.Pre_KernelIdeal_finite m) (c : Dev Cert.KernelIdeal.nD)
include hm
theorem eq_dq : Cert.ReferenceIdeal.Read.val_main_v85 (F := Ideal) (qA m c) (kA m c) (vA m c) (cA m c) (gA m c) = out96 m c := by
  obtain ⟨q, k, v, g, cc, A⟩ := Cert.KernelIdeal.Fox.exists_real hm c
  exact ext_cols fun h t d => (Cert.ReferenceIdeal.Fox.dq_real A h t d).trans (Cert.KernelIdeal.Fox.dq_real A h t d).symm
theorem eq_dk : Cert.ReferenceIdeal.Read.val_main_v83 (F := Ideal) (qA m c) (kA m c) (vA m c) (cA m c) (gA m c) = out99 m c := by
  obtain ⟨q, k, v, g, cc, A⟩ := Cert.KernelIdeal.Fox.exists_real hm c
  exact ext_cols fun h t d => (Cert.ReferenceIdeal.Fox.dk_real A h t d).trans (Cert.KernelIdeal.Fox.dk_real A h t d).symm
theorem eq_dv : Cert.ReferenceIdeal.Read.val_main_v81 (F := Ideal) (qA m c) (kA m c) (cA m c) (gA m c) = out100 m c := by
  obtain ⟨q, k, v, g, cc, A⟩ := Cert.KernelIdeal.Fox.exists_real hm c
  exact ext_cols fun h t d => (Cert.ReferenceIdeal.Fox.dv_real A h t d).trans (Cert.KernelIdeal.Fox.dv_real A h t d).symm
theorem eq_dc : Cert.ReferenceIdeal.Read.val_main_v75 (F := Ideal) (qA m c) (kA m c) (vA m c) (cA m c) (gA m c) = out105 m c := by
  obtain ⟨q, k, v, g, cc, A⟩ := Cert.KernelIdeal.Fox.exists_real hm c
  exact ext_rows fun h t => (Cert.ReferenceIdeal.Fox.dc_real A h t).trans (Cert.KernelIdeal.Fox.dc_real A h t).symm
end

open Cert.KernelIdeal Cert.KernelIdeal.Fox Cert.KernelIdeal.Gen in
/-- The kernel's run: its results and its arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v96) = out96 m c
      ∧ r.2.mem ((c.tc : Thread nD τ).loc main_v99) = out99 m c
      ∧ r.2.mem ((c.tc : Thread nD τ).loc main_v100) = out100 m c
      ∧ r.2.mem ((c.tc : Thread nD τ).loc main_v105) = out105 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c).2 main_v96 (Pipeline.mem_restRefs_of main_v96 (by decide) (by decide)),
      (h.1 c).2 main_v99 (Pipeline.mem_restRefs_of main_v99 (by decide) (by decide)),
      (h.1 c).2 main_v100 (Pipeline.mem_restRefs_of main_v100 (by decide) (by decide)),
      (h.1 c).2 main_v105 (Pipeline.mem_restRefs_of main_v105 (by decide) (by decide)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩)
    (run_main m ρ)

theorem algebraic : Cert.algebraic_KernelIdeal_ReferenceIdeal_pre_finite := by
  intro m g m' g' hm ha
  refine ⟨fun c => out96 m c, fun c => out99 m c, fun c => out100 m c, fun c => out105 m c, run_kernel m g, ?_⟩
  refine (θ_run Cert.ReferenceIdeal.defs _ _).mono (fun r h c => ?_) (Cert.ReferenceIdeal.Value.run (F := Ideal) m' g')
  obtain ⟨h0, h1, h2, h3, hr⟩ := h c
  obtain ⟨a0, a1, a2, a3, a4⟩ := ha c
  refine ⟨h0.trans ?_, h1.trans ?_, h2.trans ?_, h3.trans ?_, hr⟩
  · rw [Cert.ReferenceIdeal.Read.val_main_v85_eq, a0, a1, a2, a3, a4]; exact eq_dq hm c
  · rw [Cert.ReferenceIdeal.Read.val_main_v83_eq, a0, a1, a2, a3, a4]; exact eq_dk hm c
  · rw [Cert.ReferenceIdeal.Read.val_main_v81_eq, a0, a1, a3, a4]; exact eq_dv hm c
  · rw [Cert.ReferenceIdeal.Read.val_main_v75_eq, a0, a1, a2, a3, a4]; exact eq_dc hm c

end Cert.Proof
end
-- ==== Proof.Sums.lean ====
module

public import Idealize.ShloMosaic.PureOps.Ideal.Laws

/-! Sums over an axis cut into pieces. -/

@[expose] public section

namespace Cert.Sums

variable {M : Type} [AddCommMonoid M]

/-- A sum over the mixers' columns is the sum over the three mixers' columns in turn. -/
theorem three (f : Fin 1024 → M) : ∑ k, f k =
    (∑ a : Fin 256, f ⟨a.val, by omega⟩) + (∑ a : Fin 256, f ⟨256 + a.val, by omega⟩) + ∑ a : Fin 512, f ⟨512 + a.val, by omega⟩ := by
  have h1 : ∑ k, f k = (∑ a : Fin 512, f ⟨a.val, by omega⟩) + ∑ a : Fin 512, f ⟨512 + a.val, by omega⟩ :=
    Fin.sum_univ_add (a := 512) (b := 512) f
  have h2 : (∑ a : Fin 512, f ⟨a.val, by omega⟩) = (∑ a : Fin 256, f ⟨a.val, by omega⟩) + ∑ a : Fin 256, f ⟨256 + a.val, by omega⟩ :=
    Fin.sum_univ_add (a := 256) (b := 256) fun a => f ⟨a.val, by omega⟩
  rw [h1, h2]

/-- A sum over equal blocks is the sum over the blocks' elements. -/
theorem blocks (n b : ℕ) (f : Fin (n * b) → M) :
    ∑ k, f k = ∑ t : Fin n, ∑ s : Fin b, f ⟨t.val * b + s.val, by
      have h1 := s.isLt; have h2 : (t.val + 1) * b ≤ n * b := Nat.mul_le_mul_right _ t.isLt; rw [Nat.add_mul] at h2; omega⟩ := by
  rw [← Fintype.sum_prod_type', ← finProdFinEquiv.sum_comp]
  exact Finset.sum_congr rfl fun x _ => congrArg f (Fin.ext (by show x.2.val + b * x.1.val = x.1.val * b + x.2.val; rw [Nat.mul_comm]; omega))

end Cert.Sums
-- ==== Proof.Norm.lean ====
module

public import Idealize.ShloMosaic.Lib.Pointwise
public import Idealize.ShloMosaic.PureOps.Ideal

/-! The gradient of a normalised row, in the two forms: for any entries, infinite ones too. -/

@[expose] public section

noncomputable section
namespace Cert.Norm

open Idealize.ShloMosaic

variable {n : ℕ}

/-- The mean square of a row, and its reciprocal root. -/
def mean (x : Fin n → EReal) : EReal :=
  Ideal.div (∑ k, x k * x k) (Ideal.ofBits .f32 0x44800000#32) + Ideal.ofBits .f32 0x358637BD#32
def root (x : Fin n → EReal) : EReal := Ideal.rsqrt (mean x)
/-- The gradient of a row, as the kernel takes it. -/
def grad (x d : Fin n → EReal) (s : EReal) (a : Fin n) : EReal :=
  s + root x * (d a - x a * root x * Ideal.div (∑ k, d k * (x k * root x)) (Ideal.ofBits .f32 0x44800000#32))
/-- The gradient of a row, as the reference takes it: through the root, then the mean, then the square. -/
def through (x d : Fin n → EReal) : EReal :=
  Ideal.div ((∑ k, x k * d k) * (Ideal.ofBits .f32 0xBF000000#32 * Ideal.div (root x) (mean x))) (Ideal.ofBits .f32 0x44800000#32)
def back (x d : Fin n → EReal) (s : EReal) (a : Fin n) : EReal :=
  s + d a * root x + x a * through x d + through x d * x a

theorem k1024 : Ideal.ofBits .f32 0x44800000#32 = ((1024 : ℝ) : EReal) := by
  simp [Ideal.ofBits, Ideal.ieee, -EReal.coe_mul]; norm_num
theorem half : Ideal.ofBits .f32 0xBF000000#32 = ((-(1 / 2) : ℝ) : EReal) := by
  simp [Ideal.ofBits, Ideal.ieee, -EReal.coe_mul]; norm_num
theorem eps : ∃ e : ℝ, 0 < e ∧ Ideal.ofBits .f32 0x358637BD#32 = (e : EReal) := by
  refine ⟨_, ?_, by simp only [Ideal.ofBits, Ideal.ieee]; rfl⟩
  rw [if_neg (by decide)]; positivity

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]
/-- A positive number goes into a sum, whatever its terms. -/
theorem mul_sum {ι : Type} (s : Finset ι) (f : ι → EReal) (r : ℝ) (hr : 0 ≤ r) : (r : EReal) * ∑ x ∈ s, f x = ∑ x ∈ s, (r : EReal) * f x := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]
theorem twice (c : ℝ) (t : EReal) : (c : EReal) * t + (c : EReal) * t = ((c + c : ℝ) : EReal) * t := by
  induction t with
  | coe r => rw [← EReal.coe_mul, ← EReal.coe_mul, ← EReal.coe_add, add_mul]
  | top =>
    rcases lt_trichotomy c 0 with h | h | h
    · rw [EReal.coe_mul_top_of_neg h, EReal.coe_mul_top_of_neg (by linarith : c + c < 0)]; rfl
    · subst h; simp
    · rw [EReal.coe_mul_top_of_pos h, EReal.coe_mul_top_of_pos (by linarith : 0 < c + c)]; rfl
  | bot =>
    rcases lt_trichotomy c 0 with h | h | h
    · rw [EReal.coe_mul_bot_of_neg h, EReal.coe_mul_bot_of_neg (by linarith : c + c < 0)]; rfl
    · subst h; simp
    · rw [EReal.coe_mul_bot_of_pos h, EReal.coe_mul_bot_of_pos (by linarith : 0 < c + c)]; rfl

theorem mul_self_nonneg' (x : EReal) : 0 ≤ x * x := by
  induction x with
  | coe r => rw [← EReal.coe_mul]; exact EReal.coe_nonneg.mpr (mul_self_nonneg r)
  | top => rw [EReal.top_mul_top]; exact le_top
  | bot => rw [EReal.bot_mul_bot]; exact le_top

/-- A row with an infinite entry has reciprocal root zero. -/
theorem mean_top (x : Fin n → EReal) (k : Fin n) (h : x k * x k = ⊤) : mean x = ⊤ := by
  obtain ⟨e, he, hE⟩ := eps
  have hs : ∑ k, x k * x k = (⊤ : EReal) := by
    rw [← Finset.add_sum_erase _ _ (Finset.mem_univ k), h]
    refine EReal.top_add_of_ne_bot fun hb => ?_
    have : (0 : EReal) ≤ ⊥ := hb ▸ Finset.sum_nonneg fun i _ => mul_self_nonneg' (x i)
    exact absurd this (by simp)
  unfold mean
  rw [hs, hE, k1024, Ideal.div_coe (by norm_num), EReal.top_mul_coe_of_pos (by norm_num), EReal.top_add_coe]

/-- The two forms agree. -/
theorem grad_eq_back (x d : Fin n → EReal) (s : EReal) (a : Fin n) : grad x d s a = back x d s a := by
  by_cases hx : ∃ k, x k * x k = ⊤
  · obtain ⟨k, hk⟩ := hx
    have hm := mean_top x k hk
    have hr : root x = 0 := by unfold root; rw [hm, Ideal.rsqrt_top]
    have ht : through x d = 0 := by
      unfold through
      rw [hr, hm, Ideal.zero_div (by simp), mul_zero, mul_zero, k1024, Ideal.zero_div (by simp)]
    unfold grad back
    rw [ht, hr, zero_mul, mul_zero, mul_zero, zero_mul, add_zero, add_zero, add_zero]
  · have hy : ∀ k, ∃ y : ℝ, x k = (y : EReal) := by
      intro k
      rcases hk : x k with _ | _ | y
      · exact absurd ⟨k, by rw [hk]; rfl⟩ hx
      · exact absurd ⟨k, by rw [hk]; rfl⟩ hx
      · exact ⟨y, rfl⟩
    choose y hy using hy
    obtain rfl : x = fun k => (y k : EReal) := funext hy
    obtain ⟨e, he, hE⟩ := eps
    have hv0 : 0 < (∑ k, y k * y k) * (1 / 1024) + e :=
      add_pos_of_nonneg_of_pos (mul_nonneg (Finset.sum_nonneg fun k _ => mul_self_nonneg _) (by norm_num)) he
    have hm : mean (fun k => (y k : EReal)) = (((∑ k, y k * y k) * (1 / 1024) + e : ℝ) : EReal) := by
      unfold mean
      rw [hE, k1024, Ideal.div_coe (by norm_num), EReal.coe_add, EReal.coe_mul, coe_sum]
      simp only [EReal.coe_mul]
    generalize (∑ k, y k * y k) * (1 / 1024) + e = v at hv0 hm
    have hr : root (fun k => (y k : EReal)) = (((Real.sqrt v)⁻¹ : ℝ) : EReal) := by
      unfold root
      rw [hm, Ideal.rsqrt_coe, if_neg (not_lt.mpr hv0.le), if_neg hv0.ne']
    have hR : 0 < (Real.sqrt v)⁻¹ := inv_pos.mpr (Real.sqrt_pos.mpr hv0)
    have hRv : 1 / v = (Real.sqrt v)⁻¹ * (Real.sqrt v)⁻¹ := by
      rw [← mul_inv, Real.mul_self_sqrt hv0.le, one_div]
    generalize (Real.sqrt v)⁻¹ = R at hr hR hRv
    have hsum : ∑ k, d k * ((y k : EReal) * (R : EReal)) = (R : EReal) * ∑ k, (y k : EReal) * d k := by
      rw [mul_sum _ _ R hR.le]
      exact Finset.sum_congr rfl fun k _ => by ac_rfl
    unfold grad back through
    rw [hr, hm, hsum, k1024, half, Ideal.div_coe (by norm_num), Ideal.div_coe (by norm_num), Ideal.div_coe hv0.ne', hRv]
    generalize ∑ k, (y k : EReal) * d k = T
    have e1 : (y a : EReal) * (T * (((-(1 / 2) : ℝ) : EReal) * ((R : EReal) * ((R * R : ℝ) : EReal))) * ((1 / 1024 : ℝ) : EReal))
        = ((y a * (-(1 / 2) * (R * (R * R))) * (1 / 1024) : ℝ) : EReal) * T := by
      simp only [EReal.coe_mul]; ac_rfl
    have e2 : T * (((-(1 / 2) : ℝ) : EReal) * ((R : EReal) * ((R * R : ℝ) : EReal))) * ((1 / 1024 : ℝ) : EReal) * (y a : EReal)
        = ((y a * (-(1 / 2) * (R * (R * R))) * (1 / 1024) : ℝ) : EReal) * T := by
      simp only [EReal.coe_mul]; ac_rfl
    have e3 : (R : EReal) * -((y a : EReal) * (R : EReal) * ((R : EReal) * T * ((1 / 1024 : ℝ) : EReal)))
        = ((-(R * (y a * R * (R * (1 / 1024)))) : ℝ) : EReal) * T := by
      rw [EReal.coe_neg, EReal.neg_mul, mul_neg]
      simp only [EReal.coe_mul]
      congr 1
      ac_rfl
    rw [e1, e2, add_assoc, add_assoc, twice, sub_eq_add_neg,
      EReal.left_distrib_of_nonneg_of_ne_top (EReal.coe_nonneg.mpr hR.le) (EReal.coe_ne_top R), e3, mul_comm (R : EReal) (d a)]
    exact congrArg (fun q : ℝ => s + (d a * (R : EReal) + (q : EReal) * T)) (by ring)

end Cert.Norm
end
-- ==== Proof.DxIn.lean ====
module

public import proofs.«01_k».proof.Defs
public import proofs.«01_k».proof.Proof.Sums
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry
public import Idealize.ShloMosaic.Lib.Pipeline.ValueKit.Acc
public import Idealize.ShloMosaic.Lib.Pointwise
public import proofs.«01_k».proof.Proof.Norm
public import Idealize.ShloMosaic.Lib.Pointwise.IndexBridge
public import Idealize.ShloMosaic.Lib.StableHlo.ReadAt
public import Idealize.ShloMosaic.Lib.StableHlo.RunRead

/-! The gradient of the norm's input through the input projection, and that of the norm's scale. -/

@[expose] public section

set_option maxRecDepth 16384

noncomputable section
namespace Cert.Kernel2Ideal.DxIn

open Idealize.ShloMosaic Idealize.ShloMosaic.TcCoe Idealize.ShloMosaic.StableHlo Idealize.ShloMosaic.Pipeline Idealize.SL.Sem
open Cert.Kernel2Ideal.Gen
open Cert.Norm (mean root grad back through)

section
variable {F : FTy → Type} [FloatOps F]

/-- The weights and the projection's cotangent, with columns of zeros up to a whole number of blocks. -/
def padW (w : FVec F S1024x3848 .f32) : FVec F S1024x4096 .bf16 :=
  concatenate S1024x4096 1 [⟨S1024x3848, truncf .bf16 w bitsLt_bf16_f32⟩, ⟨S1024x248, broadcastInDim S1024x248 ![] bcast_S_S1024x248 (constant S_ .bf16 0x0000#16)⟩]
    concatenates_S1024x3848_S1024x248_S1024x4096_d1
def padC (w : FVec F S4096x3848 .f32) : FVec F S4096x4096 .bf16 :=
  concatenate S4096x4096 1 [⟨S4096x3848, truncf .bf16 w bitsLt_bf16_f32⟩, ⟨S4096x248, broadcastInDim S4096x248 ![] bcast_S_S4096x248 (constant S_ .bf16 0x0000#16)⟩]
    concatenates_S4096x3848_S4096x248_S4096x4096_d1

variable (m : (ℓ : Loc nD τ sig) → Buf (Elt F) ℓ) (c : Dev nD)
abbrev xA : FVec F S4096x1024 .f32 := m ((c : Thread nD τ).loc main_arg0)
abbrev gA : FVec F S1x1024 .f32 := m ((c : Thread nD τ).loc main_arg1)
abbrev wA : FVec F S1024x3848 .f32 := m ((c : Thread nD τ).loc main_arg2)
abbrev rA : FVec F S4096x1024 .f32 := m ((c : Thread nD τ).loc main_arg3)
abbrev cA : FVec F S4096x3848 .f32 := m ((c : Thread nD τ).loc main_arg4)
theorem V2 : V m c main_v2 = padW (wA m c) := by after_reads_simp; rfl
theorem V5 : V m c main_v5 = padC (cA m c) := by after_reads_simp; rfl
theorem V0_at (i : S4096x1024.Idx) : (V m c main_arg0 : Vec F S4096x1024 .f32) i = xA m c i := congrFun (V_main_arg0 m c) i
theorem V1_at (i : S1x1024.Idx) : (V m c main_arg1 : Vec F S1x1024 .f32) i = gA m c i := congrFun (V_main_arg1 m c) i
theorem V3_at (i : S4096x1024.Idx) : (V m c main_arg3 : Vec F S4096x1024 .f32) i = rA m c i := congrFun (V_main_arg3 m c) i
theorem V2_at (i : S1024x4096.Idx) : (V m c main_v2 : Vec F S1024x4096 .bf16) i = padW (wA m c) i := congrFun (V2 m c) i
theorem V5_at (i : S4096x4096.Idx) : (V m c main_v5 : Vec F S4096x4096 .bf16) i = padC (cA m c) i := congrFun (V5 m c) i

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) :=
  (by decide +kernel : ∀ t : Fin grid0.N, _)
variable (t : Fin cfg0.N)
theorem t_lt : t.val < 8 := lt_of_lt_of_eq t.isLt N_0

theorem blk0_at (r : Fin 512) (x : Fin 1024) : (iblk m c 0 t : Vec F S512x1024 .f32) (ix2 r x)
    = (V m c main_arg0 : Vec F S4096x1024 .f32) (ix2 ⟨512 * t.val + r.val, by have := t_lt t; omega⟩ x) := by
  obtain ⟨⟨h0, h1⟩, -⟩ := idx_facts t
  unfold iblk
  show (V m c main_arg0 : Vec F S4096x1024 .f32) ((win0_0.rect t).emb (ix2 r x)) = _
  refine congrArg _ (funext fun i => Fin.ext ?_)
  match i with
  | ⟨0, _⟩ => show win0_0.index t 0 * 512 + 1 * r.val = 512 * t.val + r.val; rw [h0]; omega
  | ⟨1, _⟩ => show win0_0.index t 1 * 1024 + 1 * x.val = x.val; rw [h1]; omega
theorem blk1_at (r : Fin 1) (x : Fin 1024) : (iblk m c 1 t : Vec F S1x1024 .f32) (ix2 r x)
    = (V m c main_arg1 : Vec F S1x1024 .f32) (ix2 r x) := by
  obtain ⟨-, ⟨h0, h1⟩, -⟩ := idx_facts t
  unfold iblk
  show (V m c main_arg1 : Vec F S1x1024 .f32) ((win0_1.rect t).emb (ix2 r x)) = _
  refine congrArg _ (funext fun i => Fin.ext ?_)
  match i with
  | ⟨0, _⟩ => show win0_1.index t 0 * 1 + 1 * r.val = r.val; rw [h0]; omega
  | ⟨1, _⟩ => show win0_1.index t 1 * 1024 + 1 * x.val = x.val; rw [h1]; omega
theorem blk2_at (r : Fin 512) (x : Fin 1024) : (iblk m c 2 t : Vec F S512x1024 .f32) (ix2 r x)
    = (V m c main_arg3 : Vec F S4096x1024 .f32) (ix2 ⟨512 * t.val + r.val, by have := t_lt t; omega⟩ x) := by
  obtain ⟨-, -, ⟨h0, h1⟩, -⟩ := idx_facts t
  unfold iblk
  show (V m c main_arg3 : Vec F S4096x1024 .f32) ((win0_2.rect t).emb (ix2 r x)) = _
  refine congrArg _ (funext fun i => Fin.ext ?_)
  match i with
  | ⟨0, _⟩ => show win0_2.index t 0 * 512 + 1 * r.val = 512 * t.val + r.val; rw [h0]; omega
  | ⟨1, _⟩ => show win0_2.index t 1 * 1024 + 1 * x.val = x.val; rw [h1]; omega
theorem blk3_at (r : Fin 512) (x : Fin 4096) : (iblk m c 3 t : Vec F S512x4096 .bf16) (ix2 r x)
    = (V m c main_v5 : Vec F S4096x4096 .bf16) (ix2 ⟨512 * t.val + r.val, by have := t_lt t; omega⟩ x) := by
  obtain ⟨-, -, -, ⟨h0, h1⟩, -⟩ := idx_facts t
  unfold iblk
  show (V m c main_v5 : Vec F S4096x4096 .bf16) ((win0_3.rect t).emb (ix2 r x)) = _
  refine congrArg _ (funext fun i => Fin.ext ?_)
  match i with
  | ⟨0, _⟩ => show win0_3.index t 0 * 512 + 1 * r.val = 512 * t.val + r.val; rw [h0]; omega
  | ⟨1, _⟩ => show win0_3.index t 1 * 4096 + 1 * x.val = x.val; rw [h1]; omega
theorem blk4_at (r : Fin 1024) (x : Fin 4096) : (iblk m c 4 t : Vec F S1024x4096 .bf16) (ix2 r x)
    = (V m c main_v2 : Vec F S1024x4096 .bf16) (ix2 r x) := by
  obtain ⟨-, -, -, -, ⟨h0, h1⟩, -⟩ := idx_facts t
  unfold iblk
  show (V m c main_v2 : Vec F S1024x4096 .bf16) ((win0_4.rect t).emb (ix2 r x)) = _
  refine congrArg _ (funext fun i => Fin.ext ?_)
  match i with
  | ⟨0, _⟩ => show win0_4.index t 0 * 1024 + 1 * r.val = r.val; rw [h0]; omega
  | ⟨1, _⟩ => show win0_4.index t 1 * 4096 + 1 * x.val = x.val; rw [h1]; omega
end

theorem padW_at (w : FVec Ideal S1024x3848 .f32) (r : Fin 1024) (x : Fin 3848) : padW w (ix2 r ⟨x.val, by omega⟩) = w (ix2 r x) := by
  have h : x.val < 3848 := x.isLt
  pointwise [padW]
theorem padC_at (w : FVec Ideal S4096x3848 .f32) (r : Fin 4096) (x : Fin 3848) : padC w (ix2 r ⟨x.val, by omega⟩) = w (ix2 r x) := by
  have h : x.val < 3848 := x.isLt
  pointwise [padC]
theorem padW_zero (w : FVec Ideal S1024x3848 .f32) (r : Fin 1024) (x : Fin 248) : padW w (ix2 r ⟨3848 + x.val, by omega⟩) = (0 : EReal) := by
  have h : ¬ 3848 + x.val < 3848 := by omega
  pointwise [padW]

/-- The product with the padded arrays is the product without the padding. -/
theorem sum_pad (ct : FVec Ideal S4096x3848 .f32) (w : FVec Ideal S1024x3848 .f32) (r : Fin 4096) (x : Fin 1024) :
    (∑ k : Fin 4096, padC ct (ix2 r k) * padW w (ix2 x k) : EReal) = ∑ k : Fin 3848, ct (ix2 r k) * w (ix2 x k) := by
  refine (Fin.sum_univ_add (a := 3848) (b := 248) (fun k : Fin 4096 => (padC ct (ix2 r k) * padW w (ix2 x k) : EReal))).trans ?_
  have z : ∑ k : Fin 248, (padC ct (ix2 r (Fin.natAdd 3848 k)) * padW w (ix2 x (Fin.natAdd 3848 k)) : EReal) = 0 :=
    Finset.sum_eq_zero fun k _ => (congrArg (fun b : EReal => padC ct (ix2 r (Fin.natAdd 3848 k)) * b) (padW_zero w x k)).trans (mul_zero _)
  rw [z, add_zero]
  exact Finset.sum_congr rfl fun k _ => congrArg₂ (fun a b : EReal => a * b) (padC_at ct r k) (padW_at w x k)

theorem pay2_at (r : Fin 1) (x : Fin 1024) : k0_pay2 (F := Ideal) (ix2 r x) = (0 : EReal) := by
  pointwise [k0_pay2]
theorem pay3_at (v3 : Vec Ideal S512x4096 .bf16) (v5 : Vec Ideal S1024x4096 .bf16) (r : Fin 512) (x : Fin 1024) :
    k0_pay3 v3 v5 (ix2 r x) = (∑ k : Fin 4096, v3 (ix2 r k) * v5 (ix2 x k) : EReal) := by
  pointwise [k0_pay3]
theorem pay4_at (v8 : Vec Ideal S512x1024 .f32) (r : Fin 512) (x : Fin 1) : k0_pay4 v8 (ix2 r x) = root fun k => v8 (ix2 r k) := by
  pointwise [k0_pay4, root, mean]
theorem pay5_at (v8 : Vec Ideal S512x1024 .f32) (r : Fin 512) (x : Fin 1024) : k0_pay5 v8 (ix2 r x) = (v8 (ix2 r x) * root fun k => v8 (ix2 r k) : EReal) := by
  pointwise [k0_pay5, k0_pay4, root, mean]
theorem pay6_at (v3 : Vec Ideal S512x4096 .bf16) (v5 : Vec Ideal S1024x4096 .bf16) (v8 : Vec Ideal S512x1024 .f32) (v19 : Vec Ideal S1x1024 .f32) (r : Fin 1) (x : Fin 1024) :
    k0_pay6 v3 v5 v8 v19 (ix2 r x) = (v19 (ix2 r x) + ∑ k : Fin 512, (k0_pay3 v3 v5 (ix2 k x) : EReal) * k0_pay5 v8 (ix2 k x) : EReal) := by
  pointwise [k0_pay6]
theorem pay7_at (v3 : Vec Ideal S512x4096 .bf16) (v5 : Vec Ideal S1024x4096 .bf16) (v26 : Vec Ideal S1x1024 .f32) (r : Fin 512) (x : Fin 1024) :
    k0_pay7 v3 v5 v26 (ix2 r x) = ((k0_pay3 v3 v5 (ix2 r x) : EReal) * v26 (ix2 0 x) : EReal) := by
  pointwise [k0_pay7]
theorem pay8_at (v3 : Vec Ideal S512x4096 .bf16) (v5 : Vec Ideal S1024x4096 .bf16) (v8 : Vec Ideal S512x1024 .f32) (v26 : Vec Ideal S1x1024 .f32) (r : Fin 512) (x : Fin 1) :
    k0_pay8 v3 v5 v8 v26 (ix2 r x) = (∑ k : Fin 1024, (k0_pay7 v3 v5 v26 (ix2 r k) : EReal) * k0_pay5 v8 (ix2 r k) : EReal) := by
  pointwise [k0_pay8]
theorem pay1_at (v16 : FVec Ideal S512x1 .f32) (v18 v28 : FVec Ideal S512x1024 .f32) (v29 : Vec Ideal S512x1024 .f32) (v32 : FVec Ideal S512x1 .f32) (r : Fin 512) (x : Fin 1024) :
    k0_pay1 v16 v18 v28 v29 v32 k0_pay9 (ix2 r x)
      = (v29 (ix2 r x) + v16 (ix2 r 0) * (v28 (ix2 r x) - v18 (ix2 r x) * Ideal.div (v32 (ix2 r 0)) (Ideal.ofBits .f32 0x44800000#32)) : EReal) := by
  pointwise [k0_pay1, k0_pay9]

section
variable (m : (ℓ : Loc nD τ sig) → Buf (Elt Ideal) ℓ) (c : Dev nD) (t : Fin cfg0.N)
theorem blk0_v (r : Fin 512) (x : Fin 1024) : (iblk m c 0 t : Vec Ideal S512x1024 .f32) (ix2 r x)
    = xA m c (ix2 ⟨512 * t.val + r.val, by have := t_lt t; omega⟩ x) := (blk0_at m c t r x).trans (V0_at m c _)
theorem blk1_v (r : Fin 1) (x : Fin 1024) : (iblk m c 1 t : Vec Ideal S1x1024 .f32) (ix2 r x) = gA m c (ix2 r x) :=
  (blk1_at m c t r x).trans (V1_at m c _)
theorem blk2_v (r : Fin 512) (x : Fin 1024) : (iblk m c 2 t : Vec Ideal S512x1024 .f32) (ix2 r x)
    = rA m c (ix2 ⟨512 * t.val + r.val, by have := t_lt t; omega⟩ x) := (blk2_at m c t r x).trans (V3_at m c _)
theorem blk3_v (r : Fin 512) (x : Fin 4096) : (iblk m c 3 t : Vec Ideal S512x4096 .bf16) (ix2 r x)
    = padC (cA m c) (ix2 ⟨512 * t.val + r.val, by have := t_lt t; omega⟩ x) := (blk3_at m c t r x).trans (V5_at m c _)
theorem blk4_v (r : Fin 1024) (x : Fin 4096) : (iblk m c 4 t : Vec Ideal S1024x4096 .bf16) (ix2 r x) = padW (wA m c) (ix2 r x) :=
  (blk4_at m c t r x).trans (V2_at m c _)

/-- The gradient of the normalised rows, and the two results. -/
def dh (ct : FVec Ideal S4096x3848 .f32) (w : FVec Ideal S1024x3848 .f32) (r : Fin 4096) (x : Fin 1024) : EReal := ∑ k : Fin 3848, ct (ix2 r k) * w (ix2 x k)
def G5 : FVec Ideal S4096x1024 .f32 := fun i =>
  grad (fun k : Fin 1024 => xA m c (ix2 (i 0) k)) (fun k : Fin 1024 => dh (cA m c) (wA m c) (i 0) k * gA m c (ix2 0 k)) (rA m c i) (i 1)
def G6 : FVec Ideal S1x1024 .f32 := fun i => (∑ k : Fin 4096,
  dh (cA m c) (wA m c) k (i 1) * (xA m c (ix2 k (i 1)) * root fun a : Fin 1024 => xA m c (ix2 k a)) : EReal)

theorem dh_at (r : Fin 512) (x : Fin 1024) : k0_pay3 (iblk m c 3 t) (iblk m c 4 t) (ix2 r x)
    = dh (cA m c) (wA m c) ⟨512 * t.val + r.val, by have := t_lt t; omega⟩ x := by
  rw [pay3_at]
  exact (Finset.sum_congr rfl fun k _ => congrArg₂ (fun a b : EReal => a * b) (blk3_v m c t r k) (blk4_v m c t x k)).trans (sum_pad _ _ _ _)
theorem root_at (r : Fin 512) (x : Fin 1) : k0_pay4 (iblk m c 0 t) (ix2 r x)
    = root fun a : Fin 1024 => xA m c (ix2 ⟨512 * t.val + r.val, by have := t_lt t; omega⟩ a) := by
  rw [pay4_at]
  exact congrArg (root (n := 1024)) (funext fun a => blk0_v m c t r a)
theorem unit_at (r : Fin 512) (x : Fin 1024) : k0_pay5 (iblk m c 0 t) (ix2 r x)
    = (xA m c (ix2 ⟨512 * t.val + r.val, by have := t_lt t; omega⟩ x) * root fun a : Fin 1024 => xA m c (ix2 ⟨512 * t.val + r.val, by have := t_lt t; omega⟩ a) : EReal) := by
  rw [pay5_at]
  exact congrArg₂ (fun a b : EReal => a * b) (blk0_v m c t r x) (congrArg (root (n := 1024)) (funext fun a => blk0_v m c t r a))
theorem scaled_at (r : Fin 512) (x : Fin 1024) : k0_pay7 (iblk m c 3 t) (iblk m c 4 t) (iblk m c 1 t) (ix2 r x)
    = (dh (cA m c) (wA m c) ⟨512 * t.val + r.val, by have := t_lt t; omega⟩ x * gA m c (ix2 0 x) : EReal) := by
  rw [pay7_at]
  exact congrArg₂ (fun a b : EReal => a * b) (dh_at m c t r x) (blk1_v m c t 0 x)
theorem inner_at (r : Fin 512) (x : Fin 1) : k0_pay8 (iblk m c 3 t) (iblk m c 4 t) (iblk m c 0 t) (iblk m c 1 t) (ix2 r x)
    = (∑ k : Fin 1024, dh (cA m c) (wA m c) ⟨512 * t.val + r.val, by have := t_lt t; omega⟩ k * gA m c (ix2 0 k)
      * (xA m c (ix2 ⟨512 * t.val + r.val, by have := t_lt t; omega⟩ k) * root fun a : Fin 1024 => xA m c (ix2 ⟨512 * t.val + r.val, by have := t_lt t; omega⟩ a)) : EReal) := by
  rw [pay8_at]
  exact Finset.sum_congr rfl fun k _ => congrArg₂ (fun a b : EReal => a * b) (scaled_at m c t r k) (unit_at m c t r k)

theorem out5_at (i : S512x1024.Idx) : (outsAt0 m c t.val t.isLt).1 i
    = k0_pay1 (k0_pay4 (iblk m c 0 t)) (k0_pay5 (iblk m c 0 t)) (k0_pay7 (iblk m c 3 t) (iblk m c 4 t) (iblk m c 1 t)) (iblk m c 2 t)
        (k0_pay8 (iblk m c 3 t) (iblk m c 4 t) (iblk m c 0 t) (iblk m c 1 t)) k0_pay9 i := by
  by_cases h : t.val % 8 = 0
  · rw [outsAt0_A m c t h]; frame_out
  · rw [outsAt0_B m c t h]; frame_out
theorem block5_at (r : Fin 512) (x : Fin 1024) :
    (outsAt0 m c t.val t.isLt).1 (ix2 r x) = G5 m c (ix2 ⟨512 * t.val + r.val, by have := t_lt t; omega⟩ x) := by
  refine (out5_at m c t _).trans ((pay1_at _ _ _ _ _ r x).trans ?_)
  exact congrArg₂ (fun a b : EReal => a + b) (blk2_v m c t r x) (congrArg₂ (fun a b : EReal => a * b) (root_at m c t r 0)
    (congrArg₂ (fun a b : EReal => a - b) (scaled_at m c t r x) (congrArg₂ (fun a b : EReal => a * b) (unit_at m c t r x)
      (congrArg (fun a : EReal => Ideal.div a (Ideal.ofBits .f32 0x44800000#32)) (inner_at m c t r 0)))))

/-- What a point adds to the gradient of the scale. -/
def term (t : Fin cfg0.N) (i : S1x1024.Idx) : EReal := ∑ s : Fin 512,
  dh (cA m c) (wA m c) ⟨512 * t.val + s.val, by have := t_lt t; omega⟩ (i 1)
    * (xA m c (ix2 ⟨512 * t.val + s.val, by have := t_lt t; omega⟩ (i 1)) * root fun a : Fin 1024 => xA m c (ix2 ⟨512 * t.val + s.val, by have := t_lt t; omega⟩ a))
theorem add_at (v : Vec Ideal S1x1024 .f32) (i : S1x1024.Idx) :
    k0_pay6 (iblk m c 3 t) (iblk m c 4 t) (iblk m c 0 t) v i = (v i + term m c t i : EReal) := by
  idx_vars i
  rename' i0 => r, i1 => x
  refine (pay6_at _ _ _ _ r x).trans ?_
  exact congrArg (fun b : EReal => v (ix2 r x) + b) (Finset.sum_congr rfl fun k _ => congrArg₂ (fun a b : EReal => a * b) (dh_at m c t k x) (unit_at m c t k x))
theorem zero_at (i : S1x1024.Idx) : k0_pay2 (F := Ideal) i = (0 : EReal) := by
  idx_vars i
  exact pay2_at _ _
theorem block6_at (h : t.val % 8 = 7) (i : S1x1024.Idx) : (outsAt0 m c t.val t.isLt).2 i = G6 m c i := by
  have ht := t_lt t
  rw [eq_sum_fin_of_reset_step_apply_of_flush (M := EReal) (fun n h => (outsAt0 m c n h).2) 8 (fun _ => 0) (term m c)
    (fun t h j => by rw [outsAt0_A m c t h]; frame_out; rw [add_at, zero_at])
    (fun t h j => by rw [outsAt0_B m c t h]; frame_out; rw [add_at]) t h i, zero_add]
  refine Eq.trans (Finset.sum_congr rfl fun s _ => ?_) (Cert.Sums.blocks 8 512 fun k : Fin 4096 =>
    (dh (cA m c) (wA m c) k (i 1) * (xA m c (ix2 k (i 1)) * root fun a : Fin 1024 => xA m c (ix2 k a)) : EReal)).symm
  refine Finset.sum_congr rfl fun k _ => ?_
  have e : (⟨512 * (8 * (t.val / 8) + s.val) + k.val, by omega⟩ : Fin 4096) = ⟨s.val * 512 + k.val, by omega⟩ := Fin.ext (by show 512 * (8 * (t.val / 8) + s.val) + k.val = s.val * 512 + k.val; omega)
  exact congrArg (fun q : Fin 4096 => (dh (cA m c) (wA m c) q (i 1) * (xA m c (ix2 q (i 1)) * root fun a : Fin 1024 => xA m c (ix2 q a)) : EReal)) e

theorem arr5 : (dats m 0 c).arrAt 5 cfg0.N = G5 m c := by
  refine (dats m 0 c).arrAt_eq_of_covers 5 _ (by decide +kernel) fun t hf y => ?_
  obtain ⟨-, -, -, -, -, ⟨h0, h1⟩, -⟩ := idx_facts t
  blk_simp
  rw [after0_5]
  have H : ∀ y : S512x1024.Idx, (outsAt0 m c t.val t.isLt).1 y = G5 m c ((win0_5.rect t).emb y) := by
    intro y
    idx_vars y
    rename' y0 => r, y1 => x
    rw [block5_at m c t]
    refine congrArg _ (funext fun i => Fin.ext ?_)
    match i with
    | ⟨0, _⟩ => show 512 * t.val + r.val = win0_5.index t 0 * 512 + 1 * r.val; rw [h0]; omega
    | ⟨1, _⟩ => show x.val = win0_5.index t 1 * 1024 + 1 * x.val; rw [h1]; omega
  exact H y
theorem arr6 : (dats m 0 c).arrAt 6 cfg0.N = G6 m c := by
  refine (dats m 0 c).arrAt_eq_of_covers 6 _ (by decide +kernel) fun t hf y => ?_
  obtain ⟨-, -, -, -, -, -, ⟨h0, h1⟩⟩ := idx_facts t
  blk_simp
  rw [after0_6]
  have H : ∀ y : S1x1024.Idx, (outsAt0 m c t.val t.isLt).2 y = G6 m c ((win0_6.rect t).emb y) := by
    intro y
    idx_vars y
    rename' y0 => r, y1 => x
    rw [block6_at m c t ((flush0_6 t).mp hf)]
    refine congrArg _ (funext fun i => Fin.ext ?_)
    match i with
    | ⟨0, _⟩ => show r.val = win0_6.index t 0 * 1 + 1 * r.val; rw [h0]; omega
    | ⟨1, _⟩ => show x.val = win0_6.index t 1 * 1024 + 1 * x.val; rw [h1]; omega
  exact H y
end
end Cert.Kernel2Ideal.DxIn
namespace Cert.Proof
open Idealize.ShloMosaic Idealize.ShloMosaic.TcCoe Idealize.SL.Sem
open Cert.Reference2Ideal.Read in
theorem reference2_dg (x : FVec Ideal Cert.Reference2Ideal.S4096x1024 .f32) (w : FVec Ideal Cert.Reference2Ideal.S1024x3848 .f32) (ct : FVec Ideal Cert.Reference2Ideal.S4096x3848 .f32) (r : Fin 1) (a : Fin 1024) :
    val_main_v19 (F := Ideal) x w ct (ix2 r a) = (∑ k : Fin 4096, val_main_v17 (F := Ideal) x w ct (ix2 k a) : EReal) := by
  pointwise [val_main_v19, val_main_v18, val_main_cst_3]
open Cert.Reference2Ideal.Read in
theorem reference2_17 (x : FVec Ideal Cert.Reference2Ideal.S4096x1024 .f32) (w : FVec Ideal Cert.Reference2Ideal.S1024x3848 .f32) (ct : FVec Ideal Cert.Reference2Ideal.S4096x3848 .f32) (r : Fin 4096) (a : Fin 1024) :
    val_main_v17 (F := Ideal) x w ct (ix2 r a) = (x (ix2 r a) * (Cert.Norm.root fun k => x (ix2 r k)) * ∑ k : Fin 3848, ct (ix2 r k) * w (ix2 a k) : EReal) := by
  pointwise [val_main_v17, val_main_v16, val_main_v12, val_main_v11, val_main_v7, val_main_v6, val_main_v5, val_main_v4, val_main_v3, val_main_v2, val_main_v1, val_main_v0, val_main_cst, val_main_cst_0, val_main_cst_1, Cert.Norm.root, Cert.Norm.mean]

section
variable (x : FVec Ideal Cert.Reference2Ideal.S4096x1024 .f32) (g : FVec Ideal Cert.Reference2Ideal.S1x1024 .f32) (w : FVec Ideal Cert.Reference2Ideal.S1024x3848 .f32)
  (s : FVec Ideal Cert.Reference2Ideal.S4096x1024 .f32) (ct : FVec Ideal Cert.Reference2Ideal.S4096x3848 .f32)
open Cert.Reference2Ideal.Read
theorem reference2_6 (r : Fin 4096) (z : Fin 1) : val_main_v6 (F := Ideal) x (ix2 r z) = Cert.Norm.mean fun k : Fin 1024 => x (ix2 r k) := by
  pointwise [val_main_v6, val_main_v5, val_main_v4, val_main_v3, val_main_v2, val_main_v1, val_main_v0, val_main_cst, val_main_cst_0, val_main_cst_1, Cert.Norm.mean]
theorem reference2_7 (r : Fin 4096) (z : Fin 1) : val_main_v7 (F := Ideal) x (ix2 r z) = Cert.Norm.root fun k : Fin 1024 => x (ix2 r k) := by
  unfold Cert.Norm.root
  rw [← reference2_6 x r z]
  pointwise [val_main_v7]
theorem reference2_21 (r : Fin 4096) (a : Fin 1024) : val_main_v21 (F := Ideal) g w ct (ix2 r a) = (Cert.Kernel2Ideal.DxIn.dh ct w r a * g (ix2 0 a) : EReal) := by
  pointwise [val_main_v21, val_main_v20, val_main_v16, Cert.Kernel2Ideal.DxIn.dh]
theorem reference2_24 (r : Fin 4096) (z : Fin 1) : val_main_v24 (F := Ideal) x g w ct (ix2 r z) = (∑ k : Fin 1024, x (ix2 r k) * (val_main_v21 (F := Ideal) g w ct (ix2 r k) : EReal) : EReal) := by
  pointwise [val_main_v24, val_main_v23, val_main_v22, val_main_cst_4]
theorem reference2_32 (r : Fin 4096) (a : Fin 1024) : val_main_v32 (F := Ideal) x g w ct (ix2 r a)
    = Ideal.div ((val_main_v24 (F := Ideal) x g w ct (ix2 r 0) : EReal) * (Ideal.ofBits .f32 0xBF000000#32 * Ideal.div (val_main_v7 (F := Ideal) x (ix2 r 0)) (val_main_v6 (F := Ideal) x (ix2 r 0))))
        (Ideal.ofBits .f32 0x44800000#32) := by
  pointwise [val_main_v32, val_main_v31, val_main_v30, val_main_v29, val_main_v28, val_main_v10, val_main_v9, val_main_v8, val_main_cst_2, val_main_cst_5, val_main_cst_6]
  exact Fin.sum_univ_one _
theorem reference2_dx (r : Fin 4096) (a : Fin 1024) : val_main_v36 (F := Ideal) x g w s ct (ix2 r a)
    = ((s (ix2 r a) + (val_main_v21 (F := Ideal) g w ct (ix2 r a) : EReal) * (val_main_v7 (F := Ideal) x (ix2 r 0) : EReal))
      + x (ix2 r a) * (val_main_v32 (F := Ideal) x g w ct (ix2 r a) : EReal) + (val_main_v32 (F := Ideal) x g w ct (ix2 r a) : EReal) * x (ix2 r a) : EReal) := by
  pointwise [val_main_v36, val_main_v35, val_main_v34, val_main_v33, val_main_v27, val_main_v26, val_main_v25]
theorem reference2_through (r : Fin 4096) (a : Fin 1024) : val_main_v32 (F := Ideal) x g w ct (ix2 r a)
    = Cert.Norm.through (fun k : Fin 1024 => x (ix2 r k)) (fun k : Fin 1024 => Cert.Kernel2Ideal.DxIn.dh ct w r k * g (ix2 0 k)) := by
  rw [reference2_32, reference2_24, reference2_7, reference2_6]
  unfold Cert.Norm.through
  refine congrArg (fun q : EReal => Ideal.div (q * _) _) (Finset.sum_congr rfl fun k _ => ?_)
  rw [reference2_21]
theorem reference2_back (r : Fin 4096) (a : Fin 1024) : val_main_v36 (F := Ideal) x g w s ct (ix2 r a)
    = Cert.Norm.grad (fun k : Fin 1024 => x (ix2 r k)) (fun k : Fin 1024 => Cert.Kernel2Ideal.DxIn.dh ct w r k * g (ix2 0 k)) (s (ix2 r a)) a := by
  rw [reference2_dx, reference2_through, reference2_21, reference2_7, Cert.Norm.grad_eq_back]
  rfl
end

theorem algebraic2 : Cert.algebraic_Kernel2Ideal_Reference2Ideal := by
  intro m g m' g' _ ha
  refine ⟨fun c => Cert.Kernel2Ideal.DxIn.G5 m c, fun c => Cert.Kernel2Ideal.DxIn.G6 m c, (θ_run Cert.Kernel2Ideal.defs _ _).mono (fun r h c => ⟨(h c).1.trans (Cert.Kernel2Ideal.DxIn.arr5 m c), (h c).2.1.trans (Cert.Kernel2Ideal.DxIn.arr6 m c), (h c).2.2⟩) (Cert.Kernel2Ideal.Value.run_blocks (F := Ideal) m g), ?_⟩
  refine (θ_run Cert.Reference2Ideal.defs _ _).mono (fun r h c => ?_) (Cert.Reference2Ideal.Value.run (F := Ideal) m' g')
  obtain ⟨h0, h1, hr⟩ := h c
  obtain ⟨a0, a1, a2, a3, a4⟩ := ha c
  refine ⟨h0.trans ?_, h1.trans ?_, hr⟩
  · rw [Cert.Reference2Ideal.Read.val_main_v36_eq, a0, a1, a2, a3, a4]
    have H : ∀ y : Cert.Kernel2Ideal.S4096x1024.Idx, Cert.Reference2Ideal.Read.val_main_v36 (F := Ideal) (Cert.Kernel2Ideal.DxIn.xA m c) (Cert.Kernel2Ideal.DxIn.gA m c) (Cert.Kernel2Ideal.DxIn.wA m c) (Cert.Kernel2Ideal.DxIn.rA m c) (Cert.Kernel2Ideal.DxIn.cA m c) y = Cert.Kernel2Ideal.DxIn.G5 m c y := by
      intro y
      idx_vars y
      rw [reference2_back]
      rfl
    exact funext H
  · rw [Cert.Reference2Ideal.Read.val_main_v19_eq, a0, a2, a4]
    have H : ∀ y : Cert.Kernel2Ideal.S1x1024.Idx, Cert.Reference2Ideal.Read.val_main_v19 (F := Ideal) (Cert.Kernel2Ideal.DxIn.xA m c) (Cert.Kernel2Ideal.DxIn.wA m c) (Cert.Kernel2Ideal.DxIn.cA m c) y = Cert.Kernel2Ideal.DxIn.G6 m c y := by
      intro y
      idx_vars y
      rw [reference2_dg]
      exact Finset.sum_congr rfl fun k _ => (reference2_17 _ _ _ k _).trans (mul_comm (G := EReal) _ _)
    exact funext H

end Cert.Proof
end
-- ==== Proof.DwIn.lean ====
module

public import proofs.«01_k».proof.Defs
public import proofs.«01_k».proof.Proof.Sums
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pipeline.ValueKit.Acc
public import Idealize.ShloMosaic.Lib.Pointwise
public import Idealize.ShloMosaic.Lib.Pointwise.IndexBridge
public import Idealize.ShloMosaic.Lib.StableHlo.ReadAt
public import Idealize.ShloMosaic.Lib.StableHlo.RunRead

/-! The gradient of the input projection's weights: a sum over all rows, taken a block of rows at a time. -/

@[expose] public section

set_option maxRecDepth 16384

noncomputable section
namespace Cert.Kernel3Ideal.DwIn

open Idealize.ShloMosaic Idealize.ShloMosaic.TcCoe Idealize.ShloMosaic.StableHlo Idealize.ShloMosaic.Pipeline Idealize.SL.Sem
open Cert.Kernel3Ideal.Gen

section
variable {F : FTy → Type} [FloatOps F]

/-- The projection's cotangent, with columns of zeros up to a whole number of blocks. -/
def padC (w : FVec F S4096x3848 .f32) : FVec F S4096x4096 .bf16 :=
  concatenate S4096x4096 1 [⟨S4096x3848, truncf .bf16 w bitsLt_bf16_f32⟩, ⟨S4096x248, broadcastInDim S4096x248 ![] bcast_S_S4096x248 (constant S_ .bf16 0x0000#16)⟩]
    concatenates_S4096x3848_S4096x248_S4096x4096_d1
def narrow (h : FVec F S4096x1024 .f32) : FVec F S4096x1024 .bf16 := truncf .bf16 h bitsLt_bf16_f32
/-- The result: the rows that the weights have, turned. -/
def turn (p : FVec F S4096x1024 .f32) : FVec F S1024x3848 .f32 :=
  transpose S1024x3848 [1, 0] (extractStridedSlice S3848x1024 ![0, 0] p slices_S4096x1024_S3848x1024_0_0) transposes_S3848x1024_S1024x3848_1_0

variable (m : (ℓ : Loc nD τ sig) → Buf (Elt F) ℓ) (c : Dev nD)
abbrev hA : FVec F S4096x1024 .f32 := m ((c : Thread nD τ).loc main_arg0)
abbrev cA : FVec F S4096x3848 .f32 := m ((c : Thread nD τ).loc main_arg1)
theorem V2 : V m c main_v2 = padC (cA m c) := by after_reads_simp; rfl
theorem V2_at (i : S4096x4096.Idx) : (V m c main_v2 : Vec F S4096x4096 .bf16) i = padC (cA m c) i := congrFun (V2 m c) i
theorem V3 : V m c main_v3 = narrow (hA m c) := by after_reads_simp; rfl
theorem V3_at (i : S4096x1024.Idx) : (V m c main_v3 : Vec F S4096x1024 .bf16) i = narrow (hA m c) i := congrFun (V3 m c) i

theorem tail6 (W : Valuation τ sig (Elt F)) : after hostOps1 W main_v6 = turn (W main_v4) := by after_reads_simp; rfl

theorem idx_facts : ∀ t : Fin cfg0.N,
    (win0_0.index t 0 = t.val % 4 ∧ win0_0.index t 1 = 0) ∧ (win0_1.index t 0 = t.val % 4 ∧ win0_1.index t 1 = t.val / 4)
    ∧ (win0_2.index t 0 = t.val / 4 ∧ win0_2.index t 1 = 0) :=
  (by decide +kernel : ∀ t : Fin grid0.N, _)

variable (t : Fin cfg0.N)
theorem t_lt : t.val < 16 := lt_of_lt_of_eq t.isLt N_0

theorem blk0_at (r : Fin 1024) (x : Fin 1024) : (iblk m c 0 t : Vec F S1024x1024 .bf16) (ix2 r x)
    = (V m c main_v3 : Vec F S4096x1024 .bf16) (ix2 ⟨t.val % 4 * 1024 + r.val, by have := t_lt t; omega⟩ x) := by
  obtain ⟨⟨h0, h1⟩, -⟩ := idx_facts t
  unfold iblk
  show (V m c main_v3 : Vec F S4096x1024 .bf16) ((win0_0.rect t).emb (ix2 r x)) = _
  refine congrArg _ (funext fun i => Fin.ext ?_)
  match i with
  | ⟨0, _⟩ => show win0_0.index t 0 * 1024 + 1 * r.val = t.val % 4 * 1024 + r.val; rw [h0]; omega
  | ⟨1, _⟩ => show win0_0.index t 1 * 1024 + 1 * x.val = x.val; rw [h1]; omega
theorem blk1_at (r : Fin 1024) (x : Fin 1024) : (iblk m c 1 t : Vec F S1024x1024 .bf16) (ix2 r x)
    = (V m c main_v2 : Vec F S4096x4096 .bf16) (ix2 ⟨t.val % 4 * 1024 + r.val, by have := t_lt t; omega⟩ ⟨t.val / 4 * 1024 + x.val, by have := t_lt t; omega⟩) := by
  obtain ⟨-, ⟨h0, h1⟩, -⟩ := idx_facts t
  unfold iblk
  show (V m c main_v2 : Vec F S4096x4096 .bf16) ((win0_1.rect t).emb (ix2 r x)) = _
  refine congrArg _ (funext fun i => Fin.ext ?_)
  match i with
  | ⟨0, _⟩ => show win0_1.index t 0 * 1024 + 1 * r.val = t.val % 4 * 1024 + r.val; rw [h0]; omega
  | ⟨1, _⟩ => show win0_1.index t 1 * 1024 + 1 * x.val = t.val / 4 * 1024 + x.val; rw [h1]; omega
end

theorem padC_at (w : FVec Ideal S4096x3848 .f32) (r : Fin 4096) (x : Fin 3848) : padC w (ix2 r ⟨x.val, by omega⟩) = w (ix2 r x) := by
  have h : x.val < 3848 := x.isLt
  pointwise [padC]
theorem narrow_at (h : FVec Ideal S4096x1024 .f32) (r : Fin 4096) (x : Fin 1024) : narrow h (ix2 r x) = h (ix2 r x) := by
  pointwise [narrow]
theorem turn_at (p : FVec Ideal S4096x1024 .f32) (r : Fin 1024) (x : Fin 3848) : turn p (ix2 r x) = p (ix2 ⟨x.val, by omega⟩ r) := by
  pointwise [turn]
theorem pay1_at (r x : Fin 1024) : k0_pay1 (F := Ideal) (ix2 r x) = (0 : EReal) := by
  pointwise [k0_pay1]
theorem pay2_at (v3 : Vec Ideal S1024x1024 .f32) (v5 v7 : Vec Ideal S1024x1024 .bf16) (r x : Fin 1024) :
    k0_pay2 v3 v5 v7 (ix2 r x) = (v3 (ix2 r x) + ∑ k : Fin 1024, v5 (ix2 k r) * v7 (ix2 k x) : EReal) := by
  pointwise [k0_pay2]

section
variable (m : (ℓ : Loc nD τ sig) → Buf (Elt Ideal) ℓ) (c : Dev nD) (t : Fin cfg0.N)

theorem blk0_v (r : Fin 1024) (x : Fin 1024) : (iblk m c 0 t : Vec Ideal S1024x1024 .bf16) (ix2 r x)
    = hA m c (ix2 ⟨t.val % 4 * 1024 + r.val, by have := t_lt t; omega⟩ x) := (blk0_at m c t r x).trans ((V3_at m c _).trans (narrow_at _ _ x))
theorem blk1_v (r : Fin 1024) (x : Fin 1024) : (iblk m c 1 t : Vec Ideal S1024x1024 .bf16) (ix2 r x)
    = padC (cA m c) (ix2 ⟨t.val % 4 * 1024 + r.val, by have := t_lt t; omega⟩ ⟨t.val / 4 * 1024 + x.val, by have := t_lt t; omega⟩) :=
  (blk1_at m c t r x).trans (V2_at m c _)

/-- What a point adds to its block, and what the blocks come to. -/
def prod (a b : FVec Ideal S1024x1024 .bf16) (i : S1024x1024.Idx) : EReal := ∑ k : Fin 1024, a (ix2 k (i 0)) * b (ix2 k (i 1))
def term (t : Fin cfg0.N) (i : S1024x1024.Idx) : EReal := prod (iblk m c 1 t) (iblk m c 0 t) i
def G2 : FVec Ideal S4096x1024 .f32 := fun i => (∑ k : Fin 4096, padC (cA m c) (ix2 k (i 0)) * hA m c (ix2 k (i 1)) : EReal)

theorem pay_term (v3 : Vec Ideal S1024x1024 .f32) (i : S1024x1024.Idx) :
    k0_pay2 v3 (iblk m c 1 t) (iblk m c 0 t) i = (v3 i + term m c t i : EReal) := by
  idx_vars i
  exact pay2_at _ _ _ _ _
theorem zero_at (i : S1024x1024.Idx) : k0_pay1 (F := Ideal) i = (0 : EReal) := by
  idx_vars i
  exact pay1_at _ _

theorem outs_at (h : t.val % 4 = 3) (i : S1024x1024.Idx) :
    outsAt0 m c t.val t.isLt i = (0 + ∑ s : Fin 4, term m c ⟨4 * (t.val / 4) + s.val, run_point_lt_of_flush t h s⟩ i : EReal) := by
  rw [eq_sum_fin_of_reset_step_apply_of_flush (M := EReal) (fun n h => outsAt0 m c n h) 4 (fun _ => 0) (term m c)
    (fun t h j => by rw [outsAt0_A m c t h]; frame_out; rw [pay_term, zero_at])
    (fun t h j => by rw [outsAt0_B m c t h]; frame_out; rw [pay_term]) t h i]

theorem term_at (s : Fin 4) (h : t.val / 4 * 4 + s.val < cfg0.N) (r x : Fin 1024) :
    term m c ⟨4 * (t.val / 4) + s.val, by omega⟩ (ix2 r x)
      = (∑ k : Fin 1024, padC (cA m c) (ix2 ⟨s.val * 1024 + k.val, by omega⟩ ⟨t.val / 4 * 1024 + r.val, by have := t_lt t; omega⟩) * hA m c (ix2 ⟨s.val * 1024 + k.val, by omega⟩ x) : EReal) := by
  unfold term prod
  refine Finset.sum_congr rfl fun k _ => congrArg₂ (fun a b : EReal => a * b) ((blk1_v m c _ k r).trans ?_) ((blk0_v m c _ k x).trans ?_)
  · exact congrArg (padC (cA m c)) (funext fun i => Fin.ext (by
      match i with
      | ⟨0, _⟩ => show (4 * (t.val / 4) + s.val) % 4 * 1024 + k.val = s.val * 1024 + k.val; omega
      | ⟨1, _⟩ => show (4 * (t.val / 4) + s.val) / 4 * 1024 + r.val = t.val / 4 * 1024 + r.val; omega))
  · exact congrArg (hA m c) (funext fun i => Fin.ext (by
      match i with
      | ⟨0, _⟩ => show (4 * (t.val / 4) + s.val) % 4 * 1024 + k.val = s.val * 1024 + k.val; omega
      | ⟨1, _⟩ => rfl))

theorem block_at (h : t.val % 4 = 3) (r x : Fin 1024) :
    outsAt0 m c t.val t.isLt (ix2 r x) = G2 m c (ix2 ⟨t.val / 4 * 1024 + r.val, by have := t_lt t; omega⟩ x) := by
  rw [outs_at m c t h, zero_add]
  refine Eq.trans (Finset.sum_congr rfl fun s _ => term_at m c t s (by have := t.isLt; have := s.isLt; omega) r x) ?_
  exact (Cert.Sums.blocks 4 1024 fun k : Fin 4096 =>
    (padC (cA m c) (ix2 k ⟨t.val / 4 * 1024 + r.val, by have := t_lt t; omega⟩) * hA m c (ix2 k x) : EReal)).symm

theorem arr2 : (dats m 0 c).arrAt 2 cfg0.N = G2 m c := by
  refine (dats m 0 c).arrAt_eq_of_covers 2 _ (by decide +kernel) fun t hf y => ?_
  obtain ⟨-, -, ⟨h0, h1⟩⟩ := idx_facts t
  blk_simp
  rw [after0_2]
  have H : ∀ y : S1024x1024.Idx, outsAt0 m c t.val t.isLt y = G2 m c ((win0_2.rect t).emb y) := by
    intro y
    idx_vars y
    rename' y0 => r, y1 => x
    rw [block_at m c t ((flush0_2 t).mp hf)]
    refine congrArg _ (funext fun i => Fin.ext ?_)
    match i with
    | ⟨0, _⟩ => show t.val / 4 * 1024 + r.val = win0_2.index t 0 * 1024 + 1 * r.val; rw [h0]; omega
    | ⟨1, _⟩ => show x.val = win0_2.index t 1 * 1024 + 1 * x.val; rw [h1]; omega
  exact H y

/-- The buffers as the launch leaves them. -/
def WA : Valuation τ sig (Elt Ideal) := withArrays (cfgs 0).spec c (V0 m c) fun w => (dats m 0 c).arrAt w (cfgs 0).N
theorem arr_inj : Function.Injective (arrRef (cfgs (0 : Fin 1)).spec) := by decide +kernel
theorem WA_2 : WA m c main_v4 = G2 m c := (withArrays_arr _ arr_inj c _ _ (2 : Fin 3)).trans (arr2 m c)

/-- The result after the host code. -/
abbrev out6 : FVec Ideal S1024x3848 .f32 := afterTail₀ cfgs (dats m) 0 (V0 m) [hostOps1] c main_v6
theorem out6_at (r : Fin 1024) (x : Fin 3848) : out6 m c (ix2 r x) = (∑ k : Fin 4096, cA m c (ix2 k x) * hA m c (ix2 k r) : EReal) := by
  have e : out6 m c = turn (WA m c main_v4) := tail6 (WA m c)
  rw [e, WA_2, turn_at]
  exact Finset.sum_congr rfl fun k _ => congrArg (fun z : EReal => z * hA m c (ix2 k r)) (padC_at (cA m c) k x)

theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = out6 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v6 (Pipeline.mem_restRefs_of main_v6 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)
end

end Cert.Kernel3Ideal.DwIn
namespace Cert.Proof
open Idealize.ShloMosaic Idealize.ShloMosaic.TcCoe Idealize.SL.Sem
open Cert.Reference3Ideal.Read in
theorem reference3_at (h : FVec Ideal Cert.Reference3Ideal.S4096x1024 .f32) (ct : FVec Ideal Cert.Reference3Ideal.S4096x3848 .f32) (r : Fin 1024) (e : Fin 3848) :
    val_main_v3 (F := Ideal) h ct (ix2 r e) = (∑ k : Fin 4096, ct (ix2 k e) * h (ix2 k r) : EReal) := by
  pointwise [val_main_v3, val_main_v2]

theorem algebraic3 : Cert.algebraic_Kernel3Ideal_Reference3Ideal := by
  intro m g m' g' _ ha
  refine ⟨fun c => Cert.Kernel3Ideal.DwIn.out6 m c, Cert.Kernel3Ideal.DwIn.run_kernel m g, ?_⟩
  refine (θ_run Cert.Reference3Ideal.defs _ _).mono (fun r h c => ?_) (Cert.Reference3Ideal.Value.run (F := Ideal) m' g')
  obtain ⟨h0, hr⟩ := h c
  obtain ⟨a0, a1⟩ := ha c
  refine ⟨h0.trans ?_, hr⟩
  rw [Cert.Reference3Ideal.Read.val_main_v3_eq, a0, a1]
  have H : ∀ y : Cert.Kernel3Ideal.S1024x3848.Idx, Cert.Reference3Ideal.Read.val_main_v3 (F := Ideal) (Cert.Kernel3Ideal.DwIn.hA m c) (Cert.Kernel3Ideal.DwIn.cA m c) y = Cert.Kernel3Ideal.DwIn.out6 m c y := by
    intro y
    idx_vars y
    rw [reference3_at, Cert.Kernel3Ideal.DwIn.out6_at]
  exact funext H

end Cert.Proof
end
-- ==== Proof.InProj.lean ====
module

public import proofs.«01_k».proof.Defs
public import proofs.«01_k».proof.Proof.Sums
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pipeline.ValueKit.Geometry
public import Idealize.ShloMosaic.Lib.Pointwise
public import Idealize.ShloMosaic.Lib.Pointwise.IndexBridge
public import Idealize.ShloMosaic.Lib.StableHlo.ReadAt
public import Idealize.ShloMosaic.Lib.StableHlo.RunRead

/-! The input projection: the normalised rows and their product with the weights. -/

@[expose] public section

set_option maxRecDepth 16384

noncomputable section
namespace Cert.Kernel4Ideal.InProj

open Idealize.ShloMosaic Idealize.ShloMosaic.TcCoe Idealize.ShloMosaic.StableHlo Idealize.ShloMosaic.Pipeline Idealize.SL.Sem
open Cert.Kernel4Ideal.Gen

section
variable {F : FTy → Type} [FloatOps F]

/-- The weights, with columns of zeros up to a whole number of blocks. -/
def padW (w : FVec F S1024x3848 .f32) : FVec F S1024x4096 .bf16 :=
  concatenate S1024x4096 1 [⟨S1024x3848, truncf .bf16 w bitsLt_bf16_f32⟩, ⟨S1024x248, broadcastInDim S1024x248 ![] bcast_S_S1024x248 (constant S_ .bf16 0x0000#16)⟩]
    concatenates_S1024x3848_S1024x248_S1024x4096_d1
/-- The scale as one row. -/
def row (g : FVec F S1024 .f32) : FVec F S1x1024 .f32 := shapeCast S1x1024 g shapeCasts_S1024_S1x1024
/-- The results: the normalised rows, and the product's columns that the weights have. -/
def wide (h : FVec F S4096x1024 .bf16) : FVec F S4096x1024 .f32 := extf .f32 h bitsLt_bf16_f32
def cut (p : FVec F S4096x4096 .f32) : FVec F S4096x3848 .f32 := extractStridedSlice S4096x3848 ![0, 0] p slices_S4096x4096_S4096x3848_0_0

variable (m : (ℓ : Loc nD τ sig) → Buf (Elt F) ℓ) (c : Dev nD)
abbrev xA : FVec F S4096x1024 .f32 := m ((c : Thread nD τ).loc main_arg0)
abbrev gA : FVec F S1024 .f32 := m ((c : Thread nD τ).loc main_arg1)
abbrev wA : FVec F S1024x3848 .f32 := m ((c : Thread nD τ).loc main_arg2)
theorem V0_at (i : S4096x1024.Idx) : (V m c main_arg0 : Vec F S4096x1024 .f32) i = xA m c i := congrFun (V_main_arg0 m c) i
theorem V2 : V m c main_v2 = padW (wA m c) := by after_reads_simp; rfl
theorem V2_at (i : S1024x4096.Idx) : (V m c main_v2 : Vec F S1024x4096 .bf16) i = padW (wA m c) i := congrFun (V2 m c) i
theorem V3 : V m c main_v3 = row (gA m c) := by after_reads_simp; rfl
theorem V3_at (i : S1x1024.Idx) : (V m c main_v3 : Vec F S1x1024 .f32) i = row (gA m c) i := congrFun (V3 m c) i

theorem tail5 (W : Valuation τ sig (Elt F)) : after hostOps1 W main_v5 = wide (W main_v4_0) := by after_reads_simp; rfl
theorem tail6 (W : Valuation τ sig (Elt F)) : after hostOps1 W main_v6 = cut (W main_v4_1) := by after_reads_simp; rfl

theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

variable (t : Fin cfg0.N)
theorem t_lt : t.val < 8 := lt_of_lt_of_eq t.isLt N_0

theorem blk0_at (r : Fin 512) (x : Fin 1024) : (iblk m c 0 t : Vec F S512x1024 .f32) (ix2 r x)
    = (V m c main_arg0 : Vec F S4096x1024 .f32) (ix2 ⟨512 * t.val + r.val, by have := t_lt t; omega⟩ x) := by
  obtain ⟨⟨h0, h1⟩, -⟩ := idx_facts t
  unfold iblk
  show (V m c main_arg0 : Vec F S4096x1024 .f32) ((win0_0.rect t).emb (ix2 r x)) = _
  refine congrArg _ (funext fun i => Fin.ext ?_)
  match i with
  | ⟨0, _⟩ => show win0_0.index t 0 * 512 + 1 * r.val = 512 * t.val + r.val; rw [h0]; omega
  | ⟨1, _⟩ => show win0_0.index t 1 * 1024 + 1 * x.val = x.val; rw [h1]; omega
theorem blk1_at (r : Fin 1) (x : Fin 1024) : (iblk m c 1 t : Vec F S1x1024 .f32) (ix2 r x) = (V m c main_v3 : Vec F S1x1024 .f32) (ix2 r x) := by
  obtain ⟨-, ⟨h0, h1⟩, -⟩ := idx_facts t
  unfold iblk
  show (V m c main_v3 : Vec F S1x1024 .f32) ((win0_1.rect t).emb (ix2 r x)) = _
  refine congrArg _ (funext fun i => Fin.ext ?_)
  match i with
  | ⟨0, _⟩ => show win0_1.index t 0 * 1 + 1 * r.val = r.val; rw [h0]; omega
  | ⟨1, _⟩ => show win0_1.index t 1 * 1024 + 1 * x.val = x.val; rw [h1]; omega
theorem blk2_at (r : Fin 1024) (x : Fin 4096) : (iblk m c 2 t : Vec F S1024x4096 .bf16) (ix2 r x) = (V m c main_v2 : Vec F S1024x4096 .bf16) (ix2 r x) := by
  obtain ⟨-, -, ⟨h0, h1⟩, -⟩ := idx_facts t
  unfold iblk
  show (V m c main_v2 : Vec F S1024x4096 .bf16) ((win0_2.rect t).emb (ix2 r x)) = _
  refine congrArg _ (funext fun i => Fin.ext ?_)
  match i with
  | ⟨0, _⟩ => show win0_2.index t 0 * 1024 + 1 * r.val = r.val; rw [h0]; omega
  | ⟨1, _⟩ => show win0_2.index t 1 * 4096 + 1 * x.val = x.val; rw [h1]; omega
end

theorem padW_at (w : FVec Ideal S1024x3848 .f32) (r : Fin 1024) (x : Fin 3848) : padW w (ix2 r ⟨x.val, by omega⟩) = w (ix2 r x) := by
  have h : x.val < 3848 := x.isLt
  pointwise [padW]
theorem row_at (g : FVec Ideal S1024 .f32) (r : Fin 1) (x : Fin 1024) : row g (ix2 r x) = g (ix1 x) := by
  pointwise [row]
theorem wide_at (h : FVec Ideal S4096x1024 .bf16) (r : Fin 4096) (x : Fin 1024) : wide h (ix2 r x) = h (ix2 r x) := by
  pointwise [wide]
theorem cut_at (p : FVec Ideal S4096x4096 .f32) (r : Fin 4096) (x : Fin 3848) : cut p (ix2 r x) = p (ix2 r ⟨x.val, by omega⟩) := by
  pointwise [cut]

/-- A normalised row, scaled. -/
def norm {n : ℕ} (x : Fin n → EReal) (g : Fin n → EReal) (a : Fin n) : EReal :=
  x a * Ideal.rsqrt (Ideal.div (∑ k, x k * x k) (Ideal.ofBits .f32 0x44800000#32) + Ideal.ofBits .f32 0x358637BD#32) * g a

theorem pay1_at (v0 : Vec Ideal S512x1024 .f32) (v1 : Vec Ideal S1x1024 .f32) (r : Fin 512) (x : Fin 1024) :
    k0_pay1 v0 v1 (ix2 r x) = norm (fun k => v0 (ix2 r k)) (fun k => v1 (ix2 0 k)) x := by
  pointwise [k0_pay1, norm]
theorem pay2_at (v0 : Vec Ideal S512x1024 .f32) (v1 : Vec Ideal S1x1024 .f32) (w : Vec Ideal S1024x4096 .bf16) (r : Fin 512) (x : Fin 4096) :
    k0_pay2 v0 v1 w (ix2 r x) = (∑ a : Fin 1024, k0_pay1 v0 v1 (ix2 r a) * w (ix2 a x) : EReal) := by
  pointwise [k0_pay2]

theorem out3_at (x0 : Vec Ideal S512x1024 .f32) (x1 : Vec Ideal S1x1024 .f32) (x2 : Vec Ideal S1024x4096 .bf16) (r : Fin 512) (x : Fin 1024) :
    out0_3 x0 x1 x2 (ix2 r x) = norm (fun k => x0 (ix2 r k)) (fun k => x1 (ix2 0 k)) x := by
  have hz : (![0, 0] : Fin 2 → ℕ) = fun _ => 0 := by funext i; fin_cases i <;> rfl
  unfold out0_3
  rw [View.canon_unit_zero (S := S512x1024) hz, View.ld_unit_zero (S := S512x1024) hz, View.ld_unit_zero (S := S1x1024) hz, pay1_at]
theorem out4_at (x0 : Vec Ideal S512x1024 .f32) (x1 : Vec Ideal S1x1024 .f32) (x2 : Vec Ideal S1024x4096 .bf16) (r : Fin 512) (x : Fin 4096) :
    out0_4 x0 x1 x2 (ix2 r x) = (∑ a : Fin 1024, norm (fun k => x0 (ix2 r k)) (fun k => x1 (ix2 0 k)) a * x2 (ix2 a x) : EReal) := by
  have hz : (![0, 0] : Fin 2 → ℕ) = fun _ => 0 := by funext i; fin_cases i <;> rfl
  unfold out0_4
  rw [View.canon_unit_zero (S := S512x4096) hz, View.ld_unit_zero (S := S512x1024) hz, View.ld_unit_zero (S := S1x1024) hz, View.ld_unit_zero (S := S1024x4096) hz, pay2_at]
  exact Finset.sum_congr rfl fun a _ => congrArg (fun z : EReal => z * x2 (ix2 a x)) (pay1_at x0 x1 r a)

section
variable (m : (ℓ : Loc nD τ sig) → Buf (Elt Ideal) ℓ) (c : Dev nD) (t : Fin cfg0.N)

theorem blk0_v (r : Fin 512) (x : Fin 1024) : (iblk m c 0 t : Vec Ideal S512x1024 .f32) (ix2 r x)
    = xA m c (ix2 ⟨512 * t.val + r.val, by have := t_lt t; omega⟩ x) := (blk0_at m c t r x).trans (V0_at m c _)
theorem blk1_v (r : Fin 1) (x : Fin 1024) : (iblk m c 1 t : Vec Ideal S1x1024 .f32) (ix2 r x) = gA m c (ix1 x) :=
  (blk1_at m c t r x).trans ((V3_at m c _).trans (row_at _ r x))
theorem blk2_v (r : Fin 1024) (x : Fin 4096) : (iblk m c 2 t : Vec Ideal S1024x4096 .bf16) (ix2 r x) = padW (wA m c) (ix2 r x) :=
  (blk2_at m c t r x).trans (V2_at m c _)

/-- The normalised rows, and their product with the padded weights. -/
def gH (r : Fin 4096) (a : Fin 1024) : EReal := norm (fun k => xA m c (ix2 r k)) (fun k => gA m c (ix1 k)) a
def G3 : FVec Ideal S4096x1024 .bf16 := fun i => gH m c (i 0) (i 1)
def G4 : FVec Ideal S4096x4096 .f32 := fun i => (∑ a : Fin 1024, gH m c (i 0) a * padW (wA m c) (ix2 a (i 1)) : EReal)

theorem row_v (r : Fin 512) (a : Fin 1024) : norm (fun k => (iblk m c 0 t : Vec Ideal S512x1024 .f32) (ix2 r k)) (fun k => (iblk m c 1 t : Vec Ideal S1x1024 .f32) (ix2 0 k)) a
    = gH m c ⟨512 * t.val + r.val, by have := t_lt t; omega⟩ a := by
  unfold gH
  exact congrArg₂ (fun f g => norm f g a) (funext fun k => blk0_v m c t r k) (funext fun k => blk1_v m c t 0 k)

theorem block3_at (r : Fin 512) (x : Fin 1024) :
    (out0_3 (iblk m c 0 t) (iblk m c 1 t) (iblk m c 2 t) : Vec Ideal S512x1024 .bf16) (ix2 r x)
      = G3 m c (ix2 ⟨512 * t.val + r.val, by have := t_lt t; omega⟩ x) :=
  (out3_at _ _ _ r x).trans (row_v m c t r x)
theorem block4_at (r : Fin 512) (x : Fin 4096) :
    (out0_4 (iblk m c 0 t) (iblk m c 1 t) (iblk m c 2 t) : Vec Ideal S512x4096 .f32) (ix2 r x)
      = G4 m c (ix2 ⟨512 * t.val + r.val, by have := t_lt t; omega⟩ x) :=
  (out4_at _ _ _ r x).trans (Finset.sum_congr rfl fun a _ => congrArg₂ (fun z w : EReal => z * w) (row_v m c t r a) (blk2_v m c t a x))

theorem arr3 : (dats m 0 c).arrAt 3 cfg0.N = G3 m c := by
  refine (dats m 0 c).arrAt_eq_of_covers 3 _ (by decide +kernel) fun t hf y => ?_
  obtain ⟨-, -, -, ⟨h0, h1⟩, -⟩ := idx_facts t
  blk_simp
  rw [after0_3]
  have H : ∀ y : S512x1024.Idx, (out0_3 (iblk m c 0 t) (iblk m c 1 t) (iblk m c 2 t) : Vec Ideal S512x1024 .bf16) y = G3 m c ((win0_3.rect t).emb y) := by
    intro y
    idx_vars y
    rename' y0 => r, y1 => x
    rw [block3_at m c t]
    refine congrArg _ (funext fun i => Fin.ext ?_)
    match i with
    | ⟨0, _⟩ => show 512 * t.val + r.val = win0_3.index t 0 * 512 + 1 * r.val; rw [h0]; omega
    | ⟨1, _⟩ => show x.val = win0_3.index t 1 * 1024 + 1 * x.val; rw [h1]; omega
  exact H y
theorem arr4 : (dats m 0 c).arrAt 4 cfg0.N = G4 m c := by
  refine (dats m 0 c).arrAt_eq_of_covers 4 _ (by decide +kernel) fun t hf y => ?_
  obtain ⟨-, -, -, -, ⟨h0, h1⟩⟩ := idx_facts t
  blk_simp
  rw [after0_4]
  have H : ∀ y : S512x4096.Idx, (out0_4 (iblk m c 0 t) (iblk m c 1 t) (iblk m c 2 t) : Vec Ideal S512x4096 .f32) y = G4 m c ((win0_4.rect t).emb y) := by
    intro y
    idx_vars y
    rename' y0 => r, y1 => x
    rw [block4_at m c t]
    refine congrArg _ (funext fun i => Fin.ext ?_)
    match i with
    | ⟨0, _⟩ => show 512 * t.val + r.val = win0_4.index t 0 * 512 + 1 * r.val; rw [h0]; omega
    | ⟨1, _⟩ => show x.val = win0_4.index t 1 * 4096 + 1 * x.val; rw [h1]; omega
  exact H y

/-- The buffers as the launch leaves them. -/
def WA : Valuation τ sig (Elt Ideal) := withArrays (cfgs 0).spec c (V0 m c) fun w => (dats m 0 c).arrAt w (cfgs 0).N
theorem arr_inj : Function.Injective (arrRef (cfgs (0 : Fin 1)).spec) := by decide +kernel
theorem WA_3 : WA m c main_v4_0 = G3 m c := (withArrays_arr _ arr_inj c _ _ (3 : Fin 5)).trans (arr3 m c)
theorem WA_4 : WA m c main_v4_1 = G4 m c := (withArrays_arr _ arr_inj c _ _ (4 : Fin 5)).trans (arr4 m c)

/-- The results after the host code. -/
abbrev out5 : FVec Ideal S4096x1024 .f32 := afterTail₀ cfgs (dats m) 0 (V0 m) [hostOps1] c main_v5
abbrev out6 : FVec Ideal S4096x3848 .f32 := afterTail₀ cfgs (dats m) 0 (V0 m) [hostOps1] c main_v6
theorem out5_at (r : Fin 4096) (a : Fin 1024) : out5 m c (ix2 r a) = gH m c r a := by
  have e : out5 m c = wide (WA m c main_v4_0) := tail5 (WA m c)
  rw [e, WA_3, wide_at]
  rfl
theorem out6_at (r : Fin 4096) (x : Fin 3848) : out6 m c (ix2 r x) = (∑ a : Fin 1024, gH m c r a * wA m c (ix2 a x) : EReal) := by
  have e : out6 m c = cut (WA m c main_v4_1) := tail6 (WA m c)
  rw [e, WA_4, cut_at]
  exact Finset.sum_congr rfl fun a _ => congrArg (fun z : EReal => gH m c r a * z) (padW_at (wA m c) a x)

theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = out5 m c
      ∧ r.2.mem ((c.tc : Thread nD τ).loc main_v6) = out6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v5 (Pipeline.mem_restRefs_of main_v5 (by decide) (by decide)),
      (h c).2 main_v6 (Pipeline.mem_restRefs_of main_v6 (by decide) (by decide)),
      ((h c).1 0).trans (((dats m 0 c).arrAt_in 0 rfl _).trans (V_main_arg0 m c)),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)
end
end Cert.Kernel4Ideal.InProj
namespace Cert.Proof
open Idealize.ShloMosaic Idealize.ShloMosaic.TcCoe Idealize.SL.Sem
open Cert.Reference4Ideal.Read in
theorem reference4_h (x : FVec Ideal Cert.Reference4Ideal.S4096x1024 .f32) (g : FVec Ideal Cert.Reference4Ideal.S1024 .f32) (r : Fin 4096) (a : Fin 1024) :
    val_main_v12 (F := Ideal) x g (ix2 r a) = Cert.Kernel4Ideal.InProj.norm (fun k => x (ix2 r k)) (fun k => g (ix1 k)) a := by
  pointwise [val_main_v12, val_main_v11, val_main_v10, val_main_v9, val_main_v8, val_main_v7, val_main_v6, val_main_v5, val_main_cst_1, val_main_v4, val_main_v3, val_main_cst_0, val_main_v2, val_main_v1, val_main_cst, val_main_v0, Cert.Kernel4Ideal.InProj.norm]

open Cert.Reference4Ideal.Read in
theorem reference4_p (x : FVec Ideal Cert.Reference4Ideal.S4096x1024 .f32) (g : FVec Ideal Cert.Reference4Ideal.S1024 .f32) (w : FVec Ideal Cert.Reference4Ideal.S1024x3848 .f32) (r : Fin 4096) (e : Fin 3848) :
    val_main_v13 (F := Ideal) x g w (ix2 r e) = (∑ a : Fin 1024, Cert.Kernel4Ideal.InProj.norm (fun k => x (ix2 r k)) (fun k => g (ix1 k)) a * w (ix2 a e) : EReal) := by
  have h : val_main_v13 (F := Ideal) x g w (ix2 r e) = (∑ a : Fin 1024, val_main_v12 (F := Ideal) x g (ix2 r a) * w (ix2 a e) : EReal) := by
    pointwise [val_main_v13]
  rw [h]
  exact Finset.sum_congr rfl fun a _ => congrArg (fun z : EReal => z * w (ix2 a e)) (reference4_h x g r a)

theorem algebraic4 : Cert.algebraic_Kernel4Ideal_Reference4Ideal := by
  intro m g m' g' _ ha
  refine ⟨fun c => Cert.Kernel4Ideal.InProj.out5 m c, fun c => Cert.Kernel4Ideal.InProj.out6 m c, Cert.Kernel4Ideal.InProj.run_kernel m g, ?_⟩
  refine (θ_run Cert.Reference4Ideal.defs _ _).mono (fun r h c => ?_) (Cert.Reference4Ideal.Value.run (F := Ideal) m' g')
  obtain ⟨h0, h1, hr⟩ := h c
  obtain ⟨a0, a1, a2⟩ := ha c
  refine ⟨h0.trans ?_, h1.trans ?_, hr⟩
  · rw [Cert.Reference4Ideal.Read.val_main_v12_eq, a0, a1]
    have H : ∀ y : Cert.Kernel4Ideal.S4096x1024.Idx, Cert.Reference4Ideal.Read.val_main_v12 (F := Ideal) (Cert.Kernel4Ideal.InProj.xA m c) (Cert.Kernel4Ideal.InProj.gA m c) y = Cert.Kernel4Ideal.InProj.out5 m c y := by
      intro y
      idx_vars y
      rw [reference4_h, Cert.Kernel4Ideal.InProj.out5_at]
      rfl
    exact funext H
  · rw [Cert.Reference4Ideal.Read.val_main_v13_eq, a0, a1, a2]
    have H : ∀ y : Cert.Kernel4Ideal.S4096x3848.Idx, Cert.Reference4Ideal.Read.val_main_v13 (F := Ideal) (Cert.Kernel4Ideal.InProj.xA m c) (Cert.Kernel4Ideal.InProj.gA m c) (Cert.Kernel4Ideal.InProj.wA m c) y = Cert.Kernel4Ideal.InProj.out6 m c y := by
      intro y
      idx_vars y
      rw [reference4_p, Cert.Kernel4Ideal.InProj.out6_at]
      rfl
    exact funext H

end Cert.Proof
end
-- ==== Proof.OutProj.lean ====
module

public import proofs.«01_k».proof.Defs
public import proofs.«01_k».proof.Proof.Sums
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pointwise
public import Idealize.ShloMosaic.Lib.Pointwise.IndexBridge
public import Idealize.ShloMosaic.Lib.StableHlo.ReadAt
public import Idealize.ShloMosaic.Lib.StableHlo.RunRead

/-! The output projection: the residual plus the product with the three mixers' outputs. -/

@[expose] public section

set_option maxRecDepth 16384

noncomputable section
namespace Cert.Kernel5Ideal.Out

open Idealize.ShloMosaic Idealize.ShloMosaic.TcCoe Idealize.ShloMosaic.StableHlo Idealize.ShloMosaic.Pipeline Idealize.SL.Sem
open Cert.Kernel5Ideal.Gen

section
variable {F : FTy → Type} [FloatOps F]

/-- The first, second and third mixers' columns. -/
def colsA (y : FVec F S4096x1024 .f32) : FVec F S4096x256 .bf16 :=
  truncf .bf16 (extractStridedSlice S4096x256 ![0, 0] y slices_S4096x1024_S4096x256_0_0) bitsLt_bf16_f32
def colsB (y : FVec F S4096x1024 .f32) : FVec F S4096x256 .bf16 :=
  truncf .bf16 (extractStridedSlice S4096x256 ![0, 256] y slices_S4096x1024_S4096x256_0_256) bitsLt_bf16_f32
def colsC (y : FVec F S4096x1024 .f32) : FVec F S4096x512 .bf16 :=
  truncf .bf16 (extractStridedSlice S4096x512 ![0, 512] y slices_S4096x1024_S4096x512_0_512) bitsLt_bf16_f32
def narrow (w : FVec F S1024x1024 .f32) : FVec F S1024x1024 .bf16 := truncf .bf16 w bitsLt_bf16_f32

variable (m : (ℓ : Loc nD τ sig) → Buf (Elt F) ℓ) (c : Dev nD)
abbrev xA : FVec F S4096x1024 .f32 := m ((c : Thread nD τ).loc main_arg0)
abbrev yA : FVec F S4096x1024 .f32 := m ((c : Thread nD τ).loc main_arg1)
abbrev wA : FVec F S1024x1024 .f32 := m ((c : Thread nD τ).loc main_arg2)
theorem V0 : V m c main_arg0 = xA m c := V_main_arg0 m c
theorem V1 : V m c main_v1 = colsA (yA m c) := by after_reads_simp; rfl
theorem V3 : V m c main_v3 = colsB (yA m c) := by after_reads_simp; rfl
theorem V5 : V m c main_v5 = colsC (yA m c) := by after_reads_simp; rfl
theorem V6 : V m c main_v6 = narrow (wA m c) := by after_reads_simp; rfl
theorem V0_at (i : S4096x1024.Idx) : (V m c main_arg0 : Vec F S4096x1024 .f32) i = xA m c i := congrFun (V0 m c) i
theorem V1_at (i : S4096x256.Idx) : (V m c main_v1 : Vec F S4096x256 .bf16) i = colsA (yA m c) i := congrFun (V1 m c) i
theorem V3_at (i : S4096x256.Idx) : (V m c main_v3 : Vec F S4096x256 .bf16) i = colsB (yA m c) i := congrFun (V3 m c) i
theorem V5_at (i : S4096x512.Idx) : (V m c main_v5 : Vec F S4096x512 .bf16) i = colsC (yA m c) i := congrFun (V5 m c) i
theorem V6_at (i : S1024x1024.Idx) : (V m c main_v6 : Vec F S1024x1024 .bf16) i = narrow (wA m c) i := congrFun (V6 m c) i
end

theorem colsA_at (y : FVec Ideal S4096x1024 .f32) (r : Fin 4096) (a : Fin 256) : colsA y (ix2 r a) = y (ix2 r ⟨a.val, by omega⟩) := by
  pointwise [colsA]
theorem colsB_at (y : FVec Ideal S4096x1024 .f32) (r : Fin 4096) (a : Fin 256) : colsB y (ix2 r a) = y (ix2 r ⟨256 + a.val, by omega⟩) := by
  pointwise [colsB]
theorem colsC_at (y : FVec Ideal S4096x1024 .f32) (r : Fin 4096) (a : Fin 512) : colsC y (ix2 r a) = y (ix2 r ⟨512 + a.val, by omega⟩) := by
  pointwise [colsC]
theorem narrow_at (w : FVec Ideal S1024x1024 .f32) (r a : Fin 1024) : narrow w (ix2 r a) = w (ix2 r a) := by
  pointwise [narrow]

theorem pay_at (v0 : Vec Ideal S512x1024 .f32) (v1 v7 : Vec Ideal S512x256 .bf16) (v3 v9 : Vec Ideal S256x1024 .bf16) (v13 : Vec Ideal S512x512 .bf16)
    (v15 : Vec Ideal S512x1024 .bf16) (r : Fin 512) (x : Fin 1024) :
    k0_pay1 v0 v1 v3 v7 v9 v13 v15 (ix2 r x) = (v0 (ix2 r x) + (∑ a : Fin 256, v1 (ix2 r a) * v3 (ix2 a x)) + (∑ a : Fin 256, v7 (ix2 r a) * v9 (ix2 a x))
      + ∑ a : Fin 512, v13 (ix2 r a) * v15 (ix2 a x) : EReal) := by
  pointwise [k0_pay1]

section
variable {F : FTy → Type} [FloatOps F]
theorem ld2 (w : Vec F S1024x1024 .bf16) (a : Fin 256) (x : Fin 1024) : View.ld w r0_2 (ix2 a x) = w (ix2 ⟨a.val, by omega⟩ x) :=
  congrArg w (funext fun i => Fin.ext (by
    match i with
    | ⟨0, _⟩ => show 0 + 1 * a.val = a.val; omega
    | ⟨1, _⟩ => show 0 + 1 * x.val = x.val; omega))
theorem ld3 (w : Vec F S1024x1024 .bf16) (a : Fin 256) (x : Fin 1024) : View.ld w r0_3 (ix2 a x) = w (ix2 ⟨256 + a.val, by omega⟩ x) :=
  congrArg w (funext fun i => Fin.ext (by
    match i with
    | ⟨0, _⟩ => show 256 + 1 * a.val = 256 + a.val; omega
    | ⟨1, _⟩ => show 0 + 1 * x.val = x.val; omega))
theorem ld5 (w : Vec F S1024x1024 .bf16) (a : Fin 512) (x : Fin 1024) : View.ld w r0_5 (ix2 a x) = w (ix2 ⟨512 + a.val, by omega⟩ x) :=
  congrArg w (funext fun i => Fin.ext (by
    match i with
    | ⟨0, _⟩ => show 512 + 1 * a.val = 512 + a.val; omega
    | ⟨1, _⟩ => show 0 + 1 * x.val = x.val; omega))

theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

variable (m : (ℓ : Loc nD τ sig) → Buf (Elt F) ℓ) (c : Dev nD) (t : Fin cfg0.N)
theorem t_lt : t.val < 8 := lt_of_lt_of_eq t.isLt N_0

theorem blk0_at (r : Fin 512) (x : Fin 1024) : (iblk m c 0 t : Vec F S512x1024 .f32) (ix2 r x)
    = (V m c main_arg0 : Vec F S4096x1024 .f32) (ix2 ⟨512 * t.val + r.val, by have := t_lt t; omega⟩ x) := by
  obtain ⟨⟨h0, h1⟩, -⟩ := idx_facts t
  unfold iblk
  show (V m c main_arg0 : Vec F S4096x1024 .f32) ((win0_0.rect t).emb (ix2 r x)) = _
  refine congrArg _ (funext fun i => Fin.ext ?_)
  match i with
  | ⟨0, _⟩ => show win0_0.index t 0 * 512 + 1 * r.val = 512 * t.val + r.val; rw [h0]; omega
  | ⟨1, _⟩ => show win0_0.index t 1 * 1024 + 1 * x.val = x.val; rw [h1]; omega
theorem blk1_at (r : Fin 512) (x : Fin 256) : (iblk m c 1 t : Vec F S512x256 .bf16) (ix2 r x)
    = (V m c main_v1 : Vec F S4096x256 .bf16) (ix2 ⟨512 * t.val + r.val, by have := t_lt t; omega⟩ x) := by
  obtain ⟨-, ⟨h0, h1⟩, -⟩ := idx_facts t
  unfold iblk
  show (V m c main_v1 : Vec F S4096x256 .bf16) ((win0_1.rect t).emb (ix2 r x)) = _
  refine congrArg _ (funext fun i => Fin.ext ?_)
  match i with
  | ⟨0, _⟩ => show win0_1.index t 0 * 512 + 1 * r.val = 512 * t.val + r.val; rw [h0]; omega
  | ⟨1, _⟩ => show win0_1.index t 1 * 256 + 1 * x.val = x.val; rw [h1]; omega
theorem blk2_at (r : Fin 512) (x : Fin 256) : (iblk m c 2 t : Vec F S512x256 .bf16) (ix2 r x)
    = (V m c main_v3 : Vec F S4096x256 .bf16) (ix2 ⟨512 * t.val + r.val, by have := t_lt t; omega⟩ x) := by
  obtain ⟨-, -, ⟨h0, h1⟩, -⟩ := idx_facts t
  unfold iblk
  show (V m c main_v3 : Vec F S4096x256 .bf16) ((win0_2.rect t).emb (ix2 r x)) = _
  refine congrArg _ (funext fun i => Fin.ext ?_)
  match i with
  | ⟨0, _⟩ => show win0_2.index t 0 * 512 + 1 * r.val = 512 * t.val + r.val; rw [h0]; omega
  | ⟨1, _⟩ => show win0_2.index t 1 * 256 + 1 * x.val = x.val; rw [h1]; omega
theorem blk3_at (r : Fin 512) (x : Fin 512) : (iblk m c 3 t : Vec F S512x512 .bf16) (ix2 r x)
    = (V m c main_v5 : Vec F S4096x512 .bf16) (ix2 ⟨512 * t.val + r.val, by have := t_lt t; omega⟩ x) := by
  obtain ⟨-, -, -, ⟨h0, h1⟩, -⟩ := idx_facts t
  unfold iblk
  show (V m c main_v5 : Vec F S4096x512 .bf16) ((win0_3.rect t).emb (ix2 r x)) = _
  refine congrArg _ (funext fun i => Fin.ext ?_)
  match i with
  | ⟨0, _⟩ => show win0_3.index t 0 * 512 + 1 * r.val = 512 * t.val + r.val; rw [h0]; omega
  | ⟨1, _⟩ => show win0_3.index t 1 * 512 + 1 * x.val = x.val; rw [h1]; omega
theorem blk4_at (r x : Fin 1024) : (iblk m c 4 t : Vec F S1024x1024 .bf16) (ix2 r x) = (V m c main_v6 : Vec F S1024x1024 .bf16) (ix2 r x) := by
  obtain ⟨-, -, -, -, ⟨h0, h1⟩, -⟩ := idx_facts t
  unfold iblk
  show (V m c main_v6 : Vec F S1024x1024 .bf16) ((win0_4.rect t).emb (ix2 r x)) = _
  refine congrArg _ (funext fun i => Fin.ext ?_)
  match i with
  | ⟨0, _⟩ => show win0_4.index t 0 * 1024 + 1 * r.val = r.val; rw [h0]; omega
  | ⟨1, _⟩ => show win0_4.index t 1 * 1024 + 1 * x.val = x.val; rw [h1]; omega
end

section
variable (m : (ℓ : Loc nD τ sig) → Buf (Elt Ideal) ℓ) (c : Dev nD) (t : Fin cfg0.N)

/-- The projection's result: the residual plus a row of the outputs times a column of the weights. -/
def G : FVec Ideal S4096x1024 .f32 := fun i => (xA m c i + ∑ k : Fin 1024, yA m c (ix2 (i 0) k) * wA m c (ix2 k (i 1)) : EReal)

theorem blk0_v (r : Fin 512) (x : Fin 1024) : (iblk m c 0 t : Vec Ideal S512x1024 .f32) (ix2 r x)
    = xA m c (ix2 ⟨512 * t.val + r.val, by have := t_lt t; omega⟩ x) := (blk0_at m c t r x).trans (V0_at m c _)
theorem blk1_v (r : Fin 512) (a : Fin 256) : (iblk m c 1 t : Vec Ideal S512x256 .bf16) (ix2 r a)
    = yA m c (ix2 ⟨512 * t.val + r.val, by have := t_lt t; omega⟩ ⟨a.val, by omega⟩) := (blk1_at m c t r a).trans ((V1_at m c _).trans (colsA_at _ _ a))
theorem blk2_v (r : Fin 512) (a : Fin 256) : (iblk m c 2 t : Vec Ideal S512x256 .bf16) (ix2 r a)
    = yA m c (ix2 ⟨512 * t.val + r.val, by have := t_lt t; omega⟩ ⟨256 + a.val, by omega⟩) := (blk2_at m c t r a).trans ((V3_at m c _).trans (colsB_at _ _ a))
theorem blk3_v (r : Fin 512) (a : Fin 512) : (iblk m c 3 t : Vec Ideal S512x512 .bf16) (ix2 r a)
    = yA m c (ix2 ⟨512 * t.val + r.val, by have := t_lt t; omega⟩ ⟨512 + a.val, by omega⟩) := (blk3_at m c t r a).trans ((V5_at m c _).trans (colsC_at _ _ a))
theorem blk4_v (a x : Fin 1024) : (iblk m c 4 t : Vec Ideal S1024x1024 .bf16) (ix2 a x) = wA m c (ix2 a x) :=
  (blk4_at m c t a x).trans ((V6_at m c _).trans (narrow_at _ a x))

theorem out_at (x0 : Vec Ideal S512x1024 .f32) (x1 x2 : Vec Ideal S512x256 .bf16) (x3 : Vec Ideal S512x512 .bf16) (x4 : Vec Ideal S1024x1024 .bf16) (r : Fin 512) (x : Fin 1024) :
    out0_5 x0 x1 x2 x3 x4 (ix2 r x) = (x0 (ix2 r x) + (∑ a : Fin 256, x1 (ix2 r a) * x4 (ix2 ⟨a.val, by omega⟩ x))
      + (∑ a : Fin 256, x2 (ix2 r a) * x4 (ix2 ⟨256 + a.val, by omega⟩ x)) + ∑ a : Fin 512, x3 (ix2 r a) * x4 (ix2 ⟨512 + a.val, by omega⟩ x) : EReal) := by
  have hz : (![0, 0] : Fin 2 → ℕ) = fun _ => 0 := by funext i; fin_cases i <;> rfl
  unfold out0_5
  rw [View.canon_unit_zero (S := S512x1024) hz, View.ld_unit_zero (S := S512x1024) hz, View.ld_unit_zero (S := S512x256) hz, View.ld_unit_zero (S := S512x256) hz, View.ld_unit_zero (S := S512x512) hz, pay_at]
  exact congrArg₂ (fun a b : EReal => a + b) (congrArg₂ (fun a b : EReal => a + b) (congrArg (fun b : EReal => x0 (ix2 r x) + b)
      (Finset.sum_congr rfl fun a _ => congrArg (fun b : EReal => x1 (ix2 r a) * b) (ld2 x4 a x)))
      (Finset.sum_congr rfl fun a _ => congrArg (fun b : EReal => x2 (ix2 r a) * b) (ld3 x4 a x)))
    (Finset.sum_congr rfl fun a _ => congrArg (fun b : EReal => x3 (ix2 r a) * b) (ld5 x4 a x))

theorem block_at (r : Fin 512) (x : Fin 1024) :
    (out0_5 (iblk m c 0 t) (iblk m c 1 t) (iblk m c 2 t) (iblk m c 3 t) (iblk m c 4 t) : Vec Ideal S512x1024 .f32) (ix2 r x)
      = G m c (ix2 ⟨512 * t.val + r.val, by have := t_lt t; omega⟩ x) := by
  refine (out_at _ _ _ _ _ r x).trans ?_
  simp only [blk0_v, blk1_v, blk2_v, blk3_v, blk4_v]
  refine Eq.trans ?_ (congrArg (fun z : EReal => xA m c (ix2 ⟨512 * t.val + r.val, by have := t_lt t; omega⟩ x) + z)
    (Cert.Sums.three fun k : Fin 1024 => (yA m c (ix2 ⟨512 * t.val + r.val, by have := t_lt t; omega⟩ k) * wA m c (ix2 k x) : EReal)).symm)
  rw [add_assoc, add_assoc, ← add_assoc (∑ a : Fin 256, _)]

theorem arr5 : (dats m 0 c).arrAt 5 cfg0.N = G m c := by
  refine (dats m 0 c).arrAt_eq_of_covers 5 _ (by decide +kernel) fun t hf y => ?_
  obtain ⟨-, -, -, -, -, ⟨h0, h1⟩⟩ := idx_facts t
  blk_simp
  rw [after0_5]
  have H : ∀ y : S512x1024.Idx, (out0_5 (iblk m c 0 t) (iblk m c 1 t) (iblk m c 2 t) (iblk m c 3 t) (iblk m c 4 t) : Vec Ideal S512x1024 .f32) y
      = G m c ((win0_5.rect t).emb y) := by
    intro y
    idx_vars y
    rename' y0 => r, y1 => x
    rw [block_at m c t]
    refine congrArg _ (funext fun i => Fin.ext ?_)
    match i with
    | ⟨0, _⟩ => show 512 * t.val + r.val = win0_5.index t 0 * 512 + 1 * r.val; rw [h0]; omega
    | ⟨1, _⟩ => show x.val = win0_5.index t 1 * 1024 + 1 * x.val; rw [h1]; omega
  exact H y
end

end Cert.Kernel5Ideal.Out

namespace Cert.Proof
open Idealize.ShloMosaic Idealize.ShloMosaic.TcCoe Idealize.SL.Sem
open Cert.Reference5Ideal.Read in
theorem reference5_at (x y : FVec Ideal Cert.Reference5Ideal.S4096x1024 .f32) (w : FVec Ideal Cert.Reference5Ideal.S1024x1024 .f32) (r : Fin 4096) (a : Fin 1024) :
    val_main_v1 (F := Ideal) x y w (ix2 r a) = (x (ix2 r a) + ∑ k : Fin 1024, y (ix2 r k) * w (ix2 k a) : EReal) := by
  pointwise [val_main_v1, val_main_v0]

theorem algebraic5 : Cert.algebraic_Kernel5Ideal_Reference5Ideal := by
  intro m g m' g' _ ha
  refine ⟨fun c => Cert.Kernel5Ideal.Out.G m c, (θ_run Cert.Kernel5Ideal.defs _ _).mono (fun r h c => ⟨(h c).1.trans (Cert.Kernel5Ideal.Out.arr5 m c), (h c).2⟩) (Cert.Kernel5Ideal.Value.run_blocks (F := Ideal) m g), ?_⟩
  refine (θ_run Cert.Reference5Ideal.defs _ _).mono (fun r h c => ?_) (Cert.Reference5Ideal.Value.run (F := Ideal) m' g')
  obtain ⟨h0, hr⟩ := h c
  obtain ⟨a0, a1, a2⟩ := ha c
  refine ⟨h0.trans ?_, hr⟩
  rw [Cert.Reference5Ideal.Read.val_main_v1_eq, a0, a1, a2]
  have H : ∀ y : Cert.Kernel5Ideal.S4096x1024.Idx, Cert.Reference5Ideal.Read.val_main_v1 (F := Ideal) (Cert.Kernel5Ideal.Out.xA m c) (Cert.Kernel5Ideal.Out.yA m c) (Cert.Kernel5Ideal.Out.wA m c) y = Cert.Kernel5Ideal.Out.G m c y := by
    intro y
    idx_vars y
    rw [reference5_at]
    rfl
  exact funext H

end Cert.Proof
end
-- ==== Proof.OutBwd.lean ====
module

public import proofs.«01_k».proof.Defs
public import proofs.«01_k».proof.Proof.Sums
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry
public import Idealize.ShloMosaic.Lib.Pipeline.ValueKit.Acc
public import Idealize.ShloMosaic.Lib.Pointwise
public import Idealize.ShloMosaic.Lib.Pointwise.IndexBridge
public import Idealize.ShloMosaic.Lib.StableHlo.ReadAt
public import Idealize.ShloMosaic.Lib.StableHlo.RunRead

/-! The output projection's gradients: that of the mixers' outputs, and that of the weights, a sum over all rows taken a block of rows at a time. -/

@[expose] public section

set_option maxRecDepth 16384

noncomputable section
namespace Cert.Kernel6Ideal.OutBwd

open Idealize.ShloMosaic Idealize.ShloMosaic.TcCoe Idealize.ShloMosaic.StableHlo Idealize.ShloMosaic.Pipeline Idealize.SL.Sem
open Cert.Kernel6Ideal.Gen

section
variable {F : FTy → Type} [FloatOps F]

/-- The first, second and third mixers' columns. -/
def colsA (y : FVec F S4096x1024 .f32) : FVec F S4096x256 .bf16 :=
  truncf .bf16 (extractStridedSlice S4096x256 ![0, 0] y slices_S4096x1024_S4096x256_0_0) bitsLt_bf16_f32
def colsB (y : FVec F S4096x1024 .f32) : FVec F S4096x256 .bf16 :=
  truncf .bf16 (extractStridedSlice S4096x256 ![0, 256] y slices_S4096x1024_S4096x256_0_256) bitsLt_bf16_f32
def colsC (y : FVec F S4096x1024 .f32) : FVec F S4096x512 .bf16 :=
  truncf .bf16 (extractStridedSlice S4096x512 ![0, 512] y slices_S4096x1024_S4096x512_0_512) bitsLt_bf16_f32
def narrow (w : FVec F S1024x1024 .f32) : FVec F S1024x1024 .bf16 := truncf .bf16 w bitsLt_bf16_f32

variable (m : (ℓ : Loc nD τ sig) → Buf (Elt F) ℓ) (c : Dev nD)
abbrev yA : FVec F S4096x1024 .f32 := m ((c : Thread nD τ).loc main_arg0)
abbrev wA : FVec F S1024x1024 .f32 := m ((c : Thread nD τ).loc main_arg1)
abbrev cA : FVec F S4096x1024 .f32 := m ((c : Thread nD τ).loc main_arg2)
theorem V0 : V m c main_arg2 = cA m c := V_main_arg2 m c
theorem V1 : V m c main_v1 = colsA (yA m c) := by after_reads_simp; rfl
theorem V3 : V m c main_v3 = colsB (yA m c) := by after_reads_simp; rfl
theorem V5 : V m c main_v5 = colsC (yA m c) := by after_reads_simp; rfl
theorem V6 : V m c main_v6 = narrow (wA m c) := by after_reads_simp; rfl
theorem V0_at (i : S4096x1024.Idx) : (V m c main_arg2 : Vec F S4096x1024 .f32) i = cA m c i := congrFun (V0 m c) i
theorem V1_at (i : S4096x256.Idx) : (V m c main_v1 : Vec F S4096x256 .bf16) i = colsA (yA m c) i := congrFun (V1 m c) i
theorem V3_at (i : S4096x256.Idx) : (V m c main_v3 : Vec F S4096x256 .bf16) i = colsB (yA m c) i := congrFun (V3 m c) i
theorem V5_at (i : S4096x512.Idx) : (V m c main_v5 : Vec F S4096x512 .bf16) i = colsC (yA m c) i := congrFun (V5 m c) i
theorem V6_at (i : S1024x1024.Idx) : (V m c main_v6 : Vec F S1024x1024 .bf16) i = narrow (wA m c) i := congrFun (V6 m c) i

theorem idx_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

variable (t : Fin cfg0.N)
theorem t_lt : t.val < 8 := lt_of_lt_of_eq t.isLt N_0

theorem blk0_at (r : Fin 512) (x : Fin 1024) : (iblk m c 0 t : Vec F S512x1024 .f32) (ix2 r x)
    = (V m c main_arg2 : Vec F S4096x1024 .f32) (ix2 ⟨512 * t.val + r.val, by have := t_lt t; omega⟩ x) := by
  obtain ⟨⟨h0, h1⟩, -⟩ := idx_facts t
  unfold iblk
  show (V m c main_arg2 : Vec F S4096x1024 .f32) ((win0_0.rect t).emb (ix2 r x)) = _
  refine congrArg _ (funext fun i => Fin.ext ?_)
  match i with
  | ⟨0, _⟩ => show win0_0.index t 0 * 512 + 1 * r.val = 512 * t.val + r.val; rw [h0]; omega
  | ⟨1, _⟩ => show win0_0.index t 1 * 1024 + 1 * x.val = x.val; rw [h1]; omega
theorem blk1_at (r : Fin 512) (x : Fin 256) : (iblk m c 1 t : Vec F S512x256 .bf16) (ix2 r x)
    = (V m c main_v1 : Vec F S4096x256 .bf16) (ix2 ⟨512 * t.val + r.val, by have := t_lt t; omega⟩ x) := by
  obtain ⟨-, ⟨h0, h1⟩, -⟩ := idx_facts t
  unfold iblk
  show (V m c main_v1 : Vec F S4096x256 .bf16) ((win0_1.rect t).emb (ix2 r x)) = _
  refine congrArg _ (funext fun i => Fin.ext ?_)
  match i with
  | ⟨0, _⟩ => show win0_1.index t 0 * 512 + 1 * r.val = 512 * t.val + r.val; rw [h0]; omega
  | ⟨1, _⟩ => show win0_1.index t 1 * 256 + 1 * x.val = x.val; rw [h1]; omega
theorem blk2_at (r : Fin 512) (x : Fin 256) : (iblk m c 2 t : Vec F S512x256 .bf16) (ix2 r x)
    = (V m c main_v3 : Vec F S4096x256 .bf16) (ix2 ⟨512 * t.val + r.val, by have := t_lt t; omega⟩ x) := by
  obtain ⟨-, -, ⟨h0, h1⟩, -⟩ := idx_facts t
  unfold iblk
  show (V m c main_v3 : Vec F S4096x256 .bf16) ((win0_2.rect t).emb (ix2 r x)) = _
  refine congrArg _ (funext fun i => Fin.ext ?_)
  match i with
  | ⟨0, _⟩ => show win0_2.index t 0 * 512 + 1 * r.val = 512 * t.val + r.val; rw [h0]; omega
  | ⟨1, _⟩ => show win0_2.index t 1 * 256 + 1 * x.val = x.val; rw [h1]; omega
theorem blk3_at (r : Fin 512) (x : Fin 512) : (iblk m c 3 t : Vec F S512x512 .bf16) (ix2 r x)
    = (V m c main_v5 : Vec F S4096x512 .bf16) (ix2 ⟨512 * t.val + r.val, by have := t_lt t; omega⟩ x) := by
  obtain ⟨-, -, -, ⟨h0, h1⟩, -⟩ := idx_facts t
  unfold iblk
  show (V m c main_v5 : Vec F S4096x512 .bf16) ((win0_3.rect t).emb (ix2 r x)) = _
  refine congrArg _ (funext fun i => Fin.ext ?_)
  match i with
  | ⟨0, _⟩ => show win0_3.index t 0 * 512 + 1 * r.val = 512 * t.val + r.val; rw [h0]; omega
  | ⟨1, _⟩ => show win0_3.index t 1 * 512 + 1 * x.val = x.val; rw [h1]; omega
theorem blk4_at (r x : Fin 1024) : (iblk m c 4 t : Vec F S1024x1024 .bf16) (ix2 r x) = (V m c main_v6 : Vec F S1024x1024 .bf16) (ix2 r x) := by
  obtain ⟨-, -, -, -, ⟨h0, h1⟩, -⟩ := idx_facts t
  unfold iblk
  show (V m c main_v6 : Vec F S1024x1024 .bf16) ((win0_4.rect t).emb (ix2 r x)) = _
  refine congrArg _ (funext fun i => Fin.ext ?_)
  match i with
  | ⟨0, _⟩ => show win0_4.index t 0 * 1024 + 1 * r.val = r.val; rw [h0]; omega
  | ⟨1, _⟩ => show win0_4.index t 1 * 1024 + 1 * x.val = x.val; rw [h1]; omega

/-- A store of whole rows, read outside its rows and inside them. -/
theorem skip {o n : ℕ} (inb : ∀ a, (![o, 0] : Fin 2 → ℕ) a + (![n, 1024] : Fin 2 → ℕ) a ≤ S1024x1024.size a)
    (p : (Rect.unit (s := S1024x1024) ![o, 0] ![n, 1024] inb).shape.Idx → Elt F .f32) (L : List (View.Piece (Elt F) S1024x1024 .f32)) (r x : Fin 1024)
    (h : r.val < o ∨ o + n ≤ r.val) : View.canon (⟨Rect.unit (s := S1024x1024) ![o, 0] ![n, 1024] inb, p⟩ :: L) (ix2 r x) = View.canon L (ix2 r x) := by
  refine View.canon_cons_of_not_mem _ L ?_
  rw [Rect.mem_set_unit]
  intro hall
  have h0 : o ≤ r.val ∧ r.val < o + n := hall (0 : Fin 2)
  omega
theorem hit {o n : ℕ} (inb : ∀ a, (![o, 0] : Fin 2 → ℕ) a + (![n, 1024] : Fin 2 → ℕ) a ≤ S1024x1024.size a)
    (p : (⟨2, ![n, 1024]⟩ : Shape).Idx → Elt F .f32) (L : List (View.Piece (Elt F) S1024x1024 .f32)) (r x : Fin 1024) (k : Fin n)
    (h : r.val = o + k.val) : View.canon (⟨Rect.unit (s := S1024x1024) ![o, 0] ![n, 1024] inb, p⟩ :: L) (ix2 r x) = p (ix2 k x) := by
  refine Eq.trans (congrArg _ (funext fun i => Fin.ext ?_)) (View.canon_cons_emb (Rect.unit (s := S1024x1024) ![o, 0] ![n, 1024] inb) p L (ix2 k x))
  match i with
  | ⟨0, _⟩ => show r.val = o + 1 * k.val; omega
  | ⟨1, _⟩ => show x.val = 0 + 1 * x.val; omega
theorem ldr {o n : ℕ} (inb : ∀ a, (![o, 0] : Fin 2 → ℕ) a + (![n, 1024] : Fin 2 → ℕ) a ≤ S1024x1024.size a)
    (w : Vec F S1024x1024 .f32) (k : Fin n) (r x : Fin 1024) (h : r.val = o + k.val) :
    w ((Rect.unit (s := S1024x1024) ![o, 0] ![n, 1024] inb).idx (ix2 k x)) = w (ix2 r x) :=
  congrArg w (funext fun i => Fin.ext (by
    match i with
    | ⟨0, _⟩ => show o + 1 * k.val = r.val; omega
    | ⟨1, _⟩ => show 0 + 1 * x.val = x.val; omega))
end

theorem colsA_at (y : FVec Ideal S4096x1024 .f32) (r : Fin 4096) (a : Fin 256) : colsA y (ix2 r a) = y (ix2 r ⟨a.val, by omega⟩) := by
  pointwise [colsA]
theorem colsB_at (y : FVec Ideal S4096x1024 .f32) (r : Fin 4096) (a : Fin 256) : colsB y (ix2 r a) = y (ix2 r ⟨256 + a.val, by omega⟩) := by
  pointwise [colsB]
theorem colsC_at (y : FVec Ideal S4096x1024 .f32) (r : Fin 4096) (a : Fin 512) : colsC y (ix2 r a) = y (ix2 r ⟨512 + a.val, by omega⟩) := by
  pointwise [colsC]
theorem narrow_at (w : FVec Ideal S1024x1024 .f32) (r a : Fin 1024) : narrow w (ix2 r a) = w (ix2 r a) := by
  pointwise [narrow]

theorem pay1_at (v3 : Vec Ideal S512x1024 .f32) (v23 : Vec Ideal S512x1024 .f32) (v25 : Vec Ideal S512x512 .bf16) (k : Fin 512) (x : Fin 1024) :
    k0_pay1 (k0_pay3 v3) (k0_pay7 v23) (k0_pay8 v25) (constant S512x1024 .f32 0x00000000#32) (ix2 k x)
      = (v23 (ix2 k x) + ∑ s : Fin 512, v25 (ix2 s k) * v3 (ix2 s x) : EReal) := by
  pointwise [k0_pay1, k0_pay3, k0_pay7, k0_pay8]
theorem pay2_at (r x : Fin 1024) : k0_pay2 (F := Ideal) (ix2 r x) = (0 : EReal) := by
  pointwise [k0_pay2]
theorem pay4_at (v3 : Vec Ideal S512x1024 .f32) (v5 : Vec Ideal S1024x1024 .bf16) (r : Fin 512) (x : Fin 1024) :
    k0_pay4 v3 v5 (ix2 r x) = (∑ k : Fin 1024, v3 (ix2 r k) * v5 (ix2 x k) : EReal) := by
  pointwise [k0_pay4, k0_pay3]
theorem pay5_at (v3 : Vec Ideal S512x1024 .f32) (v9 : Vec Ideal S256x1024 .f32) (v11 : Vec Ideal S512x256 .bf16) (k : Fin 256) (x : Fin 1024) :
    k0_pay5 v3 v9 v11 (ix2 k x) = (v9 (ix2 k x) + ∑ s : Fin 512, v11 (ix2 s k) * v3 (ix2 s x) : EReal) := by
  pointwise [k0_pay5, k0_pay3]
theorem pay6_at (v3 : Vec Ideal S512x1024 .f32) (v9 : Vec Ideal S256x1024 .f32) (v11 : Vec Ideal S512x256 .bf16) (k : Fin 256) (x : Fin 1024) :
    k0_pay6 v3 v9 v11 (ix2 k x) = (v9 (ix2 k x) + ∑ s : Fin 512, v11 (ix2 s k) * v3 (ix2 s x) : EReal) := by
  pointwise [k0_pay6, k0_pay3]

section
variable (m : (ℓ : Loc nD τ sig) → Buf (Elt Ideal) ℓ) (c : Dev nD) (t : Fin cfg0.N)

theorem blk0_v (r : Fin 512) (x : Fin 1024) : (iblk m c 0 t : Vec Ideal S512x1024 .f32) (ix2 r x)
    = cA m c (ix2 ⟨512 * t.val + r.val, by have := t_lt t; omega⟩ x) := (blk0_at m c t r x).trans (V0_at m c _)
theorem blk1_v (r : Fin 512) (a : Fin 256) : (iblk m c 1 t : Vec Ideal S512x256 .bf16) (ix2 r a)
    = yA m c (ix2 ⟨512 * t.val + r.val, by have := t_lt t; omega⟩ ⟨a.val, by omega⟩) := (blk1_at m c t r a).trans ((V1_at m c _).trans (colsA_at _ _ a))
theorem blk2_v (r : Fin 512) (a : Fin 256) : (iblk m c 2 t : Vec Ideal S512x256 .bf16) (ix2 r a)
    = yA m c (ix2 ⟨512 * t.val + r.val, by have := t_lt t; omega⟩ ⟨256 + a.val, by omega⟩) := (blk2_at m c t r a).trans ((V3_at m c _).trans (colsB_at _ _ a))
theorem blk3_v (r : Fin 512) (a : Fin 512) : (iblk m c 3 t : Vec Ideal S512x512 .bf16) (ix2 r a)
    = yA m c (ix2 ⟨512 * t.val + r.val, by have := t_lt t; omega⟩ ⟨512 + a.val, by omega⟩) := (blk3_at m c t r a).trans ((V5_at m c _).trans (colsC_at _ _ a))
theorem blk4_v (a x : Fin 1024) : (iblk m c 4 t : Vec Ideal S1024x1024 .bf16) (ix2 a x) = wA m c (ix2 a x) :=
  (blk4_at m c t a x).trans ((V6_at m c _).trans (narrow_at _ a x))

/-- The two gradients. -/
def G5 : FVec Ideal S4096x1024 .f32 := fun i => (∑ k : Fin 1024, cA m c (ix2 (i 0) k) * wA m c (ix2 (i 1) k) : EReal)
def G6 : FVec Ideal S1024x1024 .f32 := fun i => (∑ k : Fin 4096, yA m c (ix2 k (i 0)) * cA m c (ix2 k (i 1)) : EReal)

/-- What a point adds to the gradient of the weights. -/
def term (t : Fin cfg0.N) (i : S1024x1024.Idx) : EReal :=
  ∑ s : Fin 512, yA m c (ix2 ⟨512 * t.val + s.val, by have := t_lt t; omega⟩ (i 0)) * cA m c (ix2 ⟨512 * t.val + s.val, by have := t_lt t; omega⟩ (i 1))

/-- The rows of a block, summed: what one product of a point comes to. -/
theorem add_at {n o : ℕ} (ho : o + n ≤ 1024) (b : FVec Ideal ⟨2, ![512, n]⟩ .bf16) (d : FVec Ideal S512x1024 .f32)
    (hb : ∀ (s : Fin 512) (k : Fin n), b (ix2 s k) = yA m c (ix2 ⟨512 * t.val + s.val, by have := t_lt t; omega⟩ ⟨o + k.val, by omega⟩))
    (hd : ∀ (s : Fin 512) (x : Fin 1024), d (ix2 s x) = cA m c (ix2 ⟨512 * t.val + s.val, by have := t_lt t; omega⟩ x))
    (z : EReal) (k : Fin n) (r x : Fin 1024) (h : r.val = o + k.val) :
    (z + ∑ s : Fin 512, b (ix2 s k) * d (ix2 s x) : EReal) = z + term m c t (ix2 r x) := by
  obtain rfl : r = ⟨o + k.val, Nat.lt_of_lt_of_le (Nat.add_lt_add_left k.isLt o) ho⟩ := Fin.ext h
  exact congrArg (fun b : EReal => z + b) (Finset.sum_congr rfl fun s _ => congrArg₂ (fun a b : EReal => a * b) (hb s k) (hd s x))

/-- The three stores of a point, each adding to the rows it reads. -/
theorem three_at (b0 : Vec Ideal S512x1024 .f32) (b1 b2 : Vec Ideal S512x256 .bf16) (b3 : Vec Ideal S512x512 .bf16)
    (e0 : ∀ (s : Fin 512) (x : Fin 1024), b0 (ix2 s x) = cA m c (ix2 ⟨512 * t.val + s.val, by have := t_lt t; omega⟩ x))
    (e1 : ∀ (s : Fin 512) (k : Fin 256), b1 (ix2 s k) = yA m c (ix2 ⟨512 * t.val + s.val, by have := t_lt t; omega⟩ ⟨0 + k.val, by omega⟩))
    (e2 : ∀ (s : Fin 512) (k : Fin 256), b2 (ix2 s k) = yA m c (ix2 ⟨512 * t.val + s.val, by have := t_lt t; omega⟩ ⟨256 + k.val, by omega⟩))
    (e3 : ∀ (s : Fin 512) (k : Fin 512), b3 (ix2 s k) = yA m c (ix2 ⟨512 * t.val + s.val, by have := t_lt t; omega⟩ ⟨512 + k.val, by omega⟩))
    (z0 z1 : Vec Ideal S256x1024 .f32) (z2 : Vec Ideal S512x1024 .f32) (L : List (View.Piece (Elt Ideal) S1024x1024 .f32)) (z : EReal) (r x : Fin 1024)
    (h0 : ∀ k : Fin 256, r.val = 0 + k.val → z0 (ix2 k x) = z) (h1 : ∀ k : Fin 256, r.val = 256 + k.val → z1 (ix2 k x) = z)
    (h2 : ∀ k : Fin 512, r.val = 512 + k.val → z2 (ix2 k x) = z) :
    View.canon (⟨Rect.unit ![512, 0] ![512, 1024] inb_S1024x1024_S512x1024_512_0, k0_pay1 (k0_pay3 b0) (k0_pay7 z2) (k0_pay8 b3) (constant S512x1024 .f32 0x00000000#32)⟩
      :: ⟨Rect.unit ![256, 0] ![256, 1024] inb_S1024x1024_S256x1024_256_0, k0_pay6 b0 z1 b2⟩
      :: ⟨Rect.unit ![0, 0] ![256, 1024] inb_S1024x1024_S256x1024_0_0, k0_pay5 b0 z0 b1⟩ :: L) (ix2 r x) = (z + term m c t (ix2 r x) : EReal) := by
  by_cases a : r.val < 256
  · have hk : r.val = 0 + (⟨r.val, a⟩ : Fin 256).val := (Nat.zero_add _).symm
    refine (skip _ _ _ r x (by omega)).trans ((skip _ _ _ r x (by omega)).trans ((hit _ _ _ r x ⟨r.val, a⟩ hk).trans ((pay5_at _ _ _ _ _).trans ?_)))
    rw [h0 _ hk]
    exact add_at m c t (by omega) b1 b0 e1 e0 z _ r x hk
  · by_cases b : r.val < 512
    · have hk : r.val = 256 + (⟨r.val - 256, by omega⟩ : Fin 256).val := by show r.val = 256 + (r.val - 256); omega
      refine (skip _ _ _ r x (by omega)).trans ((hit _ _ _ r x ⟨r.val - 256, by omega⟩ hk).trans ((pay6_at _ _ _ _ _).trans ?_))
      rw [h1 _ hk]
      exact add_at m c t (by omega) b2 b0 e2 e0 z _ r x hk
    · have hk : r.val = 512 + (⟨r.val - 512, by omega⟩ : Fin 512).val := by show r.val = 512 + (r.val - 512); omega
      refine (hit _ _ _ r x ⟨r.val - 512, by omega⟩ hk).trans ((pay1_at _ _ _ _ _).trans ?_)
      rw [h2 _ hk]
      exact add_at m c t (by omega) b3 b0 e3 e0 z _ r x hk

theorem fill_at (r x : Fin 1024) : (View.canon [(⟨Rect.unit (s := S1024x1024) ![0, 0] ![1024, 1024] inb_S1024x1024_S1024x1024_0_0, k0_pay2 (F := Ideal)⟩ : View.Piece (Elt Ideal) S1024x1024 .f32)] (ix2 r x)) = (0 : EReal) :=
  (hit (F := Ideal) _ _ _ r x r (Nat.zero_add _).symm).trans (pay2_at r x)

theorem e1 (s : Fin 512) (k : Fin 256) : (iblk m c 1 t : Vec Ideal S512x256 .bf16) (ix2 s k)
    = yA m c (ix2 ⟨512 * t.val + s.val, by have := t_lt t; omega⟩ ⟨0 + k.val, by omega⟩) :=
  (blk1_v m c t s k).trans (congrArg (fun q => yA m c (ix2 _ q)) (Fin.ext (Nat.zero_add _).symm))

theorem out6A (h : t.val % 8 = 0) (i : S1024x1024.Idx) :
    (outsAt0 m c t.val t.isLt).2 i = ((fun _ => 0 : S1024x1024.Idx → EReal) i + term m c t i : EReal) := by
  rw [outsAt0_A m c t h]; frame_out
  simp only [View.readCov_eq_canon']
  idx_vars i
  rename' i0 => r, i1 => x
  refine three_at m c t _ _ _ _ (blk0_v m c t) (e1 m c t) (blk2_v m c t) (blk3_v m c t) _ _ _ _ 0 r x ?_ ?_ ?_
  · intro k hk
    exact (ldr _ _ k r x hk).trans (fill_at r x)
  · intro k hk
    exact (ldr _ _ k r x hk).trans ((skip _ _ _ r x (by omega)).trans (fill_at r x))
  · intro k hk
    exact (ldr _ _ k r x hk).trans ((skip _ _ _ r x (by omega)).trans ((skip _ _ _ r x (by omega)).trans (fill_at r x)))
theorem out6B (h : ¬ t.val % 8 = 0) (i : S1024x1024.Idx) :
    (outsAt0 m c t.val t.isLt).2 i = ((outsAt0 m c (t.val - 1) (by have := t.isLt; omega)).2 i + term m c t i : EReal) := by
  rw [outsAt0_B m c t h]; frame_out
  idx_vars i
  rename' i0 => r, i1 => x
  exact three_at m c t _ _ _ _ (blk0_v m c t) (e1 m c t) (blk2_v m c t) (blk3_v m c t) _ _ _ _ _ r x (fun k hk => ldr _ _ k r x hk) (fun k hk => ldr _ _ k r x hk) (fun k hk => ldr _ _ k r x hk)
theorem out5_at (i : S512x1024.Idx) : (outsAt0 m c t.val t.isLt).1 i = k0_pay4 (iblk m c 0 t) (iblk m c 4 t) i := by
  by_cases h : t.val % 8 = 0
  · rw [outsAt0_A m c t h]; frame_out
  · rw [outsAt0_B m c t h]; frame_out

theorem block5_at (r : Fin 512) (x : Fin 1024) :
    (outsAt0 m c t.val t.isLt).1 (ix2 r x) = G5 m c (ix2 ⟨512 * t.val + r.val, by have := t_lt t; omega⟩ x) := by
  rw [out5_at, pay4_at]
  exact Finset.sum_congr rfl fun k _ => congrArg₂ (fun a b : EReal => a * b) (blk0_v m c t r k) (blk4_v m c t x k)

theorem block6_at (h : t.val % 8 = 7) (r x : Fin 1024) : (outsAt0 m c t.val t.isLt).2 (ix2 r x) = G6 m c (ix2 r x) := by
  have ht := t_lt t
  rw [eq_sum_fin_of_reset_step_apply_of_flush (M := EReal) (fun n h => (outsAt0 m c n h).2) 8 (fun _ => 0) (term m c)
    (fun t h j => out6A m c t h j) (fun t h j => out6B m c t h j) t h (ix2 r x), zero_add]
  refine Eq.trans (Finset.sum_congr rfl fun s _ => ?_) (Cert.Sums.blocks 8 512 fun k : Fin 4096 => (yA m c (ix2 k r) * cA m c (ix2 k x) : EReal)).symm
  refine Finset.sum_congr rfl fun k _ => ?_
  have e : (⟨512 * (8 * (t.val / 8) + s.val) + k.val, by omega⟩ : Fin 4096) = ⟨s.val * 512 + k.val, by omega⟩ := Fin.ext (by show 512 * (8 * (t.val / 8) + s.val) + k.val = s.val * 512 + k.val; omega)
  exact congrArg (fun q : Fin 4096 => (yA m c (ix2 q r) * cA m c (ix2 q x) : EReal)) e

theorem arr5 : (dats m 0 c).arrAt 5 cfg0.N = G5 m c := by
  refine (dats m 0 c).arrAt_eq_of_covers 5 _ (by decide +kernel) fun t hf y => ?_
  obtain ⟨-, -, -, -, -, ⟨h0, h1⟩, -⟩ := idx_facts t
  blk_simp
  rw [after0_5]
  have H : ∀ y : S512x1024.Idx, (outsAt0 m c t.val t.isLt).1 y = G5 m c ((win0_5.rect t).emb y) := by
    intro y
    idx_vars y
    rename' y0 => r, y1 => x
    rw [block5_at m c t]
    refine congrArg _ (funext fun i => Fin.ext ?_)
    match i with
    | ⟨0, _⟩ => show 512 * t.val + r.val = win0_5.index t 0 * 512 + 1 * r.val; rw [h0]; omega
    | ⟨1, _⟩ => show x.val = win0_5.index t 1 * 1024 + 1 * x.val; rw [h1]; omega
  exact H y
theorem arr6 : (dats m 0 c).arrAt 6 cfg0.N = G6 m c := by
  refine (dats m 0 c).arrAt_eq_of_covers 6 _ (by decide +kernel) fun t hf y => ?_
  obtain ⟨-, -, -, -, -, -, ⟨h0, h1⟩⟩ := idx_facts t
  blk_simp
  rw [after0_6]
  have H : ∀ y : S1024x1024.Idx, (outsAt0 m c t.val t.isLt).2 y = G6 m c ((win0_6.rect t).emb y) := by
    intro y
    idx_vars y
    rename' y0 => r, y1 => x
    rw [block6_at m c t ((flush0_6 t).mp hf)]
    refine congrArg _ (funext fun i => Fin.ext ?_)
    match i with
    | ⟨0, _⟩ => show r.val = win0_6.index t 0 * 1024 + 1 * r.val; rw [h0]; omega
    | ⟨1, _⟩ => show x.val = win0_6.index t 1 * 1024 + 1 * x.val; rw [h1]; omega
  exact H y
end

end Cert.Kernel6Ideal.OutBwd

namespace Cert.Proof
open Idealize.ShloMosaic Idealize.ShloMosaic.TcCoe Idealize.SL.Sem
open Cert.Reference6Ideal.Read in
theorem reference6_dy (w : FVec Ideal Cert.Reference6Ideal.S1024x1024 .f32) (ct : FVec Ideal Cert.Reference6Ideal.S4096x1024 .f32) (r : Fin 4096) (a : Fin 1024) :
    val_main_v3 (F := Ideal) w ct (ix2 r a) = (∑ k : Fin 1024, ct (ix2 r k) * w (ix2 a k) : EReal) := by
  pointwise [val_main_v3]
open Cert.Reference6Ideal.Read in
theorem reference6_dw (y ct : FVec Ideal Cert.Reference6Ideal.S4096x1024 .f32) (r a : Fin 1024) :
    val_main_v2 (F := Ideal) y ct (ix2 r a) = (∑ k : Fin 4096, ct (ix2 k a) * y (ix2 k r) : EReal) := by
  pointwise [val_main_v2, val_main_v1]

theorem algebraic6 : Cert.algebraic_Kernel6Ideal_Reference6Ideal := by
  intro m g m' g' _ ha
  refine ⟨fun c => Cert.Kernel6Ideal.OutBwd.G5 m c, fun c => Cert.Kernel6Ideal.OutBwd.G6 m c, (θ_run Cert.Kernel6Ideal.defs _ _).mono (fun r h c => ⟨(h c).1.trans (Cert.Kernel6Ideal.OutBwd.arr5 m c), (h c).2.1.trans (Cert.Kernel6Ideal.OutBwd.arr6 m c), (h c).2.2⟩) (Cert.Kernel6Ideal.Value.run_blocks (F := Ideal) m g), ?_⟩
  refine (θ_run Cert.Reference6Ideal.defs _ _).mono (fun r h c => ?_) (Cert.Reference6Ideal.Value.run (F := Ideal) m' g')
  obtain ⟨h0, h1, hr⟩ := h c
  obtain ⟨a0, a1, a2⟩ := ha c
  refine ⟨h0.trans ?_, h1.trans ?_, hr⟩
  · rw [Cert.Reference6Ideal.Read.val_main_v3_eq, a1, a2]
    have H : ∀ y : Cert.Kernel6Ideal.S4096x1024.Idx, Cert.Reference6Ideal.Read.val_main_v3 (F := Ideal) (Cert.Kernel6Ideal.OutBwd.wA m c) (Cert.Kernel6Ideal.OutBwd.cA m c) y = Cert.Kernel6Ideal.OutBwd.G5 m c y := by
      intro y
      idx_vars y
      rw [reference6_dy]
      rfl
    exact funext H
  · rw [Cert.Reference6Ideal.Read.val_main_v2_eq, a0, a2]
    have H : ∀ y : Cert.Kernel6Ideal.S1024x1024.Idx, Cert.Reference6Ideal.Read.val_main_v2 (F := Ideal) (Cert.Kernel6Ideal.OutBwd.yA m c) (Cert.Kernel6Ideal.OutBwd.cA m c) y = Cert.Kernel6Ideal.OutBwd.G6 m c y := by
      intro y
      idx_vars y
      rw [reference6_dw]
      exact Finset.sum_congr rfl fun k _ => mul_comm (G := EReal) _ _
    exact funext H

end Cert.Proof
end
-- ==== Proof.LossHead.lean ====
module

public import proofs.«01_k».proof.Defs
public import proofs.«01_k».proof.Proof.Sums
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry
public import Idealize.ShloMosaic.Lib.Pipeline.ValueKit.Acc
public import Idealize.ShloMosaic.Lib.Pointwise
public import proofs.«01_k».proof.Proof.Norm
public import Idealize.ShloMosaic.Lib.Pointwise.IndexBridge
public import Idealize.ShloMosaic.Lib.StableHlo.ReadAt
public import Idealize.ShloMosaic.Lib.StableHlo.RunRead

/-! The mean squared error, and the gradients of it in the rows and in the scale of the last norm. -/

@[expose] public section

set_option maxRecDepth 16384

noncomputable section
namespace Cert.Kernel7Ideal.LossHead

open Idealize.ShloMosaic Idealize.ShloMosaic.TcCoe Idealize.ShloMosaic.StableHlo Idealize.ShloMosaic.Pipeline Idealize.SL.Sem
open Cert.Kernel7Ideal.Gen
open Cert.Norm (mean root grad back through)

section
variable {F : FTy → Type} [FloatOps F]
variable (m : (ℓ : Loc nD τ sig) → Buf (Elt F) ℓ) (c : Dev nD)
abbrev xA : FVec F S4096x1024 .f32 := m ((c : Thread nD τ).loc main_arg0)
abbrev gA : FVec F S1x1024 .f32 := m ((c : Thread nD τ).loc main_arg1)
abbrev tA : FVec F S4096x1024 .f32 := m ((c : Thread nD τ).loc main_arg2)
theorem V0_at (i : S4096x1024.Idx) : (V m c main_arg0 : Vec F S4096x1024 .f32) i = xA m c i := congrFun (V_main_arg0 m c) i
theorem V1_at (i : S1x1024.Idx) : (V m c main_arg1 : Vec F S1x1024 .f32) i = gA m c i := congrFun (V_main_arg1 m c) i
theorem V2_at (i : S4096x1024.Idx) : (V m c main_arg2 : Vec F S4096x1024 .f32) i = tA m c i := congrFun (V_main_arg2 m c) i

theorem idx_facts : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) :=
  (by decide +kernel : ∀ t : Fin grid0.N, _)
variable (t : Fin cfg0.N)
theorem t_lt : t.val < 8 := lt_of_lt_of_eq t.isLt N_0

theorem blk0_v (r : Fin 512) (x : Fin 1024) : (iblk m c 0 t : Vec F S512x1024 .f32) (ix2 r x)
    = xA m c (ix2 ⟨512 * t.val + r.val, by have := t_lt t; omega⟩ x) := by
  obtain ⟨⟨h0, h1⟩, -⟩ := idx_facts t
  refine Eq.trans ?_ (V0_at m c _)
  unfold iblk
  show (V m c main_arg0 : Vec F S4096x1024 .f32) ((win0_0.rect t).emb (ix2 r x)) = _
  refine congrArg _ (funext fun i => Fin.ext ?_)
  match i with
  | ⟨0, _⟩ => show win0_0.index t 0 * 512 + 1 * r.val = 512 * t.val + r.val; rw [h0]; omega
  | ⟨1, _⟩ => show win0_0.index t 1 * 1024 + 1 * x.val = x.val; rw [h1]; omega
theorem blk1_v (r : Fin 1) (x : Fin 1024) : (iblk m c 1 t : Vec F S1x1024 .f32) (ix2 r x) = gA m c (ix2 r x) := by
  obtain ⟨-, ⟨h0, h1⟩, -⟩ := idx_facts t
  refine Eq.trans ?_ (V1_at m c _)
  unfold iblk
  show (V m c main_arg1 : Vec F S1x1024 .f32) ((win0_1.rect t).emb (ix2 r x)) = _
  refine congrArg _ (funext fun i => Fin.ext ?_)
  match i with
  | ⟨0, _⟩ => show win0_1.index t 0 * 1 + 1 * r.val = r.val; rw [h0]; omega
  | ⟨1, _⟩ => show win0_1.index t 1 * 1024 + 1 * x.val = x.val; rw [h1]; omega
theorem blk2_v (r : Fin 512) (x : Fin 1024) : (iblk m c 2 t : Vec F S512x1024 .f32) (ix2 r x)
    = tA m c (ix2 ⟨512 * t.val + r.val, by have := t_lt t; omega⟩ x) := by
  obtain ⟨-, -, ⟨h0, h1⟩, -⟩ := idx_facts t
  refine Eq.trans ?_ (V2_at m c _)
  unfold iblk
  show (V m c main_arg2 : Vec F S4096x1024 .f32) ((win0_2.rect t).emb (ix2 r x)) = _
  refine congrArg _ (funext fun i => Fin.ext ?_)
  match i with
  | ⟨0, _⟩ => show win0_2.index t 0 * 512 + 1 * r.val = 512 * t.val + r.val; rw [h0]; omega
  | ⟨1, _⟩ => show win0_2.index t 1 * 1024 + 1 * x.val = x.val; rw [h1]; omega
end

theorem pay3_at (r : Fin 1) (x : Fin 128) : k0_pay3 (F := Ideal) (ix2 r x) = (0 : EReal) := by
  pointwise [k0_pay3]
theorem pay4_at (r : Fin 1) (x : Fin 1024) : k0_pay4 (F := Ideal) (ix2 r x) = (0 : EReal) := by
  pointwise [k0_pay4]
theorem pay5_at (v3 : Vec Ideal S512x1024 .f32) (r : Fin 512) (x : Fin 1) : k0_pay5 v3 (ix2 r x) = root fun k => v3 (ix2 r k) := by
  pointwise [k0_pay5, root, mean]
theorem pay6_at (v3 : Vec Ideal S512x1024 .f32) (r : Fin 512) (x : Fin 1024) : k0_pay6 v3 (ix2 r x) = (v3 (ix2 r x) * root fun k => v3 (ix2 r k) : EReal) := by
  pointwise [k0_pay6, k0_pay5, root, mean]
theorem pay7_at (v3 : Vec Ideal S512x1024 .f32) (v14 : Vec Ideal S1x1024 .f32) (v17 : Vec Ideal S512x1024 .f32) (r : Fin 512) (x : Fin 1024) :
    k0_pay7 v3 v14 v17 (ix2 r x) = ((k0_pay6 v3 (ix2 r x) : EReal) * v14 (ix2 0 x) - v17 (ix2 r x) : EReal) := by
  pointwise [k0_pay7]
theorem pay9_at (v3 : Vec Ideal S512x1024 .f32) (v14 : Vec Ideal S1x1024 .f32) (v17 : Vec Ideal S512x1024 .f32) (r : Fin 512) (x : Fin 1024) :
    k0_pay9 v3 v14 v17 (ix2 r x) = ((k0_pay7 v3 v14 v17 (ix2 r x) : EReal) * Ideal.ofBits .f32 0x3A800000#32 : EReal) := by
  pointwise [k0_pay9]
theorem pay8_at (v3 : Vec Ideal S512x1024 .f32) (v14 : Vec Ideal S1x1024 .f32) (v17 : Vec Ideal S512x1024 .f32) (v24 : Vec Ideal S1x128 .f32) (r : Fin 1) (x : Fin 128) :
    k0_pay8 v3 v14 v17 v24 (ix2 r x) = (v24 (ix2 r x) + Ideal.ofBits .f32 0x3F000000#32 * ∑ s : Fin 512,
      Ideal.div (∑ k : Fin 1024, (k0_pay7 v3 v14 v17 (ix2 s k) : EReal) * k0_pay7 v3 v14 v17 (ix2 s k)) (Ideal.ofBits .f32 0x44800000#32) : EReal) := by
  pointwise [k0_pay8]
theorem pay1_at (v13 v34 : FVec Ideal S512x1024 .f32) (v35 : Vec Ideal S1x1024 .f32) (r : Fin 1) (x : Fin 1024) :
    k0_pay1 v13 v34 v35 (ix2 r x) = (v35 (ix2 r x) + ∑ k : Fin 512, v34 (ix2 k x) * v13 (ix2 k x) : EReal) := by
  pointwise [k0_pay1]
theorem pay2_at (v11 : FVec Ideal S512x1 .f32) (v13 : FVec Ideal S512x1024 .f32) (v14 : Vec Ideal S1x1024 .f32) (v34 : FVec Ideal S512x1024 .f32) (r : Fin 512) (x : Fin 1024) :
    k0_pay2 v11 v13 v14 v34 (ix2 r x) = (v11 (ix2 r 0) * (v34 (ix2 r x) * v14 (ix2 0 x)
      - v13 (ix2 r x) * Ideal.div (∑ k : Fin 1024, v34 (ix2 r k) * v14 (ix2 0 k) * v13 (ix2 r k)) (Ideal.ofBits .f32 0x44800000#32)) : EReal) := by
  pointwise [k0_pay2]

section
variable (x : FVec Ideal S4096x1024 .f32) (g : FVec Ideal S1x1024 .f32) (z : FVec Ideal S4096x1024 .f32)
/-- A normalised entry, its error, the error's gradient, and a row's share of the loss. -/
def unit (r : Fin 4096) (a : Fin 1024) : EReal := x (ix2 r a) * root fun k : Fin 1024 => x (ix2 r k)
def err (r : Fin 4096) (a : Fin 1024) : EReal := unit x r a * g (ix2 0 a) - z (ix2 r a)
def slope (r : Fin 4096) (a : Fin 1024) : EReal := err x g z r a * Ideal.ofBits .f32 0x3A800000#32
def share (r : Fin 4096) : EReal := Ideal.div (∑ k : Fin 1024, err x g z r k * err x g z r k) (Ideal.ofBits .f32 0x44800000#32)
/-- The three results. -/
def G3 : FVec Ideal S4096x1024 .f32 := fun i =>
  grad (fun k : Fin 1024 => x (ix2 (i 0) k)) (fun k : Fin 1024 => slope x g z (i 0) k * g (ix2 0 k)) 0 (i 1)
def G4 : FVec Ideal S1x128 .f32 := fun _ => (Ideal.ofBits .f32 0x3F000000#32 * ∑ r : Fin 4096, share x g z r : EReal)
def G5 : FVec Ideal S1x1024 .f32 := fun i => (∑ r : Fin 4096, slope x g z r (i 1) * unit x r (i 1) : EReal)
end

theorem kHalf : Ideal.ofBits .f32 0x3F000000#32 = ((1 / 2 : ℝ) : EReal) := by
  simp [Ideal.ofBits, Ideal.ieee, -EReal.coe_mul]; norm_num
theorem kOne : Ideal.ofBits .f32 0x3F800000#32 = ((1 : ℝ) : EReal) := by
  simp [Ideal.ofBits, Ideal.ieee, -EReal.coe_mul]; norm_num
theorem kTwo : Ideal.ofBits .f32 0x40000000#32 = ((2 : ℝ) : EReal) := by
  simp [Ideal.ofBits, Ideal.ieee, -EReal.coe_mul]; norm_num
theorem kInv : Ideal.ofBits .f32 0x3A800000#32 = ((1 / 1024 : ℝ) : EReal) := by
  simp [Ideal.ofBits, Ideal.ieee, -EReal.coe_mul]; norm_num
/-- The derivative of half a mean square. -/
theorem slope_eq (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [kHalf, kOne, kTwo, kInv, Cert.Norm.k1024, Ideal.div_coe (by norm_num), ← mul_assoc, ← EReal.coe_mul, ← EReal.coe_mul, ← EReal.coe_mul, mul_comm e]
  exact congrArg (fun q : ℝ => (q : EReal) * e) (by norm_num)

section
variable (m : (ℓ : Loc nD τ sig) → Buf (Elt Ideal) ℓ) (c : Dev nD) (t : Fin cfg0.N)
theorem root_at (r : Fin 512) (x : Fin 1) : k0_pay5 (iblk m c 0 t) (ix2 r x) = root fun a : Fin 1024 => xA m c (ix2 ⟨512 * t.val + r.val, by have := t_lt t; omega⟩ a) := by
  rw [pay5_at]
  exact congrArg (root (n := 1024)) (funext fun a => blk0_v m c t r a)
theorem unit_at (r : Fin 512) (x : Fin 1024) : k0_pay6 (iblk m c 0 t) (ix2 r x) = unit (xA m c) ⟨512 * t.val + r.val, by have := t_lt t; omega⟩ x := by
  rw [pay6_at]
  exact congrArg₂ (fun a b : EReal => a * b) (blk0_v m c t r x) (congrArg (root (n := 1024)) (funext fun a => blk0_v m c t r a))
theorem err_at (r : Fin 512) (x : Fin 1024) : k0_pay7 (iblk m c 0 t) (iblk m c 1 t) (iblk m c 2 t) (ix2 r x) = err (xA m c) (gA m c) (tA m c) ⟨512 * t.val + r.val, by have := t_lt t; omega⟩ x := by
  rw [pay7_at]
  exact congrArg₂ (fun a b : EReal => a - b) (congrArg₂ (fun a b : EReal => a * b) (unit_at m c t r x) (blk1_v m c t 0 x)) (blk2_v m c t r x)
theorem slope_at (r : Fin 512) (x : Fin 1024) : k0_pay9 (iblk m c 0 t) (iblk m c 1 t) (iblk m c 2 t) (ix2 r x) = slope (xA m c) (gA m c) (tA m c) ⟨512 * t.val + r.val, by have := t_lt t; omega⟩ x := by
  rw [pay9_at]
  exact congrArg (fun a : EReal => a * Ideal.ofBits .f32 0x3A800000#32) (err_at m c t r x)
theorem share_at (r : Fin 512) : Ideal.div (∑ k : Fin 1024, (k0_pay7 (iblk m c 0 t) (iblk m c 1 t) (iblk m c 2 t) (ix2 r k) : EReal)
      * k0_pay7 (iblk m c 0 t) (iblk m c 1 t) (iblk m c 2 t) (ix2 r k)) (Ideal.ofBits .f32 0x44800000#32) = share (xA m c) (gA m c) (tA m c) ⟨512 * t.val + r.val, by have := t_lt t; omega⟩ :=
  congrArg (fun a : EReal => Ideal.div a (Ideal.ofBits .f32 0x44800000#32))
    (Finset.sum_congr rfl fun k _ => congrArg₂ (fun a b : EReal => a * b) (err_at m c t r k) (err_at m c t r k))

theorem out3_at (i : S512x1024.Idx) : (outsAt0 m c t.val t.isLt).1 i
    = k0_pay2 (k0_pay5 (iblk m c 0 t)) (k0_pay6 (iblk m c 0 t)) (iblk m c 1 t) (k0_pay9 (iblk m c 0 t) (iblk m c 1 t) (iblk m c 2 t)) i := by
  by_cases h : t.val % 8 = 0
  · rw [outsAt0_A m c t h]; frame_out
  · rw [outsAt0_B m c t h]; frame_out
theorem block3_at (r : Fin 512) (x : Fin 1024) :
    (outsAt0 m c t.val t.isLt).1 (ix2 r x) = G3 (xA m c) (gA m c) (tA m c) (ix2 ⟨512 * t.val + r.val, by have := t_lt t; omega⟩ x) := by
  refine (out3_at m c t _).trans ((pay2_at _ _ _ _ r x).trans (Eq.trans ?_ (zero_add _).symm))
  exact congrArg₂ (fun a b : EReal => a * b) (root_at m c t r 0)
    (congrArg₂ (fun a b : EReal => a - b) (congrArg₂ (fun a b : EReal => a * b) (slope_at m c t r x) (blk1_v m c t 0 x))
      (congrArg₂ (fun a b : EReal => a * b) (unit_at m c t r x) (congrArg (fun a : EReal => Ideal.div a (Ideal.ofBits .f32 0x44800000#32))
        (Finset.sum_congr rfl fun k _ => congrArg₂ (fun a b : EReal => a * b) (congrArg₂ (fun a b : EReal => a * b) (slope_at m c t r k) (blk1_v m c t 0 k)) (unit_at m c t r k)))))

/-- What a point adds to the loss, and to the gradient of the scale. -/
def lossTerm (t : Fin cfg0.N) (_ : S1x128.Idx) : EReal := Ideal.ofBits .f32 0x3F000000#32 * ∑ s : Fin 512, share (xA m c) (gA m c) (tA m c) ⟨512 * t.val + s.val, by have := t_lt t; omega⟩
def term (t : Fin cfg0.N) (i : S1x1024.Idx) : EReal := ∑ s : Fin 512, slope (xA m c) (gA m c) (tA m c) ⟨512 * t.val + s.val, by have := t_lt t; omega⟩ (i 1) * unit (xA m c) ⟨512 * t.val + s.val, by have := t_lt t; omega⟩ (i 1)
theorem lossAdd_at (v : Vec Ideal S1x128 .f32) (i : S1x128.Idx) : k0_pay8 (iblk m c 0 t) (iblk m c 1 t) (iblk m c 2 t) v i = (v i + lossTerm m c t i : EReal) := by
  idx_vars i
  rename' i0 => r, i1 => x
  refine (pay8_at _ _ _ _ r x).trans ?_
  exact congrArg (fun b : EReal => v (ix2 r x) + Ideal.ofBits .f32 0x3F000000#32 * b) (Finset.sum_congr rfl fun k _ => share_at m c t k)
theorem add_at (v : Vec Ideal S1x1024 .f32) (i : S1x1024.Idx) :
    k0_pay1 (k0_pay6 (iblk m c 0 t)) (k0_pay9 (iblk m c 0 t) (iblk m c 1 t) (iblk m c 2 t)) v i = (v i + term m c t i : EReal) := by
  idx_vars i
  rename' i0 => r, i1 => x
  refine (pay1_at _ _ _ r x).trans ?_
  exact congrArg (fun b : EReal => v (ix2 r x) + b) (Finset.sum_congr rfl fun k _ => congrArg₂ (fun a b : EReal => a * b) (slope_at m c t k x) (unit_at m c t k x))
theorem lossZero_at (i : S1x128.Idx) : k0_pay3 (F := Ideal) i = (0 : EReal) := by
  idx_vars i
  exact pay3_at _ _
theorem zero_at (i : S1x1024.Idx) : k0_pay4 (F := Ideal) i = (0 : EReal) := by
  idx_vars i
  exact pay4_at _ _
theorem block4_at (h : t.val % 8 = 7) (i : S1x128.Idx) : (outsAt0 m c t.val t.isLt).2.1 i = G4 (xA m c) (gA m c) (tA m c) i := by
  have ht := t_lt t
  rw [eq_sum_fin_of_reset_step_apply_of_flush (M := EReal) (fun n h => (outsAt0 m c n h).2.1) 8 (fun _ => 0) (lossTerm m c)
    (fun t h j => by rw [outsAt0_A m c t h]; frame_out; rw [lossAdd_at, lossZero_at])
    (fun t h j => by rw [outsAt0_B m c t h]; frame_out; rw [lossAdd_at]) t h i, zero_add]
  unfold G4 lossTerm
  rw [kHalf, ← Cert.Norm.mul_sum _ _ _ (by norm_num : (0 : ℝ) ≤ 1 / 2)]
  refine congrArg (fun q : EReal => ((1 / 2 : ℝ) : EReal) * q) ?_
  refine Eq.trans (Finset.sum_congr rfl fun s _ => ?_) (Cert.Sums.blocks 8 512 fun k : Fin 4096 => share (xA m c) (gA m c) (tA m c) k).symm
  refine Finset.sum_congr rfl fun k _ => ?_
  exact congrArg (share (xA m c) (gA m c) (tA m c)) (Fin.ext (by show 512 * (8 * (t.val / 8) + s.val) + k.val = s.val * 512 + k.val; omega))
theorem block5_at (h : t.val % 8 = 7) (i : S1x1024.Idx) : (outsAt0 m c t.val t.isLt).2.2 i = G5 (xA m c) (gA m c) (tA m c) i := by
  have ht := t_lt t
  rw [eq_sum_fin_of_reset_step_apply_of_flush (M := EReal) (fun n h => (outsAt0 m c n h).2.2) 8 (fun _ => 0) (term m c)
    (fun t h j => by rw [outsAt0_A m c t h]; frame_out; rw [add_at, zero_at])
    (fun t h j => by rw [outsAt0_B m c t h]; frame_out; rw [add_at]) t h i, zero_add]
  refine Eq.trans (Finset.sum_congr rfl fun s _ => ?_) (Cert.Sums.blocks 8 512 fun k : Fin 4096 => (slope (xA m c) (gA m c) (tA m c) k (i 1) * unit (xA m c) k (i 1) : EReal)).symm
  refine Finset.sum_congr rfl fun k _ => ?_
  have e : (⟨512 * (8 * (t.val / 8) + s.val) + k.val, by omega⟩ : Fin 4096) = ⟨s.val * 512 + k.val, by omega⟩ := Fin.ext (by show 512 * (8 * (t.val / 8) + s.val) + k.val = s.val * 512 + k.val; omega)
  exact congrArg (fun q : Fin 4096 => (slope (xA m c) (gA m c) (tA m c) q (i 1) * unit (xA m c) q (i 1) : EReal)) e

theorem arr3 : (dats m 0 c).arrAt 3 cfg0.N = G3 (xA m c) (gA m c) (tA m c) := by
  refine (dats m 0 c).arrAt_eq_of_covers 3 _ (by decide +kernel) fun t hf y => ?_
  obtain ⟨-, -, -, ⟨h0, h1⟩, -⟩ := idx_facts t
  blk_simp
  rw [after0_3]
  have H : ∀ y : S512x1024.Idx, (outsAt0 m c t.val t.isLt).1 y = G3 (xA m c) (gA m c) (tA m c) ((win0_3.rect t).emb y) := by
    intro y
    idx_vars y
    rename' y0 => r, y1 => x
    rw [block3_at m c t]
    refine congrArg _ (funext fun i => Fin.ext ?_)
    match i with
    | ⟨0, _⟩ => show 512 * t.val + r.val = win0_3.index t 0 * 512 + 1 * r.val; rw [h0]; omega
    | ⟨1, _⟩ => show x.val = win0_3.index t 1 * 1024 + 1 * x.val; rw [h1]; omega
  exact H y
theorem arr4 : (dats m 0 c).arrAt 4 cfg0.N = G4 (xA m c) (gA m c) (tA m c) := by
  refine (dats m 0 c).arrAt_eq_of_covers 4 _ (by decide +kernel) fun t hf y => ?_
  blk_simp
  rw [after0_4]
  have H : ∀ y : S1x128.Idx, (outsAt0 m c t.val t.isLt).2.1 y = G4 (xA m c) (gA m c) (tA m c) ((win0_4.rect t).emb y) := by
    intro y
    rw [block4_at m c t ((flush0_4 t).mp hf)]
    rfl
  exact H y
theorem arr5 : (dats m 0 c).arrAt 5 cfg0.N = G5 (xA m c) (gA m c) (tA m c) := by
  refine (dats m 0 c).arrAt_eq_of_covers 5 _ (by decide +kernel) fun t hf y => ?_
  obtain ⟨-, -, -, -, -, ⟨h0, h1⟩⟩ := idx_facts t
  blk_simp
  rw [after0_5]
  have H : ∀ y : S1x1024.Idx, (outsAt0 m c t.val t.isLt).2.2 y = G5 (xA m c) (gA m c) (tA m c) ((win0_5.rect t).emb y) := by
    intro y
    idx_vars y
    rename' y0 => r, y1 => x
    rw [block5_at m c t ((flush0_5 t).mp hf)]
    refine congrArg _ (funext fun i => Fin.ext ?_)
    match i with
    | ⟨0, _⟩ => show r.val = win0_5.index t 0 * 1 + 1 * r.val; rw [h0]; omega
    | ⟨1, _⟩ => show x.val = win0_5.index t 1 * 1024 + 1 * x.val; rw [h1]; omega
  exact H y
end
end Cert.Kernel7Ideal.LossHead
namespace Cert.Proof
open Idealize.ShloMosaic Idealize.ShloMosaic.TcCoe Idealize.SL.Sem
section
variable (x : FVec Ideal Cert.Reference7Ideal.S4096x1024 .f32) (g : FVec Ideal Cert.Reference7Ideal.S1x1024 .f32) (z : FVec Ideal Cert.Reference7Ideal.S4096x1024 .f32)
open Cert.Reference7Ideal.Read
open Cert.Kernel7Ideal.LossHead (unit err slope share slope_eq G3 G4 G5)
theorem reference7_6 (r : Fin 4096) (q : Fin 1) : val_main_v6 (F := Ideal) x (ix2 r q) = Cert.Norm.mean fun k : Fin 1024 => x (ix2 r k) := by
  pointwise [val_main_v6, val_main_v5, val_main_v4, val_main_v3, val_main_v2, val_main_v1, val_main_v0, val_main_cst, val_main_cst_0, val_main_cst_1, Cert.Norm.mean]
theorem reference7_7 (r : Fin 4096) (q : Fin 1) : val_main_v7 (F := Ideal) x (ix2 r q) = Cert.Norm.root fun k : Fin 1024 => x (ix2 r k) := by
  unfold Cert.Norm.root
  rw [← reference7_6 x r q]
  pointwise [val_main_v7]
theorem reference7_12' (r : Fin 4096) (a : Fin 1024) : val_main_v12 (F := Ideal) x (ix2 r a) = (x (ix2 r a) * (val_main_v7 (F := Ideal) x (ix2 r 0) : EReal) : EReal) := by
  pointwise [val_main_v12, val_main_v11]
theorem reference7_12 (r : Fin 4096) (a : Fin 1024) : val_main_v12 (F := Ideal) x (ix2 r a) = unit x r a := by
  rw [reference7_12', reference7_7]
  rfl
theorem reference7_15' (r : Fin 4096) (a : Fin 1024) : val_main_v15 (F := Ideal) x g z (ix2 r a) = ((val_main_v12 (F := Ideal) x (ix2 r a) : EReal) * g (ix2 0 a) - z (ix2 r a) : EReal) := by
  pointwise [val_main_v15, val_main_v14, val_main_v13]
theorem reference7_15 (r : Fin 4096) (a : Fin 1024) : val_main_v15 (F := Ideal) x g z (ix2 r a) = err x g z r a := by
  rw [reference7_15', reference7_12]
  rfl
theorem reference7_29' (r : Fin 4096) (a : Fin 1024) : val_main_v29 (F := Ideal) x g z (ix2 r a)
    = (Ideal.div (Ideal.ofBits .f32 0x3F000000#32 * Ideal.ofBits .f32 0x3F800000#32) (Ideal.ofBits .f32 0x44800000#32)
      * (Ideal.ofBits .f32 0x40000000#32 * (val_main_v15 (F := Ideal) x g z (ix2 r a) : EReal)) : EReal) := by
  pointwise [val_main_v29, val_main_v28, val_main_v27, val_main_v26, val_main_v25, val_main_v24, val_main_v18, val_main_v17, val_main_cst_3, val_main_cst_8, val_main_cst_9, val_main_cst_10]
theorem reference7_29 (r : Fin 4096) (a : Fin 1024) : val_main_v29 (F := Ideal) x g z (ix2 r a) = slope x g z r a := by
  rw [reference7_29', slope_eq, reference7_15]
  rfl
theorem reference7_21' (r : Fin 4096) : val_main_v21 (F := Ideal) x g z (ix1 r)
    = Ideal.div (∑ k : Fin 1024, (val_main_v15 (F := Ideal) x g z (ix2 r k) : EReal) * (val_main_v15 (F := Ideal) x g z (ix2 r k) : EReal)) (Ideal.ofBits .f32 0x44800000#32) := by
  pointwise [val_main_v21, val_main_v20, val_main_v19, val_main_v16, val_main_cst_4, val_main_cst_5]
theorem reference7_21 (r : Fin 4096) : val_main_v21 (F := Ideal) x g z (ix1 r) = share x g z r := by
  rw [reference7_21']
  exact congrArg (fun q : EReal => Ideal.div q (Ideal.ofBits .f32 0x44800000#32)) (Finset.sum_congr rfl fun k _ => congrArg₂ (fun a b : EReal => a * b) (reference7_15 x g z r k) (reference7_15 x g z r k))
theorem reference7_loss' (r : Fin 1) (a : Fin 128) : val_main_v49 (F := Ideal) x g z (ix2 r a)
    = (Ideal.ofBits .f32 0x3F000000#32 * ∑ k : Fin 4096, (val_main_v21 (F := Ideal) x g z (ix1 k) : EReal) : EReal) := by
  pointwise [val_main_v49, val_main_v23, val_main_v22, val_main_cst_6, val_main_cst_7]
theorem reference7_dg' (r : Fin 1) (a : Fin 1024) : val_main_v32 (F := Ideal) x g z (ix2 r a)
    = (∑ k : Fin 4096, (val_main_v12 (F := Ideal) x (ix2 k a) : EReal) * (val_main_v29 (F := Ideal) x g z (ix2 k a) : EReal) : EReal) := by
  pointwise [val_main_v32, val_main_v31, val_main_v30, val_main_cst_11]
theorem reference7_34' (r : Fin 4096) (a : Fin 1024) : val_main_v34 (F := Ideal) x g z (ix2 r a) = ((val_main_v29 (F := Ideal) x g z (ix2 r a) : EReal) * g (ix2 0 a) : EReal) := by
  pointwise [val_main_v34, val_main_v33]
theorem reference7_34 (r : Fin 4096) (a : Fin 1024) : val_main_v34 (F := Ideal) x g z (ix2 r a) = (slope x g z r a * g (ix2 0 a) : EReal) := by
  rw [reference7_34', reference7_29]
theorem reference7_37 (r : Fin 4096) (q : Fin 1) : val_main_v37 (F := Ideal) x g z (ix2 r q) = (∑ k : Fin 1024, x (ix2 r k) * (val_main_v34 (F := Ideal) x g z (ix2 r k) : EReal) : EReal) := by
  pointwise [val_main_v37, val_main_v36, val_main_v35, val_main_cst_12]
theorem reference7_44 (r : Fin 4096) (a : Fin 1024) : val_main_v44 (F := Ideal) x g z (ix2 r a)
    = Ideal.div ((val_main_v37 (F := Ideal) x g z (ix2 r 0) : EReal) * (Ideal.ofBits .f32 0xBF000000#32 * Ideal.div (val_main_v7 (F := Ideal) x (ix2 r 0)) (val_main_v6 (F := Ideal) x (ix2 r 0))))
        (Ideal.ofBits .f32 0x44800000#32) := by
  pointwise [val_main_v44, val_main_v43, val_main_v42, val_main_v41, val_main_v40, val_main_v10, val_main_v9, val_main_v8, val_main_cst_2, val_main_cst_13, val_main_cst_14]
  exact Fin.sum_univ_one _
theorem reference7_dx (r : Fin 4096) (a : Fin 1024) : val_main_v48 (F := Ideal) x g z (ix2 r a)
    = (((val_main_v34 (F := Ideal) x g z (ix2 r a) : EReal) * (val_main_v7 (F := Ideal) x (ix2 r 0) : EReal)
      + x (ix2 r a) * (val_main_v44 (F := Ideal) x g z (ix2 r a) : EReal)) + (val_main_v44 (F := Ideal) x g z (ix2 r a) : EReal) * x (ix2 r a) : EReal) := by
  pointwise [val_main_v48, val_main_v47, val_main_v46, val_main_v45, val_main_v39, val_main_v38]
theorem reference7_through (r : Fin 4096) (a : Fin 1024) : val_main_v44 (F := Ideal) x g z (ix2 r a)
    = Cert.Norm.through (fun k : Fin 1024 => x (ix2 r k)) (fun k : Fin 1024 => slope x g z r k * g (ix2 0 k)) := by
  rw [reference7_44, reference7_37, reference7_7, reference7_6]
  unfold Cert.Norm.through
  refine congrArg (fun q : EReal => Ideal.div (q * _) _) (Finset.sum_congr rfl fun k _ => ?_)
  rw [reference7_34]
theorem reference7_back (r : Fin 4096) (a : Fin 1024) : val_main_v48 (F := Ideal) x g z (ix2 r a) = G3 x g z (ix2 r a) := by
  have e : G3 x g z (ix2 r a) = Cert.Norm.grad (fun k : Fin 1024 => x (ix2 r k)) (fun k : Fin 1024 => slope x g z r k * g (ix2 0 k)) 0 a := rfl
  rw [e, reference7_dx, reference7_through, reference7_34, reference7_7, Cert.Norm.grad_eq_back]
  unfold Cert.Norm.back
  rw [zero_add]
theorem reference7_loss (r : Fin 1) (a : Fin 128) : val_main_v49 (F := Ideal) x g z (ix2 r a) = G4 x g z (ix2 r a) := by
  rw [reference7_loss']
  exact congrArg (fun q : EReal => Ideal.ofBits .f32 0x3F000000#32 * q) (Finset.sum_congr rfl fun k _ => reference7_21 x g z k)
theorem reference7_dg (r : Fin 1) (a : Fin 1024) : val_main_v32 (F := Ideal) x g z (ix2 r a) = G5 x g z (ix2 r a) := by
  rw [reference7_dg']
  exact Finset.sum_congr rfl fun k _ => (congrArg₂ (fun a b : EReal => a * b) (reference7_12 x k a) (reference7_29 x g z k a)).trans (mul_comm (G := EReal) _ _)
end

open Cert.Kernel7Ideal.LossHead (xA gA tA G3 G4 G5 arr3 arr4 arr5) in
theorem algebraic7 : Cert.algebraic_Kernel7Ideal_Reference7Ideal := by
  intro m g m' g' _ ha
  refine ⟨fun c => G3 (xA m c) (gA m c) (tA m c), fun c => G4 (xA m c) (gA m c) (tA m c), fun c => G5 (xA m c) (gA m c) (tA m c),
    (θ_run Cert.Kernel7Ideal.defs _ _).mono (fun r h c => ⟨(h c).1.trans (arr3 m c), (h c).2.1.trans (arr4 m c), (h c).2.2.1.trans (arr5 m c), (h c).2.2.2⟩) (Cert.Kernel7Ideal.Value.run_blocks (F := Ideal) m g), ?_⟩
  refine (θ_run Cert.Reference7Ideal.defs _ _).mono (fun r h c => ?_) (Cert.Reference7Ideal.Value.run (F := Ideal) m' g')
  obtain ⟨h0, h1, h2, hr⟩ := h c
  obtain ⟨a0, a1, a2⟩ := ha c
  refine ⟨h0.trans ?_, h1.trans ?_, h2.trans ?_, hr⟩
  · rw [Cert.Reference7Ideal.Read.val_main_v48_eq, a0, a1, a2]
    have H : ∀ y : Cert.Kernel7Ideal.S4096x1024.Idx, Cert.Reference7Ideal.Read.val_main_v48 (F := Ideal) (xA m c) (gA m c) (tA m c) y = G3 (xA m c) (gA m c) (tA m c) y := by
      intro y
      idx_vars y
      exact reference7_back _ _ _ _ _
    exact funext H
  · rw [Cert.Reference7Ideal.Read.val_main_v49_eq, a0, a1, a2]
    have H : ∀ y : Cert.Kernel7Ideal.S1x128.Idx, Cert.Reference7Ideal.Read.val_main_v49 (F := Ideal) (xA m c) (gA m c) (tA m c) y = G4 (xA m c) (gA m c) (tA m c) y := by
      intro y
      idx_vars y
      exact reference7_loss _ _ _ _ _
    exact funext H
  · rw [Cert.Reference7Ideal.Read.val_main_v32_eq, a0, a1, a2]
    have H : ∀ y : Cert.Kernel7Ideal.S1x1024.Idx, Cert.Reference7Ideal.Read.val_main_v32 (F := Ideal) (xA m c) (gA m c) (tA m c) y = G5 (xA m c) (gA m c) (tA m c) y := by
      intro y
      idx_vars y
      exact reference7_dg _ _ _ _ _
    exact funext H

end Cert.Proof
end
-- ==== Proof.AdamW.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry
public import Idealize.ShloMosaic.Lib.Pipeline.ValueKit.Acc
public import Idealize.ShloMosaic.Lib.Pointwise
public import Idealize.ShloMosaic.Lib.Pointwise.IndexBridge
public import Idealize.ShloMosaic.Lib.StableHlo.ReadAt
public import Idealize.ShloMosaic.Lib.StableHlo.RunRead

/-! The optimizer's step of the two large weights: the summed gradient, the step, and the two moments. -/

@[expose] public section

set_option maxRecDepth 16384

noncomputable section
namespace Cert.Kernel9Ideal.AdamW

open Idealize.ShloMosaic Idealize.ShloMosaic.TcCoe Idealize.ShloMosaic.StableHlo Idealize.ShloMosaic.Pipeline Idealize.SL.Sem
open Cert.Kernel9Ideal.Gen

/-- The two moments after the step, and the step, of one entry. -/
def moment (v g : EReal) : EReal := Ideal.ofBits .f32 0x3F666666#32 * v + Ideal.ofBits .f32 0x3DCCCCCD#32 * g
def square (v g : EReal) : EReal := Ideal.ofBits .f32 0x3F7FBE77#32 * v + Ideal.ofBits .f32 0x3A83126F#32 * (g * g)
def step (w m v g : EReal) : EReal := Ideal.ofBits .f32 0xBA83126F#32
  * (Ideal.div (Ideal.div (moment m g) (Ideal.ofBits .f32 0x3F26BD02#32)) (Ideal.sqrt (Ideal.div (square v g) (Ideal.ofBits .f32 0x3C231ACC#32)) + Ideal.ofBits .f32 0x322BCC77#32)
    + Ideal.ofBits .f32 0x3C23D70A#32 * w)

section
variable (m : (ℓ : Loc nD τ sig) → Buf (Elt Ideal) ℓ) (c : Dev nD)
abbrev wA : FVec Ideal S2x1024x962 .f32 := m ((c : Thread nD τ).loc main_arg0)
abbrev mA : FVec Ideal S2x1024x962 .f32 := m ((c : Thread nD τ).loc main_arg1)
abbrev vA : FVec Ideal S2x1024x962 .f32 := m ((c : Thread nD τ).loc main_arg2)
abbrev aA : FVec Ideal S962x2x1024 .f32 := m ((c : Thread nD τ).loc main_arg3)
abbrev bA : FVec Ideal S962x2x1024 .f32 := m ((c : Thread nD τ).loc main_arg4)
def turn (w : FVec Ideal S2x1024x962 .f32) : FVec Ideal S962x2x1024 .f32 := transpose S962x2x1024 [2, 0, 1] w transposes_S2x1024x962_S962x2x1024_2_0_1
theorem V0 : V m c main_v0 = turn (wA m c) := by after_reads_simp; rfl
theorem V1 : V m c main_v1 = turn (mA m c) := by after_reads_simp; rfl
theorem V2 : V m c main_v2 = turn (vA m c) := by after_reads_simp; rfl

theorem idx_facts : ∀ t : Fin cfg0.N, (win0_0.index t = win0_5.index t ∧ win0_1.index t = win0_5.index t ∧ win0_2.index t = win0_5.index t ∧ win0_3.index t = win0_5.index t ∧ win0_4.index t = win0_5.index t)
    ∧ (win0_6.index t = win0_5.index t ∧ win0_7.index t = win0_5.index t ∧ win0_8.index t = win0_5.index t) :=
  (by decide +kernel : ∀ t : Fin grid0.N, _)
variable (t : Fin cfg0.N) (y : S74x2x1024.Idx)
theorem blk0_v : (iblk m c 0 t : Vec Ideal S74x2x1024 .f32) y = (turn (wA m c)) ((win0_5.rect t).emb y) := by
  obtain ⟨⟨h, -⟩, -⟩ := idx_facts t
  refine Eq.trans ?_ (congrFun (V0 m c) _)
  unfold iblk
  show (V m c main_v0 : Vec Ideal S962x2x1024 .f32) ((win0_0.rect t).emb y) = _
  refine congrArg _ (funext fun i => Fin.ext ?_)
  match i with
  | ⟨0, _⟩ => show win0_0.index t 0 * 74 + 1 * (y 0).val = win0_5.index t 0 * 74 + 1 * (y 0).val; rw [h]
  | ⟨1, _⟩ => show win0_0.index t 1 * 2 + 1 * (y 1).val = win0_5.index t 1 * 2 + 1 * (y 1).val; rw [h]
  | ⟨2, _⟩ => show win0_0.index t 2 * 1024 + 1 * (y 2).val = win0_5.index t 2 * 1024 + 1 * (y 2).val; rw [h]
theorem blk1_v : (iblk m c 1 t : Vec Ideal S74x2x1024 .f32) y = (turn (mA m c)) ((win0_5.rect t).emb y) := by
  obtain ⟨⟨-, h, -⟩, -⟩ := idx_facts t
  refine Eq.trans ?_ (congrFun (V1 m c) _)
  unfold iblk
  show (V m c main_v1 : Vec Ideal S962x2x1024 .f32) ((win0_1.rect t).emb y) = _
  refine congrArg _ (funext fun i => Fin.ext ?_)
  match i with
  | ⟨0, _⟩ => show win0_1.index t 0 * 74 + 1 * (y 0).val = win0_5.index t 0 * 74 + 1 * (y 0).val; rw [h]
  | ⟨1, _⟩ => show win0_1.index t 1 * 2 + 1 * (y 1).val = win0_5.index t 1 * 2 + 1 * (y 1).val; rw [h]
  | ⟨2, _⟩ => show win0_1.index t 2 * 1024 + 1 * (y 2).val = win0_5.index t 2 * 1024 + 1 * (y 2).val; rw [h]
theorem blk2_v : (iblk m c 2 t : Vec Ideal S74x2x1024 .f32) y = (turn (vA m c)) ((win0_5.rect t).emb y) := by
  obtain ⟨⟨-, -, h, -⟩, -⟩ := idx_facts t
  refine Eq.trans ?_ (congrFun (V2 m c) _)
  unfold iblk
  show (V m c main_v2 : Vec Ideal S962x2x1024 .f32) ((win0_2.rect t).emb y) = _
  refine congrArg _ (funext fun i => Fin.ext ?_)
  match i with
  | ⟨0, _⟩ => show win0_2.index t 0 * 74 + 1 * (y 0).val = win0_5.index t 0 * 74 + 1 * (y 0).val; rw [h]
  | ⟨1, _⟩ => show win0_2.index t 1 * 2 + 1 * (y 1).val = win0_5.index t 1 * 2 + 1 * (y 1).val; rw [h]
  | ⟨2, _⟩ => show win0_2.index t 2 * 1024 + 1 * (y 2).val = win0_5.index t 2 * 1024 + 1 * (y 2).val; rw [h]
theorem blk3_v : (iblk m c 3 t : Vec Ideal S74x2x1024 .f32) y = (aA m c) ((win0_5.rect t).emb y) := by
  obtain ⟨⟨-, -, -, h, -⟩, -⟩ := idx_facts t
  refine Eq.trans ?_ (congrFun (V_main_arg3 m c) _)
  unfold iblk
  show (V m c main_arg3 : Vec Ideal S962x2x1024 .f32) ((win0_3.rect t).emb y) = _
  refine congrArg _ (funext fun i => Fin.ext ?_)
  match i with
  | ⟨0, _⟩ => show win0_3.index t 0 * 74 + 1 * (y 0).val = win0_5.index t 0 * 74 + 1 * (y 0).val; rw [h]
  | ⟨1, _⟩ => show win0_3.index t 1 * 2 + 1 * (y 1).val = win0_5.index t 1 * 2 + 1 * (y 1).val; rw [h]
  | ⟨2, _⟩ => show win0_3.index t 2 * 1024 + 1 * (y 2).val = win0_5.index t 2 * 1024 + 1 * (y 2).val; rw [h]
theorem blk4_v : (iblk m c 4 t : Vec Ideal S74x2x1024 .f32) y = (bA m c) ((win0_5.rect t).emb y) := by
  obtain ⟨⟨-, -, -, -, h⟩, -⟩ := idx_facts t
  refine Eq.trans ?_ (congrFun (V_main_arg4 m c) _)
  unfold iblk
  show (V m c main_arg4 : Vec Ideal S962x2x1024 .f32) ((win0_4.rect t).emb y) = _
  refine congrArg _ (funext fun i => Fin.ext ?_)
  match i with
  | ⟨0, _⟩ => show win0_4.index t 0 * 74 + 1 * (y 0).val = win0_5.index t 0 * 74 + 1 * (y 0).val; rw [h]
  | ⟨1, _⟩ => show win0_4.index t 1 * 2 + 1 * (y 1).val = win0_5.index t 1 * 2 + 1 * (y 1).val; rw [h]
  | ⟨2, _⟩ => show win0_4.index t 2 * 1024 + 1 * (y 2).val = win0_5.index t 2 * 1024 + 1 * (y 2).val; rw [h]
end

theorem grad_at (v0 v1 : Vec Ideal S74x2x1024 .f32) (y : S74x2x1024.Idx) : k0_pay2 v0 v1 y = (v0 y + v1 y : EReal) := by
  idx_vars y
  pointwise [k0_pay2]
theorem moment_at (v0 v1 v6 : Vec Ideal S74x2x1024 .f32) (y : S74x2x1024.Idx) : k0_pay3 v0 v1 v6 y = moment (v6 y) (v0 y + v1 y : EReal) := by
  idx_vars y
  pointwise [k0_pay3, k0_pay2, moment]
theorem square_at (v0 v1 v8 : Vec Ideal S74x2x1024 .f32) (y : S74x2x1024.Idx) : k0_pay4 v0 v1 v8 y = square (v8 y) (v0 y + v1 y : EReal) := by
  idx_vars y
  pointwise [k0_pay4, k0_pay2, square]
theorem step_at (v0 v1 v4 v6 v8 : Vec Ideal S74x2x1024 .f32) (y : S74x2x1024.Idx) : k0_pay1 (k0_pay5 v0 v1 v4 v6 v8) y = step (v4 y) (v6 y) (v8 y) (v0 y + v1 y : EReal) := by
  idx_vars y
  pointwise [k0_pay1, k0_pay5, k0_pay3, k0_pay4, k0_pay2, moment, square, step]

section
variable (w v u : FVec Ideal S2x1024x962 .f32) (a b : FVec Ideal S962x2x1024 .f32)
/-- The four results. -/
def G5 : FVec Ideal S962x2x1024 .f32 := fun i => (a i + b i : EReal)
def G6 : FVec Ideal S962x2x1024 .f32 := fun i => step (turn w i) (turn v i) (turn u i) (a i + b i : EReal)
def G7 : FVec Ideal S962x2x1024 .f32 := fun i => moment (turn v i) (a i + b i : EReal)
def G8 : FVec Ideal S962x2x1024 .f32 := fun i => square (turn u i) (a i + b i : EReal)
end

section
variable (m : (ℓ : Loc nD τ sig) → Buf (Elt Ideal) ℓ) (c : Dev nD)
theorem block5_at (t : Fin cfg0.N) (y : S74x2x1024.Idx) : out0_5 (iblk m c 0 t) (iblk m c 1 t) (iblk m c 2 t) (iblk m c 3 t) (iblk m c 4 t) y = (G5 (aA m c) (bA m c)) ((win0_5.rect t).emb y) := by
  have e : out0_5 (iblk m c 0 t) (iblk m c 1 t) (iblk m c 2 t) (iblk m c 3 t) (iblk m c 4 t) y = k0_pay2 (iblk m c 3 t) (iblk m c 4 t) y := by
    unfold out0_5; frame_out
  exact (e.trans (grad_at _ _ y)).trans (congrArg₂ (fun a b : EReal => a + b) (blk3_v m c t y) (blk4_v m c t y))
theorem arr5 : (dats m 0 c).arrAt 5 cfg0.N = G5 (aA m c) (bA m c) := by
  refine (dats m 0 c).arrAt_eq_of_covers 5 _ (by decide +kernel) fun t hf y => ?_
  blk_simp
  rw [after0_5]
  have H : ∀ y : S74x2x1024.Idx, out0_5 (iblk m c 0 t) (iblk m c 1 t) (iblk m c 2 t) (iblk m c 3 t) (iblk m c 4 t) y = (G5 (aA m c) (bA m c)) ((win0_5.rect t).emb y) := by
    intro y
    refine (block5_at m c t y).trans ?_
    rfl
  exact H y
theorem block6_at (t : Fin cfg0.N) (y : S74x2x1024.Idx) : out0_6 (iblk m c 0 t) (iblk m c 1 t) (iblk m c 2 t) (iblk m c 3 t) (iblk m c 4 t) y = (G6 (wA m c) (mA m c) (vA m c) (aA m c) (bA m c)) ((win0_5.rect t).emb y) := by
  have e : out0_6 (iblk m c 0 t) (iblk m c 1 t) (iblk m c 2 t) (iblk m c 3 t) (iblk m c 4 t) y = k0_pay1 (k0_pay5 (iblk m c 3 t) (iblk m c 4 t) (iblk m c 0 t) (iblk m c 1 t) (iblk m c 2 t)) y := by
    unfold out0_6; frame_out
  exact (e.trans (step_at _ _ _ _ _ y)).trans (congr (congr (congrArg₂ step (blk0_v m c t y) (blk1_v m c t y)) (blk2_v m c t y)) (congrArg₂ (fun a b : EReal => a + b) (blk3_v m c t y) (blk4_v m c t y)))
theorem arr6 : (dats m 0 c).arrAt 6 cfg0.N = G6 (wA m c) (mA m c) (vA m c) (aA m c) (bA m c) := by
  refine (dats m 0 c).arrAt_eq_of_covers 6 _ (by decide +kernel) fun t hf y => ?_
  blk_simp
  rw [after0_6]
  have H : ∀ y : S74x2x1024.Idx, out0_6 (iblk m c 0 t) (iblk m c 1 t) (iblk m c 2 t) (iblk m c 3 t) (iblk m c 4 t) y = (G6 (wA m c) (mA m c) (vA m c) (aA m c) (bA m c)) ((win0_6.rect t).emb y) := by
    intro y
    refine (block6_at m c t y).trans ?_
    obtain ⟨-, ⟨h, -, -⟩⟩ := idx_facts t
    refine congrArg _ (funext fun i => Fin.ext ?_)
    match i with
    | ⟨0, _⟩ => show win0_5.index t 0 * 74 + 1 * (y 0).val = win0_6.index t 0 * 74 + 1 * (y 0).val; rw [h]
    | ⟨1, _⟩ => show win0_5.index t 1 * 2 + 1 * (y 1).val = win0_6.index t 1 * 2 + 1 * (y 1).val; rw [h]
    | ⟨2, _⟩ => show win0_5.index t 2 * 1024 + 1 * (y 2).val = win0_6.index t 2 * 1024 + 1 * (y 2).val; rw [h]
  exact H y
theorem block7_at (t : Fin cfg0.N) (y : S74x2x1024.Idx) : out0_7 (iblk m c 0 t) (iblk m c 1 t) (iblk m c 2 t) (iblk m c 3 t) (iblk m c 4 t) y = (G7 (mA m c) (aA m c) (bA m c)) ((win0_5.rect t).emb y) := by
  have e : out0_7 (iblk m c 0 t) (iblk m c 1 t) (iblk m c 2 t) (iblk m c 3 t) (iblk m c 4 t) y = k0_pay3 (iblk m c 3 t) (iblk m c 4 t) (iblk m c 1 t) y := by
    unfold out0_7; frame_out
  exact (e.trans (moment_at _ _ _ y)).trans (congrArg₂ moment (blk1_v m c t y) (congrArg₂ (fun a b : EReal => a + b) (blk3_v m c t y) (blk4_v m c t y)))
theorem arr7 : (dats m 0 c).arrAt 7 cfg0.N = G7 (mA m c) (aA m c) (bA m c) := by
  refine (dats m 0 c).arrAt_eq_of_covers 7 _ (by decide +kernel) fun t hf y => ?_
  blk_simp
  rw [after0_7]
  have H : ∀ y : S74x2x1024.Idx, out0_7 (iblk m c 0 t) (iblk m c 1 t) (iblk m c 2 t) (iblk m c 3 t) (iblk m c 4 t) y = (G7 (mA m c) (aA m c) (bA m c)) ((win0_7.rect t).emb y) := by
    intro y
    refine (block7_at m c t y).trans ?_
    obtain ⟨-, ⟨-, h, -⟩⟩ := idx_facts t
    refine congrArg _ (funext fun i => Fin.ext ?_)
    match i with
    | ⟨0, _⟩ => show win0_5.index t 0 * 74 + 1 * (y 0).val = win0_7.index t 0 * 74 + 1 * (y 0).val; rw [h]
    | ⟨1, _⟩ => show win0_5.index t 1 * 2 + 1 * (y 1).val = win0_7.index t 1 * 2 + 1 * (y 1).val; rw [h]
    | ⟨2, _⟩ => show win0_5.index t 2 * 1024 + 1 * (y 2).val = win0_7.index t 2 * 1024 + 1 * (y 2).val; rw [h]
  exact H y
theorem block8_at (t : Fin cfg0.N) (y : S74x2x1024.Idx) : out0_8 (iblk m c 0 t) (iblk m c 1 t) (iblk m c 2 t) (iblk m c 3 t) (iblk m c 4 t) y = (G8 (vA m c) (aA m c) (bA m c)) ((win0_5.rect t).emb y) := by
  have e : out0_8 (iblk m c 0 t) (iblk m c 1 t) (iblk m c 2 t) (iblk m c 3 t) (iblk m c 4 t) y = k0_pay4 (iblk m c 3 t) (iblk m c 4 t) (iblk m c 2 t) y := by
    unfold out0_8; frame_out
  exact (e.trans (square_at _ _ _ y)).trans (congrArg₂ square (blk2_v m c t y) (congrArg₂ (fun a b : EReal => a + b) (blk3_v m c t y) (blk4_v m c t y)))
theorem arr8 : (dats m 0 c).arrAt 8 cfg0.N = G8 (vA m c) (aA m c) (bA m c) := by
  refine (dats m 0 c).arrAt_eq_of_covers 8 _ (by decide +kernel) fun t hf y => ?_
  blk_simp
  rw [after0_8]
  have H : ∀ y : S74x2x1024.Idx, out0_8 (iblk m c 0 t) (iblk m c 1 t) (iblk m c 2 t) (iblk m c 3 t) (iblk m c 4 t) y = (G8 (vA m c) (aA m c) (bA m c)) ((win0_8.rect t).emb y) := by
    intro y
    refine (block8_at m c t y).trans ?_
    obtain ⟨-, ⟨-, -, h⟩⟩ := idx_facts t
    refine congrArg _ (funext fun i => Fin.ext ?_)
    match i with
    | ⟨0, _⟩ => show win0_5.index t 0 * 74 + 1 * (y 0).val = win0_8.index t 0 * 74 + 1 * (y 0).val; rw [h]
    | ⟨1, _⟩ => show win0_5.index t 1 * 2 + 1 * (y 1).val = win0_8.index t 1 * 2 + 1 * (y 1).val; rw [h]
    | ⟨2, _⟩ => show win0_5.index t 2 * 1024 + 1 * (y 2).val = win0_8.index t 2 * 1024 + 1 * (y 2).val; rw [h]
  exact H y
end
end Cert.Kernel9Ideal.AdamW
namespace Cert.Proof
open Idealize.ShloMosaic Idealize.ShloMosaic.TcCoe Idealize.SL.Sem
section
variable (w v u : FVec Ideal Cert.Reference9Ideal.S2x1024x962 .f32) (a b : FVec Ideal Cert.Reference9Ideal.S962x2x1024 .f32)
open Cert.Reference9Ideal.Read
open Cert.Kernel9Ideal.AdamW (G5 G6 G7 G8 turn moment square step)
theorem reference9_grad (i : Fin 962) (j : Fin 2) (k : Fin 1024) : val_main_v26 (F := Ideal) a b (ix3 i j k) = G5 a b (ix3 i j k) := by
  pointwise [val_main_v26, val_main_v1, val_main_v0, G5]
theorem reference9_moment (i : Fin 962) (j : Fin 2) (k : Fin 1024) : val_main_v28 (F := Ideal) v a b (ix3 i j k) = G7 v a b (ix3 i j k) := by
  pointwise [val_main_v28, val_main_v6, val_main_v5, val_main_v4, val_main_v3, val_main_v2, val_main_v1, val_main_v0, val_main_cst, val_main_cst_0, G7, turn, moment]
theorem reference9_square (i : Fin 962) (j : Fin 2) (k : Fin 1024) : val_main_v29 (F := Ideal) u a b (ix3 i j k) = G8 u a b (ix3 i j k) := by
  pointwise [val_main_v29, val_main_v12, val_main_v11, val_main_v10, val_main_v9, val_main_v8, val_main_v7, val_main_v1, val_main_v0, val_main_cst_1, val_main_cst_2, G8, turn, square]
theorem reference9_step (i : Fin 962) (j : Fin 2) (k : Fin 1024) : val_main_v27 (F := Ideal) w v u a b (ix3 i j k) = G6 w v u a b (ix3 i j k) := by
  pointwise [val_main_v27, val_main_v25, val_main_v24, val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7, G6, turn, moment, square, step]
end

theorem algebraic8 : Cert.algebraic_Kernel8Ideal_Reference8Ideal := by
  intro m g m' g' _ ha
  refine ⟨_, _, _, _, Cert.Kernel8Ideal.Value.run (F := Ideal) m g, ?_⟩
  refine (θ_run Cert.Reference8Ideal.defs _ _).mono (fun r h c => ?_) (Cert.Reference8Ideal.Value.run (F := Ideal) m' g')
  obtain ⟨h0, h1, h2, h3, hr⟩ := h c
  obtain ⟨a0, a1, a2, a3, a4⟩ := ha c
  refine ⟨h0.trans ?_, h1.trans ?_, h2.trans ?_, h3.trans ?_, hr⟩
  · rw [Cert.Reference8Ideal.Read.val_main_v0_eq, a3, a4]; exact funext fun _ => rfl
  · rw [Cert.Reference8Ideal.Read.val_main_v24_eq, a0, a1, a2, a3, a4]; exact funext fun _ => rfl
  · rw [Cert.Reference8Ideal.Read.val_main_v5_eq, a1, a3, a4]; exact funext fun _ => rfl
  · rw [Cert.Reference8Ideal.Read.val_main_v11_eq, a2, a3, a4]; exact funext fun _ => rfl

open Cert.Kernel9Ideal.AdamW in
theorem algebraic9 : Cert.algebraic_Kernel9Ideal_Reference9Ideal := by
  intro m g m' g' _ ha
  refine ⟨fun c => G5 (aA m c) (bA m c), fun c => G6 (wA m c) (mA m c) (vA m c) (aA m c) (bA m c), fun c => G7 (mA m c) (aA m c) (bA m c), fun c => G8 (vA m c) (aA m c) (bA m c),
    (θ_run Cert.Kernel9Ideal.defs _ _).mono (fun r h c => ⟨(h c).1.trans (arr5 m c), (h c).2.1.trans (arr6 m c), (h c).2.2.1.trans (arr7 m c), (h c).2.2.2.1.trans (arr8 m c), (h c).2.2.2.2⟩) (Cert.Kernel9Ideal.Value.run_blocks (F := Ideal) m g), ?_⟩
  refine (θ_run Cert.Reference9Ideal.defs _ _).mono (fun r h c => ?_) (Cert.Reference9Ideal.Value.run (F := Ideal) m' g')
  obtain ⟨h0, h1, h2, h3, hr⟩ := h c
  obtain ⟨a0, a1, a2, a3, a4⟩ := ha c
  refine ⟨h0.trans ?_, h1.trans ?_, h2.trans ?_, h3.trans ?_, hr⟩
  · rw [Cert.Reference9Ideal.Read.val_main_v26_eq, a3, a4]
    have H : ∀ y : Cert.Kernel9Ideal.S962x2x1024.Idx, Cert.Reference9Ideal.Read.val_main_v26 (F := Ideal) (aA m c) (bA m c) y = G5 (aA m c) (bA m c) y := by
      intro y
      idx_vars y
      exact reference9_grad _ _ _ _ _
    exact funext H
  · rw [Cert.Reference9Ideal.Read.val_main_v27_eq, a0, a1, a2, a3, a4]
    have H : ∀ y : Cert.Kernel9Ideal.S962x2x1024.Idx, Cert.Reference9Ideal.Read.val_main_v27 (F := Ideal) (wA m c) (mA m c) (vA m c) (aA m c) (bA m c) y = G6 (wA m c) (mA m c) (vA m c) (aA m c) (bA m c) y := by
      intro y
      idx_vars y
      exact reference9_step _ _ _ _ _ _ _ _
    exact funext H
  · rw [Cert.Reference9Ideal.Read.val_main_v28_eq, a1, a3, a4]
    have H : ∀ y : Cert.Kernel9Ideal.S962x2x1024.Idx, Cert.Reference9Ideal.Read.val_main_v28 (F := Ideal) (mA m c) (aA m c) (bA m c) y = G7 (mA m c) (aA m c) (bA m c) y := by
      intro y
      idx_vars y
      exact reference9_moment _ _ _ _ _ _
    exact funext H
  · rw [Cert.Reference9Ideal.Read.val_main_v29_eq, a2, a3, a4]
    have H : ∀ y : Cert.Kernel9Ideal.S962x2x1024.Idx, Cert.Reference9Ideal.Read.val_main_v29 (F := Ideal) (vA m c) (aA m c) (bA m c) y = G8 (vA m c) (aA m c) (bA m c) y := by
      intro y
      idx_vars y
      exact reference9_square _ _ _ _ _ _
    exact funext H

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Run
public import proofs.«01_k».proof.Proof.KernelFrame
public import proofs.«01_k».proof.Proof.RefFrame
public import proofs.«01_k».proof.Proof.Value
public import proofs.«01_k».proof.Proof.DxIn
public import proofs.«01_k».proof.Proof.DwIn
public import proofs.«01_k».proof.Proof.InProj
public import proofs.«01_k».proof.Proof.OutProj
public import proofs.«01_k».proof.Proof.OutBwd
public import proofs.«01_k».proof.Proof.LossHead
public import proofs.«01_k».proof.Proof.AdamW
public import Idealize.ShloMosaic.Adequacy
public import Idealize.ShloMosaic.Init

@[expose] public section

noncomputable section
namespace Cert.Proof

open Idealize.ShloMosaic Idealize.SL.Sem

theorem frame_kernelIdeal : Cert.quiescent_KernelIdeal := fun m ρ _ => Cert.KernelIdeal.Fox.frame_all m ρ

theorem frame_kernelIdeal_pre : Cert.quiescent_KernelIdeal_pre_finite := fun m ρ _ => Cert.KernelIdeal.Fox.frame_all m ρ

theorem frame_reference2 : Cert.quiescent_Reference2Ideal := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)
theorem frame_reference8 : Cert.quiescent_Reference8Ideal := fun m ρ _ =>
  (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)
theorem frame_reference9 : Cert.quiescent_Reference9Ideal := fun m ρ _ =>
  (θ_run Cert.Reference9Ideal.defs _ _).mono
    (fun r h => ⟨fun c => (h c).2.2.2.2, Idealize.ShloMosaic.sem_eq_zero_of_no_sems (by decide) r.2⟩)
    (Cert.Reference9Ideal.Value.run (F := Ideal) m ρ)

/-- Everything that the statement claims. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts,
  frame_kernel, frame_kernelIdeal, frame_kernelIdeal_pre, frame_reference, frame_reference_pre,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  trivial, algebraic, trivial, algebraic2, trivial, algebraic3, trivial, algebraic4, trivial, algebraic5, trivial, algebraic6,
  trivial, algebraic7, trivial, algebraic8, trivial, algebraic9⟩

end Cert.Proof
end
